-- ==== Defs.lean ====
def Pre_Kernel (m : (ℓ : Loc Cert.Kernel.nD Cert.Kernel.τ Cert.Kernel.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_logits [hPre_finite_logits : Cert.Pre_finite_logits.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_logits.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_logits [hPre_finite_logits : Cert.Pre_finite_logits.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_logits.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_inputs [hPre_finite_inputs : Cert.Pre_finite_inputs.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_inputs.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_inputs [hPre_finite_inputs : Cert.Pre_finite_inputs.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_inputs.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_finite_logits [hKernel2Ideal : Cert.Kernel2Ideal.Facts] [hPre_finite_logits : Cert.Pre_finite_logits.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_logits m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_finite_logits [hReference2Ideal : Cert.Reference2Ideal.Facts] [hPre_finite_logits : Cert.Pre_finite_logits.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_logits m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_finite_inputs [hKernel5Ideal : Cert.Kernel5Ideal.Facts] [hPre_finite_inputs : Cert.Pre_finite_inputs.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_inputs m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_finite_inputs [hReference5Ideal : Cert.Reference5Ideal.Facts] [hPre_finite_inputs : Cert.Pre_finite_inputs.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_inputs m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def preserves_Kernel2_Kernel2Ideal : Prop :=
  True

def algebraic_Kernel2Ideal_Reference2Ideal_pre_finite_logits [hKernel2Ideal : Cert.Kernel2Ideal.Facts] [hReference2Ideal : Cert.Reference2Ideal.Facts] [hPre_finite_logits : Cert.Pre_finite_logits.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_logits m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v148) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v75_1)) (v1 : (c : Dev Cert.Kernel4Ideal.nD) → Buf (Elt Ideal) ((c.tc : Thread Cert.Kernel4Ideal.nD Cert.Kernel4Ideal.τ).loc Cert.Kernel4Ideal.main_v75_2)) (v2 : (c : Dev Cert.Kernel4Ideal.nD) → Buf (Elt Ideal) ((c.tc : Thread Cert.Kernel4Ideal.nD Cert.Kernel4Ideal.τ).loc Cert.Kernel4Ideal.main_v75_9)) (v3 : (c : Dev Cert.Kernel4Ideal.nD) → Buf (Elt Ideal) ((c.tc : Thread Cert.Kernel4Ideal.nD Cert.Kernel4Ideal.τ).loc Cert.Kernel4Ideal.main_v75_10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v75_1) = v0 c
          ∧ r.2.mem ((c.tc : Thread Cert.Kernel4Ideal.nD Cert.Kernel4Ideal.τ).loc Cert.Kernel4Ideal.main_v75_2) = v1 c
          ∧ r.2.mem ((c.tc : Thread Cert.Kernel4Ideal.nD Cert.Kernel4Ideal.τ).loc Cert.Kernel4Ideal.main_v75_9) = v2 c
          ∧ r.2.mem ((c.tc : Thread Cert.Kernel4Ideal.nD Cert.Kernel4Ideal.τ).loc Cert.Kernel4Ideal.main_v75_10) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v92) = v0 c
          ∧ r.2.mem ((c.tc : Thread Cert.Reference4Ideal.nD Cert.Reference4Ideal.τ).loc Cert.Reference4Ideal.main_v93) = v1 c
          ∧ r.2.mem ((c.tc : Thread Cert.Reference4Ideal.nD Cert.Reference4Ideal.τ).loc Cert.Reference4Ideal.main_v94) = v2 c
          ∧ r.2.mem ((c.tc : Thread Cert.Reference4Ideal.nD Cert.Reference4Ideal.τ).loc Cert.Reference4Ideal.main_v95) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal_pre_finite_inputs [hKernel5Ideal : Cert.Kernel5Ideal.Facts] [hReference5Ideal : Cert.Reference5Ideal.Facts] [hPre_finite_inputs : Cert.Pre_finite_inputs.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_inputs m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v75_6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v75_6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v75) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def Claim : Prop :=
  ∃ (hKernel : Cert.Kernel.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_logits : Cert.Pre_finite_logits.Facts) (hPre_finite_inputs : Cert.Pre_finite_inputs.Facts),
    quiescent_Kernel (hKernel := hKernel)
    ∧ quiescent_Kernel2 (hKernel2 := hKernel2)
    ∧ quiescent_Kernel2Ideal (hKernel2Ideal := hKernel2Ideal)
    ∧ quiescent_Kernel2Ideal_pre_finite_logits (hKernel2Ideal := hKernel2Ideal) (hPre_finite_logits := hPre_finite_logits)
    ∧ quiescent_Reference2Ideal (hReference2Ideal := hReference2Ideal)
    ∧ quiescent_Reference2Ideal_pre_finite_logits (hReference2Ideal := hReference2Ideal) (hPre_finite_logits := hPre_finite_logits)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_inputs (hKernel5Ideal := hKernel5Ideal) (hPre_finite_inputs := hPre_finite_inputs)
    ∧ quiescent_Reference5Ideal (hReference5Ideal := hReference5Ideal)
    ∧ quiescent_Reference5Ideal_pre_finite_inputs (hReference5Ideal := hReference5Ideal) (hPre_finite_inputs := hPre_finite_inputs)
    ∧ preserves_Kernel2_Kernel2Ideal
    ∧ algebraic_Kernel2Ideal_Reference2Ideal_pre_finite_logits (hKernel2Ideal := hKernel2Ideal) (hReference2Ideal := hReference2Ideal) (hPre_finite_logits := hPre_finite_logits)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_inputs (hKernel5Ideal := hKernel5Ideal) (hReference5Ideal := hReference5Ideal) (hPre_finite_inputs := hPre_finite_inputs)
-- ==== Pre_finite_inputs.lean ====
abbrev S2176x8x1024 : Shape := ⟨3, ![2176, 8, 1024]⟩
abbrev S130x1024 : Shape := ⟨2, ![130, 1024]⟩
abbrev S1024 : Shape := ⟨1, ![1024]⟩
abbrev S1024x3664 : Shape := ⟨2, ![1024, 3664]⟩
abbrev S128 : Shape := ⟨1, ![128]⟩
abbrev S_ : Shape := ⟨0, ![]⟩
abbrev S17825792 : Shape := ⟨1, ![17825792]⟩
abbrev S133120 : Shape := ⟨1, ![133120]⟩
abbrev S1024x64 : Shape := ⟨2, ![1024, 64]⟩
abbrev S65536 : Shape := ⟨1, ![65536]⟩
abbrev S18158592 : Shape := ⟨1, ![18158592]⟩

class Facts : Prop where
  bcast_S_S2176x8x1024 : S_.BroadcastsInDim S2176x8x1024 (![] : Fin 0 → Fin S2176x8x1024.rank)
  shapeCasts_S2176x8x1024_S17825792 : S2176x8x1024.ShapeCasts S17825792
  bcast_S_S130x1024 : S_.BroadcastsInDim S130x1024 (![] : Fin 0 → Fin S130x1024.rank)
  shapeCasts_S130x1024_S133120 : S130x1024.ShapeCasts S133120
  bcast_S_S1024 : S_.BroadcastsInDim S1024 (![] : Fin 0 → Fin S1024.rank)
  slices_S1024x3664_S1024x64_0_1536 : S1024x3664.Slices ![0, 1536] S1024x64
  bcast_S_S1024x64 : S_.BroadcastsInDim S1024x64 (![] : Fin 0 → Fin S1024x64.rank)
  shapeCasts_S1024x64_S65536 : S1024x64.ShapeCasts S65536
  concatenates_S17825792_S133120_S133120_S1024_S65536_S18158592_d0 : Shape.Concatenates [S17825792, S133120, S133120, S1024, S65536] S18158592 0

variable [Facts]

def fn_part1 {F : FTy → Type} [FloatOps F] (main_arg3 : FVec F S1024 .f32) (main_arg4 : FVec F S1024x3664 .f32) (main_v5 : IVec S17825792 1) (main_v11 : IVec S133120 1) (main_v17 : IVec S133120 1) : IVec S18158592 1 :=
  let main_cst_5 : FVec F S_ .f32 := constant S_ .f32 0xFF800000#32
  let main_v18 : FVec F S1024 .f32 := broadcastInDim S1024 ![] bcast_S_S1024 main_cst_5
  let main_v19 : IVec S1024 1 := cmpf .ogt main_arg3 main_v18
  let main_cst_6 : FVec F S_ .f32 := constant S_ .f32 0x7F800000#32
  let main_v20 : FVec F S1024 .f32 := broadcastInDim S1024 ![] bcast_S_S1024 main_cst_6
  let main_v21 : IVec S1024 1 := cmpf .olt main_arg3 main_v20
  let main_v22 : IVec S1024 1 := andi main_v19 main_v21
  let main_v23 : FVec F S1024x64 .f32 := (extractStridedSlice S1024x64 ![0, 1536] · slices_S1024x3664_S1024x64_0_1536) main_arg4
  let main_cst_7 : FVec F S_ .f32 := constant S_ .f32 0xFF800000#32
  let main_v24 : FVec F S1024x64 .f32 := broadcastInDim S1024x64 ![] bcast_S_S1024x64 main_cst_7
  let main_v25 : IVec S1024x64 1 := cmpf .ogt main_v23 main_v24
  let main_cst_8 : FVec F S_ .f32 := constant S_ .f32 0x7F800000#32
  let main_v26 : FVec F S1024x64 .f32 := broadcastInDim S1024x64 ![] bcast_S_S1024x64 main_cst_8
  let main_v27 : IVec S1024x64 1 := cmpf .olt main_v23 main_v26
  let main_v28 : IVec S1024x64 1 := andi main_v25 main_v27
  let main_v29 : IVec S65536 1 := shapeCast S65536 main_v28 shapeCasts_S1024x64_S65536
  let main_v30 : IVec S18158592 1 := concatenate S18158592 0 [⟨S17825792, main_v5⟩, ⟨S133120, main_v11⟩, ⟨S133120, main_v17⟩, ⟨S1024, main_v22⟩, ⟨S65536, main_v29⟩] concatenates_S17825792_S133120_S133120_S1024_S65536_S18158592_d0
  main_v30

def fn {F : FTy → Type} [FloatOps F] (main_arg0 : FVec F S2176x8x1024 .f32) (main_arg1 : FVec F S130x1024 .f32) (main_arg2 : FVec F S130x1024 .f32) (main_arg3 : FVec F S1024 .f32) (main_arg4 : FVec F S1024x3664 .f32) (main_arg5 : FVec F S128 .f32) (main_arg6 : FVec F S128 .f32) : IVec S18158592 1 :=
  let main_cst : FVec F S_ .f32 := constant S_ .f32 0xFF800000#32
  let main_v0 : FVec F S2176x8x1024 .f32 := broadcastInDim S2176x8x1024 ![] bcast_S_S2176x8x1024 main_cst
  let main_v1 : IVec S2176x8x1024 1 := cmpf .ogt main_arg0 main_v0
  let main_cst_0 : FVec F S_ .f32 := constant S_ .f32 0x7F800000#32
  let main_v2 : FVec F S2176x8x1024 .f32 := broadcastInDim S2176x8x1024 ![] bcast_S_S2176x8x1024 main_cst_0
  let main_v3 : IVec S2176x8x1024 1 := cmpf .olt main_arg0 main_v2
  let main_v4 : IVec S2176x8x1024 1 := andi main_v1 main_v3
  let main_v5 : IVec S17825792 1 := shapeCast S17825792 main_v4 shapeCasts_S2176x8x1024_S17825792
  let main_cst_1 : FVec F S_ .f32 := constant S_ .f32 0xFF800000#32
  let main_v6 : FVec F S130x1024 .f32 := broadcastInDim S130x1024 ![] bcast_S_S130x1024 main_cst_1
  let main_v7 : IVec S130x1024 1 := cmpf .ogt main_arg1 main_v6
  let main_cst_2 : FVec F S_ .f32 := constant S_ .f32 0x7F800000#32
  let main_v8 : FVec F S130x1024 .f32 := broadcastInDim S130x1024 ![] bcast_S_S130x1024 main_cst_2
  let main_v9 : IVec S130x1024 1 := cmpf .olt main_arg1 main_v8
  let main_v10 : IVec S130x1024 1 := andi main_v7 main_v9
  let main_v11 : IVec S133120 1 := shapeCast S133120 main_v10 shapeCasts_S130x1024_S133120
  let main_cst_3 : FVec F S_ .f32 := constant S_ .f32 0xFF800000#32
  let main_v12 : FVec F S130x1024 .f32 := broadcastInDim S130x1024 ![] bcast_S_S130x1024 main_cst_3
  let main_v13 : IVec S130x1024 1 := cmpf .ogt main_arg2 main_v12
  let main_cst_4 : FVec F S_ .f32 := constant S_ .f32 0x7F800000#32
  let main_v14 : FVec F S130x1024 .f32 := broadcastInDim S130x1024 ![] bcast_S_S130x1024 main_cst_4
  let main_v15 : IVec S130x1024 1 := cmpf .olt main_arg2 main_v14
  let main_v16 : IVec S130x1024 1 := andi main_v13 main_v15
  let main_v17 : IVec S133120 1 := shapeCast S133120 main_v16 shapeCasts_S130x1024_S133120
  fn_part1 (F := F) main_arg3 main_arg4 main_v5 main_v11 main_v17
-- ==== Pre_finite_logits.lean ====
abbrev S2176x8x1024 : Shape := ⟨3, ![2176, 8, 1024]⟩
abbrev S17408x1024 : Shape := ⟨2, ![17408, 1024]⟩
abbrev S17408x8 : Shape := ⟨2, ![17408, 8]⟩
abbrev S130x1024 : Shape := ⟨2, ![130, 1024]⟩
abbrev S8x1024x1408 : Shape := ⟨3, ![8, 1024, 1408]⟩
abbrev S8x1408x1024 : Shape := ⟨3, ![8, 1408, 1024]⟩
abbrev S_ : Shape := ⟨0, ![]⟩

class Facts : Prop where
  bcast_S_S17408x8 : S_.BroadcastsInDim S17408x8 (![] : Fin 0 → Fin S17408x8.rank)

variable [Facts]

def fn {F : FTy → Type} [FloatOps F] (main_arg0 : FVec F S2176x8x1024 .f32) (main_arg1 : FVec F S17408x1024 .f32) (main_arg2 : FVec F S17408x8 .f32) (main_arg3 : FVec F S130x1024 .f32) (main_arg4 : FVec F S8x1024x1408 .f32) (main_arg5 : FVec F S8x1024x1408 .f32) (main_arg6 : FVec F S8x1408x1024 .f32) : IVec S17408x8 1 :=
  let main_cst : FVec F S_ .f32 := constant S_ .f32 0xFF800000#32
  let main_v0 : FVec F S17408x8 .f32 := broadcastInDim S17408x8 ![] bcast_S_S17408x8 main_cst
  let main_v1 : IVec S17408x8 1 := cmpf .ogt main_arg2 main_v0
  let main_cst_0 : FVec F S_ .f32 := constant S_ .f32 0x7F800000#32
  let main_v2 : FVec F S17408x8 .f32 := broadcastInDim S17408x8 ![] bcast_S_S17408x8 main_cst_0
  let main_v3 : IVec S17408x8 1 := cmpf .olt main_arg2 main_v2
  let main_v4 : IVec S17408x8 1 := andi main_v1 main_v3
  main_v4
-- ==== Kernel.lean ====
abbrev S8x17408x256 : Shape := ⟨3, ![8, 17408, 256]⟩
abbrev S17408x128 : Shape := ⟨2, ![17408, 128]⟩
abbrev S17408x512 : Shape := ⟨2, ![17408, 512]⟩
abbrev S17408x256 : Shape := ⟨2, ![17408, 256]⟩
abbrev S16384x512 : Shape := ⟨2, ![16384, 512]⟩
abbrev S8x128x256 : Shape := ⟨3, ![8, 128, 256]⟩
abbrev S128x128 : Shape := ⟨2, ![128, 128]⟩
abbrev S128x512 : Shape := ⟨2, ![128, 512]⟩
abbrev S8192x256 : Shape := ⟨2, ![8192, 256]⟩
abbrev S128x8192 : Shape := ⟨2, ![128, 8192]⟩
abbrev S8x128x128 : Shape := ⟨3, ![8, 128, 128]⟩
abbrev S128x1536 : Shape := ⟨2, ![128, 1536]⟩
abbrev S1536x128 : Shape := ⟨2, ![1536, 128]⟩
abbrev S4x256x128 : Shape := ⟨3, ![4, 256, 128]⟩
abbrev S4x256x256 : Shape := ⟨3, ![4, 256, 256]⟩
abbrev S1024x256 : Shape := ⟨2, ![1024, 256]⟩
abbrev S128x8 : Shape := ⟨2, ![128, 8]⟩
abbrev S128x1 : Shape := ⟨2, ![128, 1]⟩
abbrev S1x128x128 : Shape := ⟨3, ![1, 128, 128]⟩
abbrev S512x256 : Shape := ⟨2, ![512, 256]⟩
abbrev S1024x512 : Shape := ⟨2, ![1024, 512]⟩
abbrev S128 : Shape := ⟨1, ![128]⟩
abbrev S1x128 : Shape := ⟨2, ![1, 128]⟩
abbrev S1x1x128 : Shape := ⟨3, ![1, 1, 128]⟩
abbrev S1 : Shape := ⟨1, ![1]⟩
abbrev S1x1x1 : Shape := ⟨3, ![1, 1, 1]⟩
abbrev S8x128 : Shape := ⟨2, ![8, 128]⟩
abbrev S1x128x1 : Shape := ⟨3, ![1, 128, 1]⟩
abbrev S256x128 : Shape := ⟨2, ![256, 128]⟩
abbrev S512x128 : Shape := ⟨2, ![512, 128]⟩
abbrev S256x512 : Shape := ⟨2, ![256, 512]⟩
abbrev S1x256x128 : Shape := ⟨3, ![1, 256, 128]⟩
abbrev S256 : Shape := ⟨1, ![256]⟩
abbrev S256x1 : Shape := ⟨2, ![256, 1]⟩
abbrev S256x256 : Shape := ⟨2, ![256, 256]⟩
abbrev S1x256x256 : Shape := ⟨3, ![1, 256, 256]⟩

abbrev nBuf : Space → Nat
  | .hbm => 7
  | .vmem => 20
  | .smem => 0
  | _ => 0

abbrev bufTy : (tb : Table) → Fin (tcTables nBuf tb) → BufTy
  | .hbm, ⟨0, _⟩ => ⟨S8x17408x256, .bf16⟩
  | .hbm, ⟨1, _⟩ => ⟨S17408x128, .f32⟩
  | .hbm, ⟨2, _⟩ => ⟨S17408x512, .bf16⟩
  | .hbm, ⟨3, _⟩ => ⟨S17408x256, .bf16⟩
  | .hbm, ⟨4, _⟩ => ⟨S17408x256, .bf16⟩
  | .hbm, ⟨5, _⟩ => ⟨S17408x256, .bf16⟩
  | .hbm, ⟨6, _⟩ => ⟨S16384x512, .bf16⟩
  | .local _ .vmem, ⟨0, _⟩ => ⟨S8x128x256, .bf16⟩
  | .local _ .vmem, ⟨1, _⟩ => ⟨S8x128x256, .bf16⟩
  | .local _ .vmem, ⟨2, _⟩ => ⟨S128x128, .f32⟩
  | .local _ .vmem, ⟨3, _⟩ => ⟨S128x128, .f32⟩
  | .local _ .vmem, ⟨4, _⟩ => ⟨S128x512, .bf16⟩
  | .local _ .vmem, ⟨5, _⟩ => ⟨S128x512, .bf16⟩
  | .local _ .vmem, ⟨6, _⟩ => ⟨S8192x256, .bf16⟩
  | .local _ .vmem, ⟨7, _⟩ => ⟨S8192x256, .bf16⟩
  | .local _ .vmem, ⟨8, _⟩ => ⟨S8192x256, .bf16⟩
  | .local _ .vmem, ⟨9, _⟩ => ⟨S8192x256, .bf16⟩
  | .local _ .vmem, ⟨10, _⟩ => ⟨S8192x256, .bf16⟩
  | .local _ .vmem, ⟨11, _⟩ => ⟨S8192x256, .bf16⟩
  | .local _ .vmem, ⟨12, _⟩ => ⟨S128x512, .bf16⟩
  | .local _ .vmem, ⟨13, _⟩ => ⟨S128x512, .bf16⟩
  | .local _ .vmem, ⟨14, _⟩ => ⟨S128x8192, .f32⟩
  | .local _ .vmem, ⟨15, _⟩ => ⟨S8x128x128, .f32⟩
  | .local _ .vmem, ⟨16, _⟩ => ⟨S128x1536, .f32⟩
  | .local _ .vmem, ⟨17, _⟩ => ⟨S1536x128, .f32⟩
  | .local _ .vmem, ⟨18, _⟩ => ⟨S4x256x128, .f32⟩
  | .local _ .vmem, ⟨19, _⟩ => ⟨S4x256x256, .f32⟩
  | _, _ => ⟨S8x17408x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [BitOps F]

abbrev grid0 : Pipeline.Grid := ⟨2, ![2, 64], ![false, false]⟩

@[reducible] def k0_t1_loop (i : grid0.Coords) : Scf.Loop 32 :=
  let c0_i32_32 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v82 : BitVec 32 := Scalar.subi v20 c0_i32_32
  let c1_i32_33 : BitVec 32 := 1#32
  let v84 : BitVec 32 := Scalar.divsi v82 c1_i32_33
  let v85 : BitVec 32 := Scalar.muli v84 c1_i32_33
  let v86 : BitVec 32 := Scalar.addi c0_i32_32 v85
  let c1_i32_34 : BitVec 32 := 1#32
  ⟨c0_i32_32, v86, c1_i32_34⟩
def k0_mult1 (i : grid0.Coords) (k0_t1 : Fin (k0_t1_loop i).trips) : BitVec 32 :=
  let c0_i32_32 : BitVec 32 := 0#32
  let c1_i32_34 : BitVec 32 := 1#32
  let arg15 : BitVec 32 := Scf.iv c0_i32_32 c1_i32_34 k0_t1
  let c512_i32_1181 : BitVec 32 := 512#32
  let v2506 : BitVec 32 := Scalar.muli arg15 c512_i32_1181
  v2506
def k0_off1 (i : grid0.Coords) (k0_t1 : Fin (k0_t1_loop i).trips) : Fin 2 → Nat :=
  let c0_i32_32 : BitVec 32 := 0#32
  let c1_i32_34 : BitVec 32 := 1#32
  let arg15 : BitVec 32 := Scf.iv c0_i32_32 c1_i32_34 k0_t1
  let c512_i32_1181 : BitVec 32 := 512#32
  let v2506 : BitVec 32 := Scalar.muli arg15 c512_i32_1181
  let v2507 : BitVec 32 := v2506
  let v2508 : Index := Scalar.indexCast v2507
  let c0_1182 : Index := 0#32
  ![v2508.toNat, 0]
def k0_off2 (i : grid0.Coords) (k0_t1 : Fin (k0_t1_loop i).trips) (c0_i32_1218 : BitVec 32) : Fin 2 → Nat :=
  let c0_1219 : Index := 0#32
  let c0_i32_32 : BitVec 32 := 0#32
  let c1_i32_34 : BitVec 32 := 1#32
  let arg15 : BitVec 32 := Scf.iv c0_i32_32 c1_i32_34 k0_t1
  let c512_i32_1181 : BitVec 32 := 512#32
  let v2506 : BitVec 32 := Scalar.muli arg15 c512_i32_1181
  let v2507 : BitVec 32 := v2506
  let v2572 : BitVec 32 := Scalar.addi v2507 c0_i32_1218
  let v2573 : Index := Scalar.indexCast v2572
  ![0, v2573.toNat]
@[reducible] def k0_t2_loop (i : grid0.Coords) : Scf.Loop 32 :=
  let c0_i32_32 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v82 : BitVec 32 := Scalar.subi v20 c0_i32_32
  let c1_i32_33 : BitVec 32 := 1#32
  let v84 : BitVec 32 := Scalar.divsi v82 c1_i32_33
  let v85 : BitVec 32 := Scalar.muli v84 c1_i32_33
  let v86 : BitVec 32 := Scalar.addi c0_i32_32 v85
  let v83 : BitVec 32 := Scalar.addi c0_i32_32 v82
  let c1_i32_35 : BitVec 32 := 1#32
  ⟨v86, v83, c1_i32_35⟩
def k0_mult2 (i : grid0.Coords) (k0_t2 : Fin (k0_t2_loop i).trips) : BitVec 32 :=
  let c0_i32_32 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v82 : BitVec 32 := Scalar.subi v20 c0_i32_32
  let c1_i32_33 : BitVec 32 := 1#32
  let v84 : BitVec 32 := Scalar.divsi v82 c1_i32_33
  let v85 : BitVec 32 := Scalar.muli v84 c1_i32_33
  let v86 : BitVec 32 := Scalar.addi c0_i32_32 v85
  let c1_i32_35 : BitVec 32 := 1#32
  let arg15 : BitVec 32 := Scf.iv v86 c1_i32_35 k0_t2
  let c512_i32_1181 : BitVec 32 := 512#32
  let v2506 : BitVec 32 := Scalar.muli arg15 c512_i32_1181
  v2506
def k0_off3 (i : grid0.Coords) (k0_t2 : Fin (k0_t2_loop i).trips) : Fin 2 → Nat :=
  let c0_i32_32 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v82 : BitVec 32 := Scalar.subi v20 c0_i32_32
  let c1_i32_33 : BitVec 32 := 1#32
  let v84 : BitVec 32 := Scalar.divsi v82 c1_i32_33
  let v85 : BitVec 32 := Scalar.muli v84 c1_i32_33
  let v86 : BitVec 32 := Scalar.addi c0_i32_32 v85
  let c1_i32_35 : BitVec 32 := 1#32
  let arg15 : BitVec 32 := Scf.iv v86 c1_i32_35 k0_t2
  let c512_i32_1181 : BitVec 32 := 512#32
  let v2506 : BitVec 32 := Scalar.muli arg15 c512_i32_1181
  let v2507 : BitVec 32 := v2506
  let v2508 : Index := Scalar.indexCast v2507
  let c0_1182 : Index := 0#32
  ![v2508.toNat, 0]
def k0_off4 (i : grid0.Coords) (k0_t2 : Fin (k0_t2_loop i).trips) (c0_i32_1218 : BitVec 32) : Fin 2 → Nat :=
  let c0_1219 : Index := 0#32
  let c0_i32_32 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v82 : BitVec 32 := Scalar.subi v20 c0_i32_32
  let c1_i32_33 : BitVec 32 := 1#32
  let v84 : BitVec 32 := Scalar.divsi v82 c1_i32_33
  let v85 : BitVec 32 := Scalar.muli v84 c1_i32_33
  let v86 : BitVec 32 := Scalar.addi c0_i32_32 v85
  let c1_i32_35 : BitVec 32 := 1#32
  let arg15 : BitVec 32 := Scf.iv v86 c1_i32_35 k0_t2
  let c512_i32_1181 : BitVec 32 := 512#32
  let v2506 : BitVec 32 := Scalar.muli arg15 c512_i32_1181
  let v2507 : BitVec 32 := v2506
  let v2572 : BitVec 32 := Scalar.addi v2507 c0_i32_1218
  let v2573 : Index := Scalar.indexCast v2572
  ![0, v2573.toNat]
@[reducible] def k0_t3_loop (v188 : BitVec 32) : Scf.Loop 32 :=
  let c31_i32 : BitVec 32 := 31#32
  let v189 : BitVec 32 := Scalar.minsi v188 c31_i32
  let c32_i32_91 : BitVec 32 := 32#32
  let v197 : BitVec 32 := Scalar.subi c32_i32_91 v189
  let c1_i32_92 : BitVec 32 := 1#32
  let v199 : BitVec 32 := Scalar.divsi v197 c1_i32_92
  let v200 : BitVec 32 := Scalar.muli v199 c1_i32_92
  let v201 : BitVec 32 := Scalar.addi v189 v200
  let c1_i32_93 : BitVec 32 := 1#32
  ⟨v189, v201, c1_i32_93⟩

@[reducible] def k0_t4_loop (v188 : BitVec 32) : Scf.Loop 32 :=
  let c31_i32 : BitVec 32 := 31#32
  let v189 : BitVec 32 := Scalar.minsi v188 c31_i32
  let c32_i32_91 : BitVec 32 := 32#32
  let v197 : BitVec 32 := Scalar.subi c32_i32_91 v189
  let c1_i32_92 : BitVec 32 := 1#32
  let v199 : BitVec 32 := Scalar.divsi v197 c1_i32_92
  let v200 : BitVec 32 := Scalar.muli v199 c1_i32_92
  let v201 : BitVec 32 := Scalar.addi v189 v200
  let v198 : BitVec 32 := Scalar.addi v189 v197
  let c1_i32_94 : BitVec 32 := 1#32
  ⟨v201, v198, c1_i32_94⟩

def k0_chk1 (v188 : BitVec 32) : Prop :=
  ((k0_t3_loop v188).OK) ∧
  ((k0_t4_loop v188).OK)
theorem k0_t3_ok : ∀ (v188 : BitVec 32) (k0_hw1 : k0_chk1 v188), (k0_t3_loop v188).OK := fun v188 k0_hw1 => k0_hw1.1
theorem k0_t4_ok : ∀ (v188 : BitVec 32) (k0_hw1 : k0_chk1 v188), (k0_t4_loop v188).OK := fun v188 k0_hw1 => k0_hw1.2

@[reducible] def k0_t5_loop : Scf.Loop 32 :=
  let c0_i32_1182 : BitVec 32 := 0#32
  let c32_i32_1183 : BitVec 32 := 32#32
  let v2507 : BitVec 32 := Scalar.addi c0_i32_1182 c32_i32_1183
  let c1_i32_1184 : BitVec 32 := 1#32
  ⟨c0_i32_1182, v2507, c1_i32_1184⟩
@[reducible] def k0_t6_loop (i : grid0.Coords) : Scf.Loop 32 :=
  let c0_i32_1212 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v2570 : BitVec 32 := Scalar.subi v20 c0_i32_1212
  let c1_i32_1213 : BitVec 32 := 1#32
  let v2572 : BitVec 32 := Scalar.divsi v2570 c1_i32_1213
  let v2573 : BitVec 32 := Scalar.muli v2572 c1_i32_1213
  let v2574 : BitVec 32 := Scalar.addi c0_i32_1212 v2573
  let c1_i32_1214 : BitVec 32 := 1#32
  ⟨c0_i32_1212, v2574, c1_i32_1214⟩
def k0_mult3 (i : grid0.Coords) (k0_t6 : Fin (k0_t6_loop i).trips) : BitVec 32 :=
  let c0_i32_1212 : BitVec 32 := 0#32
  let c1_i32_1214 : BitVec 32 := 1#32
  let arg17 : BitVec 32 := Scf.iv c0_i32_1212 c1_i32_1214 k0_t6
  let c512_i32_1218 : BitVec 32 := 512#32
  let v2582 : BitVec 32 := Scalar.muli arg17 c512_i32_1218
  v2582
def k0_off5 (i : grid0.Coords) (k0_t6 : Fin (k0_t6_loop i).trips) (c0_i32_1219 : BitVec 32) : Fin 2 → Nat :=
  let c0_1220 : Index := 0#32
  let c0_i32_1212 : BitVec 32 := 0#32
  let c1_i32_1214 : BitVec 32 := 1#32
  let arg17 : BitVec 32 := Scf.iv c0_i32_1212 c1_i32_1214 k0_t6
  let c512_i32_1218 : BitVec 32 := 512#32
  let v2582 : BitVec 32 := Scalar.muli arg17 c512_i32_1218
  let v2583 : BitVec 32 := v2582
  let v2584 : BitVec 32 := Scalar.addi v2583 c0_i32_1219
  let v2585 : Index := Scalar.indexCast v2584
  ![0, v2585.toNat]
@[reducible] def k0_t7_loop (i : grid0.Coords) : Scf.Loop 32 :=
  let c0_i32_1212 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v2570 : BitVec 32 := Scalar.subi v20 c0_i32_1212
  let c1_i32_1213 : BitVec 32 := 1#32
  let v2572 : BitVec 32 := Scalar.divsi v2570 c1_i32_1213
  let v2573 : BitVec 32 := Scalar.muli v2572 c1_i32_1213
  let v2574 : BitVec 32 := Scalar.addi c0_i32_1212 v2573
  let v2571 : BitVec 32 := Scalar.addi c0_i32_1212 v2570
  let c1_i32_1215 : BitVec 32 := 1#32
  ⟨v2574, v2571, c1_i32_1215⟩
def k0_mult4 (i : grid0.Coords) (k0_t7 : Fin (k0_t7_loop i).trips) : BitVec 32 :=
  let c0_i32_1212 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v2570 : BitVec 32 := Scalar.subi v20 c0_i32_1212
  let c1_i32_1213 : BitVec 32 := 1#32
  let v2572 : BitVec 32 := Scalar.divsi v2570 c1_i32_1213
  let v2573 : BitVec 32 := Scalar.muli v2572 c1_i32_1213
  let v2574 : BitVec 32 := Scalar.addi c0_i32_1212 v2573
  let c1_i32_1215 : BitVec 32 := 1#32
  let arg17 : BitVec 32 := Scf.iv v2574 c1_i32_1215 k0_t7
  let c512_i32_1218 : BitVec 32 := 512#32
  let v2582 : BitVec 32 := Scalar.muli arg17 c512_i32_1218
  v2582
def k0_off6 (i : grid0.Coords) (k0_t7 : Fin (k0_t7_loop i).trips) (c0_i32_1219 : BitVec 32) : Fin 2 → Nat :=
  let c0_1220 : Index := 0#32
  let c0_i32_1212 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v2570 : BitVec 32 := Scalar.subi v20 c0_i32_1212
  let c1_i32_1213 : BitVec 32 := 1#32
  let v2572 : BitVec 32 := Scalar.divsi v2570 c1_i32_1213
  let v2573 : BitVec 32 := Scalar.muli v2572 c1_i32_1213
  let v2574 : BitVec 32 := Scalar.addi c0_i32_1212 v2573
  let c1_i32_1215 : BitVec 32 := 1#32
  let arg17 : BitVec 32 := Scf.iv v2574 c1_i32_1215 k0_t7
  let c512_i32_1218 : BitVec 32 := 512#32
  let v2582 : BitVec 32 := Scalar.muli arg17 c512_i32_1218
  let v2583 : BitVec 32 := v2582
  let v2584 : BitVec 32 := Scalar.addi v2583 c0_i32_1219
  let v2585 : Index := Scalar.indexCast v2584
  ![0, v2585.toNat]
@[reducible] def k0_t8_loop (i : grid0.Coords) : Scf.Loop 32 :=
  let c0_i32_1193 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v2525 : BitVec 32 := Scalar.subi v20 c0_i32_1193
  let c1_i32_1194 : BitVec 32 := 1#32
  let v2527 : BitVec 32 := Scalar.divsi v2525 c1_i32_1194
  let v2528 : BitVec 32 := Scalar.muli v2527 c1_i32_1194
  let v2529 : BitVec 32 := Scalar.addi c0_i32_1193 v2528
  let c1_i32_1195 : BitVec 32 := 1#32
  ⟨c0_i32_1193, v2529, c1_i32_1195⟩
def k0_mult5 (i : grid0.Coords) (k0_t8 : Fin (k0_t8_loop i).trips) : BitVec 32 :=
  let c0_i32_1193 : BitVec 32 := 0#32
  let c1_i32_1195 : BitVec 32 := 1#32
  let arg15 : BitVec 32 := Scf.iv c0_i32_1193 c1_i32_1195 k0_t8
  let c512_i32_1206 : BitVec 32 := 512#32
  let v2555 : BitVec 32 := Scalar.muli arg15 c512_i32_1206
  v2555
def k0_off7 (i : grid0.Coords) (k0_t8 : Fin (k0_t8_loop i).trips) (c0_i32_1207 : BitVec 32) : Fin 2 → Nat :=
  let c0_1208 : Index := 0#32
  let c0_i32_1193 : BitVec 32 := 0#32
  let c1_i32_1195 : BitVec 32 := 1#32
  let arg15 : BitVec 32 := Scf.iv c0_i32_1193 c1_i32_1195 k0_t8
  let c512_i32_1206 : BitVec 32 := 512#32
  let v2555 : BitVec 32 := Scalar.muli arg15 c512_i32_1206
  let v2556 : BitVec 32 := v2555
  let v2557 : BitVec 32 := Scalar.addi v2556 c0_i32_1207
  let v2558 : Index := Scalar.indexCast v2557
  ![0, v2558.toNat]
@[reducible] def k0_t9_loop (i : grid0.Coords) : Scf.Loop 32 :=
  let c0_i32_1193 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v2525 : BitVec 32 := Scalar.subi v20 c0_i32_1193
  let c1_i32_1194 : BitVec 32 := 1#32
  let v2527 : BitVec 32 := Scalar.divsi v2525 c1_i32_1194
  let v2528 : BitVec 32 := Scalar.muli v2527 c1_i32_1194
  let v2529 : BitVec 32 := Scalar.addi c0_i32_1193 v2528
  let v2526 : BitVec 32 := Scalar.addi c0_i32_1193 v2525
  let c1_i32_1196 : BitVec 32 := 1#32
  ⟨v2529, v2526, c1_i32_1196⟩
def k0_mult6 (i : grid0.Coords) (k0_t9 : Fin (k0_t9_loop i).trips) : BitVec 32 :=
  let c0_i32_1193 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v2525 : BitVec 32 := Scalar.subi v20 c0_i32_1193
  let c1_i32_1194 : BitVec 32 := 1#32
  let v2527 : BitVec 32 := Scalar.divsi v2525 c1_i32_1194
  let v2528 : BitVec 32 := Scalar.muli v2527 c1_i32_1194
  let v2529 : BitVec 32 := Scalar.addi c0_i32_1193 v2528
  let c1_i32_1196 : BitVec 32 := 1#32
  let arg15 : BitVec 32 := Scf.iv v2529 c1_i32_1196 k0_t9
  let c512_i32_1206 : BitVec 32 := 512#32
  let v2555 : BitVec 32 := Scalar.muli arg15 c512_i32_1206
  v2555
def k0_off8 (i : grid0.Coords) (k0_t9 : Fin (k0_t9_loop i).trips) (c0_i32_1207 : BitVec 32) : Fin 2 → Nat :=
  let c0_1208 : Index := 0#32
  let c0_i32_1193 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v2525 : BitVec 32 := Scalar.subi v20 c0_i32_1193
  let c1_i32_1194 : BitVec 32 := 1#32
  let v2527 : BitVec 32 := Scalar.divsi v2525 c1_i32_1194
  let v2528 : BitVec 32 := Scalar.muli v2527 c1_i32_1194
  let v2529 : BitVec 32 := Scalar.addi c0_i32_1193 v2528
  let c1_i32_1196 : BitVec 32 := 1#32
  let arg15 : BitVec 32 := Scf.iv v2529 c1_i32_1196 k0_t9
  let c512_i32_1206 : BitVec 32 := 512#32
  let v2555 : BitVec 32 := Scalar.muli arg15 c512_i32_1206
  let v2556 : BitVec 32 := v2555
  let v2557 : BitVec 32 := Scalar.addi v2556 c0_i32_1207
  let v2558 : Index := Scalar.indexCast v2557
  ![0, v2558.toNat]
@[reducible] def k0_t10_loop : Scf.Loop 32 :=
  let c0_i32_1207 : BitVec 32 := 0#32
  let c13_i32 : BitVec 32 := 13#32
  let v2556 : BitVec 32 := Scalar.addi c0_i32_1207 c13_i32
  let c1_i32_1208 : BitVec 32 := 1#32
  ⟨c0_i32_1207, v2556, c1_i32_1208⟩
@[reducible] def k0_t11_loop (i : grid0.Coords) : Scf.Loop 32 :=
  let c0_i32_1217 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v2574 : BitVec 32 := Scalar.subi v20 c0_i32_1217
  let c1_i32_1218 : BitVec 32 := 1#32
  let v2576 : BitVec 32 := Scalar.divsi v2574 c1_i32_1218
  let v2577 : BitVec 32 := Scalar.muli v2576 c1_i32_1218
  let v2578 : BitVec 32 := Scalar.addi c0_i32_1217 v2577
  let c1_i32_1219 : BitVec 32 := 1#32
  ⟨c0_i32_1217, v2578, c1_i32_1219⟩
def k0_mult7 (i : grid0.Coords) (k0_t11 : Fin (k0_t11_loop i).trips) : BitVec 32 :=
  let c0_i32_1217 : BitVec 32 := 0#32
  let c1_i32_1219 : BitVec 32 := 1#32
  let arg17 : BitVec 32 := Scf.iv c0_i32_1217 c1_i32_1219 k0_t11
  let c512_i32_1222 : BitVec 32 := 512#32
  let v2585 : BitVec 32 := Scalar.muli arg17 c512_i32_1222
  v2585
def k0_off9 (i : grid0.Coords) (k0_t11 : Fin (k0_t11_loop i).trips) (c0_i32_1223 : BitVec 32) : Fin 2 → Nat :=
  let c0_1224 : Index := 0#32
  let c0_i32_1217 : BitVec 32 := 0#32
  let c1_i32_1219 : BitVec 32 := 1#32
  let arg17 : BitVec 32 := Scf.iv c0_i32_1217 c1_i32_1219 k0_t11
  let c512_i32_1222 : BitVec 32 := 512#32
  let v2585 : BitVec 32 := Scalar.muli arg17 c512_i32_1222
  let v2586 : BitVec 32 := v2585
  let v2587 : BitVec 32 := Scalar.addi v2586 c0_i32_1223
  let v2588 : Index := Scalar.indexCast v2587
  ![0, v2588.toNat]
@[reducible] def k0_t12_loop (i : grid0.Coords) : Scf.Loop 32 :=
  let c0_i32_1217 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v2574 : BitVec 32 := Scalar.subi v20 c0_i32_1217
  let c1_i32_1218 : BitVec 32 := 1#32
  let v2576 : BitVec 32 := Scalar.divsi v2574 c1_i32_1218
  let v2577 : BitVec 32 := Scalar.muli v2576 c1_i32_1218
  let v2578 : BitVec 32 := Scalar.addi c0_i32_1217 v2577
  let v2575 : BitVec 32 := Scalar.addi c0_i32_1217 v2574
  let c1_i32_1220 : BitVec 32 := 1#32
  ⟨v2578, v2575, c1_i32_1220⟩
def k0_mult8 (i : grid0.Coords) (k0_t12 : Fin (k0_t12_loop i).trips) : BitVec 32 :=
  let c0_i32_1217 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v2574 : BitVec 32 := Scalar.subi v20 c0_i32_1217
  let c1_i32_1218 : BitVec 32 := 1#32
  let v2576 : BitVec 32 := Scalar.divsi v2574 c1_i32_1218
  let v2577 : BitVec 32 := Scalar.muli v2576 c1_i32_1218
  let v2578 : BitVec 32 := Scalar.addi c0_i32_1217 v2577
  let c1_i32_1220 : BitVec 32 := 1#32
  let arg17 : BitVec 32 := Scf.iv v2578 c1_i32_1220 k0_t12
  let c512_i32_1222 : BitVec 32 := 512#32
  let v2585 : BitVec 32 := Scalar.muli arg17 c512_i32_1222
  v2585
def k0_off10 (i : grid0.Coords) (k0_t12 : Fin (k0_t12_loop i).trips) (c0_i32_1223 : BitVec 32) : Fin 2 → Nat :=
  let c0_1224 : Index := 0#32
  let c0_i32_1217 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v2574 : BitVec 32 := Scalar.subi v20 c0_i32_1217
  let c1_i32_1218 : BitVec 32 := 1#32
  let v2576 : BitVec 32 := Scalar.divsi v2574 c1_i32_1218
  let v2577 : BitVec 32 := Scalar.muli v2576 c1_i32_1218
  let v2578 : BitVec 32 := Scalar.addi c0_i32_1217 v2577
  let c1_i32_1220 : BitVec 32 := 1#32
  let arg17 : BitVec 32 := Scf.iv v2578 c1_i32_1220 k0_t12
  let c512_i32_1222 : BitVec 32 := 512#32
  let v2585 : BitVec 32 := Scalar.muli arg17 c512_i32_1222
  let v2586 : BitVec 32 := v2585
  let v2587 : BitVec 32 := Scalar.addi v2586 c0_i32_1223
  let v2588 : Index := Scalar.indexCast v2587
  ![0, v2588.toNat]
@[reducible] def k0_t13_loop (i : grid0.Coords) : Scf.Loop 32 :=
  let c0_i32_1211 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v2562 : BitVec 32 := Scalar.subi v20 c0_i32_1211
  let c1_i32_1212 : BitVec 32 := 1#32
  let v2564 : BitVec 32 := Scalar.divsi v2562 c1_i32_1212
  let v2565 : BitVec 32 := Scalar.muli v2564 c1_i32_1212
  let v2566 : BitVec 32 := Scalar.addi c0_i32_1211 v2565
  let c1_i32_1213 : BitVec 32 := 1#32
  ⟨c0_i32_1211, v2566, c1_i32_1213⟩
def k0_mult9 (i : grid0.Coords) (k0_t13 : Fin (k0_t13_loop i).trips) : BitVec 32 :=
  let c0_i32_1211 : BitVec 32 := 0#32
  let c1_i32_1213 : BitVec 32 := 1#32
  let arg15 : BitVec 32 := Scf.iv c0_i32_1211 c1_i32_1213 k0_t13
  let c512_i32_1215 : BitVec 32 := 512#32
  let v2567 : BitVec 32 := Scalar.muli arg15 c512_i32_1215
  v2567
def k0_off11 (i : grid0.Coords) (k0_t13 : Fin (k0_t13_loop i).trips) (c0_i32_1216 : BitVec 32) : Fin 2 → Nat :=
  let c0_1217 : Index := 0#32
  let c0_i32_1211 : BitVec 32 := 0#32
  let c1_i32_1213 : BitVec 32 := 1#32
  let arg15 : BitVec 32 := Scf.iv c0_i32_1211 c1_i32_1213 k0_t13
  let c512_i32_1215 : BitVec 32 := 512#32
  let v2567 : BitVec 32 := Scalar.muli arg15 c512_i32_1215
  let v2568 : BitVec 32 := v2567
  let v2569 : BitVec 32 := Scalar.addi v2568 c0_i32_1216
  let v2570 : Index := Scalar.indexCast v2569
  ![0, v2570.toNat]
@[reducible] def k0_t14_loop (i : grid0.Coords) : Scf.Loop 32 :=
  let c0_i32_1211 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v2562 : BitVec 32 := Scalar.subi v20 c0_i32_1211
  let c1_i32_1212 : BitVec 32 := 1#32
  let v2564 : BitVec 32 := Scalar.divsi v2562 c1_i32_1212
  let v2565 : BitVec 32 := Scalar.muli v2564 c1_i32_1212
  let v2566 : BitVec 32 := Scalar.addi c0_i32_1211 v2565
  let v2563 : BitVec 32 := Scalar.addi c0_i32_1211 v2562
  let c1_i32_1214 : BitVec 32 := 1#32
  ⟨v2566, v2563, c1_i32_1214⟩
def k0_mult10 (i : grid0.Coords) (k0_t14 : Fin (k0_t14_loop i).trips) : BitVec 32 :=
  let c0_i32_1211 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v2562 : BitVec 32 := Scalar.subi v20 c0_i32_1211
  let c1_i32_1212 : BitVec 32 := 1#32
  let v2564 : BitVec 32 := Scalar.divsi v2562 c1_i32_1212
  let v2565 : BitVec 32 := Scalar.muli v2564 c1_i32_1212
  let v2566 : BitVec 32 := Scalar.addi c0_i32_1211 v2565
  let c1_i32_1214 : BitVec 32 := 1#32
  let arg15 : BitVec 32 := Scf.iv v2566 c1_i32_1214 k0_t14
  let c512_i32_1215 : BitVec 32 := 512#32
  let v2567 : BitVec 32 := Scalar.muli arg15 c512_i32_1215
  v2567
def k0_off12 (i : grid0.Coords) (k0_t14 : Fin (k0_t14_loop i).trips) (c0_i32_1216 : BitVec 32) : Fin 2 → Nat :=
  let c0_1217 : Index := 0#32
  let c0_i32_1211 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v2562 : BitVec 32 := Scalar.subi v20 c0_i32_1211
  let c1_i32_1212 : BitVec 32 := 1#32
  let v2564 : BitVec 32 := Scalar.divsi v2562 c1_i32_1212
  let v2565 : BitVec 32 := Scalar.muli v2564 c1_i32_1212
  let v2566 : BitVec 32 := Scalar.addi c0_i32_1211 v2565
  let c1_i32_1214 : BitVec 32 := 1#32
  let arg15 : BitVec 32 := Scf.iv v2566 c1_i32_1214 k0_t14
  let c512_i32_1215 : BitVec 32 := 512#32
  let v2567 : BitVec 32 := Scalar.muli arg15 c512_i32_1215
  let v2568 : BitVec 32 := v2567
  let v2569 : BitVec 32 := Scalar.addi v2568 c0_i32_1216
  let v2570 : Index := Scalar.indexCast v2569
  ![0, v2570.toNat]
@[reducible] def k0_t15_loop (i : grid0.Coords) : Scf.Loop 32 :=
  let c0_i32_1133 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c2_i32 : BitVec 32 := 2#32
  let v2420 : BitVec 32 := Scalar.addi v20 c2_i32
  let c1_i32_1124 : BitVec 32 := 1#32
  let v2421 : BitVec 32 := Scalar.subi v2420 c1_i32_1124
  let c0_i32_1126 : BitVec 32 := 0#32
  let v2423 : BitVec 1 := Scalar.cmpi .sgt v2421 c0_i32_1126
  let v2424 : BitVec 32 := Scalar.extui v2423
  let c0_i32_1127 : BitVec 32 := 0#32
  let v2425 : BitVec 1 := Scalar.cmpi .slt v2421 c0_i32_1127
  let v2426 : BitVec 32 := Scalar.extui v2425
  let v2427 : BitVec 32 := Scalar.subi v2424 v2426
  let c2_i32_1125 : BitVec 32 := 2#32
  let c0_i32_1128 : BitVec 32 := 0#32
  let v2428 : BitVec 1 := Scalar.cmpi .sgt c2_i32_1125 c0_i32_1128
  let v2429 : BitVec 32 := Scalar.extui v2428
  let c0_i32_1129 : BitVec 32 := 0#32
  let v2430 : BitVec 1 := Scalar.cmpi .slt c2_i32_1125 c0_i32_1129
  let v2431 : BitVec 32 := Scalar.extui v2430
  let v2432 : BitVec 32 := Scalar.subi v2429 v2431
  let v2433 : BitVec 1 := Scalar.cmpi .ne v2427 v2432
  let v2434 : BitVec 32 := Scalar.remsi v2421 c2_i32_1125
  let c0_i32_1130 : BitVec 32 := 0#32
  let v2435 : BitVec 1 := Scalar.cmpi .ne v2434 c0_i32_1130
  let v2436 : BitVec 1 := Scalar.andi v2433 v2435
  let v2422 : BitVec 32 := Scalar.divsi v2421 c2_i32_1125
  let c1_i32_1131 : BitVec 32 := 1#32
  let v2437 : BitVec 32 := Scalar.subi v2422 c1_i32_1131
  let v2438 : BitVec 32 := Scalar.select v2436 v2437 v2422
  let v2439 : BitVec 32 := Scalar.subi v2438 c0_i32_1133
  let c1_i32_1134 : BitVec 32 := 1#32
  let v2441 : BitVec 32 := Scalar.divsi v2439 c1_i32_1134
  let v2442 : BitVec 32 := Scalar.muli v2441 c1_i32_1134
  let v2443 : BitVec 32 := Scalar.addi c0_i32_1133 v2442
  let c1_i32_1135 : BitVec 32 := 1#32
  ⟨c0_i32_1133, v2443, c1_i32_1135⟩
def k0_mult11 (i : grid0.Coords) (k0_t15 : Fin (k0_t15_loop i).trips) : BitVec 32 :=
  let c0_i32_1133 : BitVec 32 := 0#32
  let c1_i32_1135 : BitVec 32 := 1#32
  let arg15 : BitVec 32 := Scf.iv c0_i32_1133 c1_i32_1135 k0_t15
  let c2_i32_1181 : BitVec 32 := 2#32
  let v2506 : BitVec 32 := Scalar.muli arg15 c2_i32_1181
  let c0_i32_1182 : BitVec 32 := 0#32
  let v2507 : BitVec 32 := Scalar.addi v2506 c0_i32_1182
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_1183 : BitVec 32 := 1#32
  let v2509 : BitVec 32 := Scalar.subi v20 c1_i32_1183
  let v2510 : BitVec 32 := Scalar.minsi v2507 v2509
  let c512_i32_1184 : BitVec 32 := 512#32
  let v2511 : BitVec 32 := Scalar.muli v2510 c512_i32_1184
  v2511
def k0_off13 (i : grid0.Coords) (k0_t15 : Fin (k0_t15_loop i).trips) (c0_i32_1182 : BitVec 32) (c0_i32_1185 : BitVec 32) : Fin 2 → Nat :=
  let c0_1186 : Index := 0#32
  let c0_i32_1133 : BitVec 32 := 0#32
  let c1_i32_1135 : BitVec 32 := 1#32
  let arg15 : BitVec 32 := Scf.iv c0_i32_1133 c1_i32_1135 k0_t15
  let c2_i32_1181 : BitVec 32 := 2#32
  let v2506 : BitVec 32 := Scalar.muli arg15 c2_i32_1181
  let v2507 : BitVec 32 := Scalar.addi v2506 c0_i32_1182
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_1183 : BitVec 32 := 1#32
  let v2509 : BitVec 32 := Scalar.subi v20 c1_i32_1183
  let v2510 : BitVec 32 := Scalar.minsi v2507 v2509
  let c512_i32_1184 : BitVec 32 := 512#32
  let v2511 : BitVec 32 := Scalar.muli v2510 c512_i32_1184
  let v2512 : BitVec 32 := v2511
  let v2513 : BitVec 32 := Scalar.addi v2512 c0_i32_1185
  let v2514 : Index := Scalar.indexCast v2513
  ![0, v2514.toNat]
def k0_off14 (i : grid0.Coords) (k0_t15 : Fin (k0_t15_loop i).trips) (c0_i32_1182 : BitVec 32) : Fin 2 → Nat :=
  let c0_i32_1133 : BitVec 32 := 0#32
  let c1_i32_1135 : BitVec 32 := 1#32
  let arg15 : BitVec 32 := Scf.iv c0_i32_1133 c1_i32_1135 k0_t15
  let c2_i32_1181 : BitVec 32 := 2#32
  let v2506 : BitVec 32 := Scalar.muli arg15 c2_i32_1181
  let v2507 : BitVec 32 := Scalar.addi v2506 c0_i32_1182
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_1183 : BitVec 32 := 1#32
  let v2509 : BitVec 32 := Scalar.subi v20 c1_i32_1183
  let v2510 : BitVec 32 := Scalar.minsi v2507 v2509
  let c512_i32_1184 : BitVec 32 := 512#32
  let v2511 : BitVec 32 := Scalar.muli v2510 c512_i32_1184
  let v2512 : BitVec 32 := v2511
  let v2551 : Index := Scalar.indexCast v2512
  let c0_1199 : Index := 0#32
  ![v2551.toNat, 0]
def k0_off15 (i : grid0.Coords) (k0_t15 : Fin (k0_t15_loop i).trips) (c0_i32_1182 : BitVec 32) : Fin 2 → Nat :=
  let c0_i32_1133 : BitVec 32 := 0#32
  let c1_i32_1135 : BitVec 32 := 1#32
  let arg15 : BitVec 32 := Scf.iv c0_i32_1133 c1_i32_1135 k0_t15
  let c2_i32_1181 : BitVec 32 := 2#32
  let v2506 : BitVec 32 := Scalar.muli arg15 c2_i32_1181
  let v2507 : BitVec 32 := Scalar.addi v2506 c0_i32_1182
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_1183 : BitVec 32 := 1#32
  let v2509 : BitVec 32 := Scalar.subi v20 c1_i32_1183
  let v2510 : BitVec 32 := Scalar.minsi v2507 v2509
  let c512_i32_1184 : BitVec 32 := 512#32
  let v2511 : BitVec 32 := Scalar.muli v2510 c512_i32_1184
  let v2512 : BitVec 32 := v2511
  let v2593 : Index := Scalar.indexCast v2512
  let c128_1216 : Index := 128#32
  ![v2593.toNat, 128]
def k0_mult12 (i : grid0.Coords) (k0_t15 : Fin (k0_t15_loop i).trips) : BitVec 32 :=
  let c0_i32_1133 : BitVec 32 := 0#32
  let c1_i32_1135 : BitVec 32 := 1#32
  let arg15 : BitVec 32 := Scf.iv c0_i32_1133 c1_i32_1135 k0_t15
  let c2_i32_1233 : BitVec 32 := 2#32
  let v2635 : BitVec 32 := Scalar.muli arg15 c2_i32_1233
  let c1_i32_1234 : BitVec 32 := 1#32
  let v2636 : BitVec 32 := Scalar.addi v2635 c1_i32_1234
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_1235 : BitVec 32 := 1#32
  let v2638 : BitVec 32 := Scalar.subi v20 c1_i32_1235
  let v2639 : BitVec 32 := Scalar.minsi v2636 v2638
  let c512_i32_1236 : BitVec 32 := 512#32
  let v2640 : BitVec 32 := Scalar.muli v2639 c512_i32_1236
  v2640
@[reducible] def k0_t16_loop (i : grid0.Coords) : Scf.Loop 32 :=
  let c0_i32_1133 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c2_i32 : BitVec 32 := 2#32
  let v2420 : BitVec 32 := Scalar.addi v20 c2_i32
  let c1_i32_1124 : BitVec 32 := 1#32
  let v2421 : BitVec 32 := Scalar.subi v2420 c1_i32_1124
  let c0_i32_1126 : BitVec 32 := 0#32
  let v2423 : BitVec 1 := Scalar.cmpi .sgt v2421 c0_i32_1126
  let v2424 : BitVec 32 := Scalar.extui v2423
  let c0_i32_1127 : BitVec 32 := 0#32
  let v2425 : BitVec 1 := Scalar.cmpi .slt v2421 c0_i32_1127
  let v2426 : BitVec 32 := Scalar.extui v2425
  let v2427 : BitVec 32 := Scalar.subi v2424 v2426
  let c2_i32_1125 : BitVec 32 := 2#32
  let c0_i32_1128 : BitVec 32 := 0#32
  let v2428 : BitVec 1 := Scalar.cmpi .sgt c2_i32_1125 c0_i32_1128
  let v2429 : BitVec 32 := Scalar.extui v2428
  let c0_i32_1129 : BitVec 32 := 0#32
  let v2430 : BitVec 1 := Scalar.cmpi .slt c2_i32_1125 c0_i32_1129
  let v2431 : BitVec 32 := Scalar.extui v2430
  let v2432 : BitVec 32 := Scalar.subi v2429 v2431
  let v2433 : BitVec 1 := Scalar.cmpi .ne v2427 v2432
  let v2434 : BitVec 32 := Scalar.remsi v2421 c2_i32_1125
  let c0_i32_1130 : BitVec 32 := 0#32
  let v2435 : BitVec 1 := Scalar.cmpi .ne v2434 c0_i32_1130
  let v2436 : BitVec 1 := Scalar.andi v2433 v2435
  let v2422 : BitVec 32 := Scalar.divsi v2421 c2_i32_1125
  let c1_i32_1131 : BitVec 32 := 1#32
  let v2437 : BitVec 32 := Scalar.subi v2422 c1_i32_1131
  let v2438 : BitVec 32 := Scalar.select v2436 v2437 v2422
  let v2439 : BitVec 32 := Scalar.subi v2438 c0_i32_1133
  let c1_i32_1134 : BitVec 32 := 1#32
  let v2441 : BitVec 32 := Scalar.divsi v2439 c1_i32_1134
  let v2442 : BitVec 32 := Scalar.muli v2441 c1_i32_1134
  let v2443 : BitVec 32 := Scalar.addi c0_i32_1133 v2442
  let v2440 : BitVec 32 := Scalar.addi c0_i32_1133 v2439
  let c1_i32_1136 : BitVec 32 := 1#32
  ⟨v2443, v2440, c1_i32_1136⟩
def k0_mult13 (i : grid0.Coords) (k0_t16 : Fin (k0_t16_loop i).trips) : BitVec 32 :=
  let c0_i32_1133 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c2_i32 : BitVec 32 := 2#32
  let v2420 : BitVec 32 := Scalar.addi v20 c2_i32
  let c1_i32_1124 : BitVec 32 := 1#32
  let v2421 : BitVec 32 := Scalar.subi v2420 c1_i32_1124
  let c0_i32_1126 : BitVec 32 := 0#32
  let v2423 : BitVec 1 := Scalar.cmpi .sgt v2421 c0_i32_1126
  let v2424 : BitVec 32 := Scalar.extui v2423
  let c0_i32_1127 : BitVec 32 := 0#32
  let v2425 : BitVec 1 := Scalar.cmpi .slt v2421 c0_i32_1127
  let v2426 : BitVec 32 := Scalar.extui v2425
  let v2427 : BitVec 32 := Scalar.subi v2424 v2426
  let c2_i32_1125 : BitVec 32 := 2#32
  let c0_i32_1128 : BitVec 32 := 0#32
  let v2428 : BitVec 1 := Scalar.cmpi .sgt c2_i32_1125 c0_i32_1128
  let v2429 : BitVec 32 := Scalar.extui v2428
  let c0_i32_1129 : BitVec 32 := 0#32
  let v2430 : BitVec 1 := Scalar.cmpi .slt c2_i32_1125 c0_i32_1129
  let v2431 : BitVec 32 := Scalar.extui v2430
  let v2432 : BitVec 32 := Scalar.subi v2429 v2431
  let v2433 : BitVec 1 := Scalar.cmpi .ne v2427 v2432
  let v2434 : BitVec 32 := Scalar.remsi v2421 c2_i32_1125
  let c0_i32_1130 : BitVec 32 := 0#32
  let v2435 : BitVec 1 := Scalar.cmpi .ne v2434 c0_i32_1130
  let v2436 : BitVec 1 := Scalar.andi v2433 v2435
  let v2422 : BitVec 32 := Scalar.divsi v2421 c2_i32_1125
  let c1_i32_1131 : BitVec 32 := 1#32
  let v2437 : BitVec 32 := Scalar.subi v2422 c1_i32_1131
  let v2438 : BitVec 32 := Scalar.select v2436 v2437 v2422
  let v2439 : BitVec 32 := Scalar.subi v2438 c0_i32_1133
  let c1_i32_1134 : BitVec 32 := 1#32
  let v2441 : BitVec 32 := Scalar.divsi v2439 c1_i32_1134
  let v2442 : BitVec 32 := Scalar.muli v2441 c1_i32_1134
  let v2443 : BitVec 32 := Scalar.addi c0_i32_1133 v2442
  let c1_i32_1136 : BitVec 32 := 1#32
  let arg15 : BitVec 32 := Scf.iv v2443 c1_i32_1136 k0_t16
  let c2_i32_1181 : BitVec 32 := 2#32
  let v2506 : BitVec 32 := Scalar.muli arg15 c2_i32_1181
  let c0_i32_1182 : BitVec 32 := 0#32
  let v2507 : BitVec 32 := Scalar.addi v2506 c0_i32_1182
  let c1_i32_1183 : BitVec 32 := 1#32
  let v2509 : BitVec 32 := Scalar.subi v20 c1_i32_1183
  let v2510 : BitVec 32 := Scalar.minsi v2507 v2509
  let c512_i32_1184 : BitVec 32 := 512#32
  let v2511 : BitVec 32 := Scalar.muli v2510 c512_i32_1184
  v2511
def k0_off16 (i : grid0.Coords) (k0_t16 : Fin (k0_t16_loop i).trips) (c0_i32_1182 : BitVec 32) (c0_i32_1185 : BitVec 32) : Fin 2 → Nat :=
  let c0_1186 : Index := 0#32
  let c0_i32_1133 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c2_i32 : BitVec 32 := 2#32
  let v2420 : BitVec 32 := Scalar.addi v20 c2_i32
  let c1_i32_1124 : BitVec 32 := 1#32
  let v2421 : BitVec 32 := Scalar.subi v2420 c1_i32_1124
  let c0_i32_1126 : BitVec 32 := 0#32
  let v2423 : BitVec 1 := Scalar.cmpi .sgt v2421 c0_i32_1126
  let v2424 : BitVec 32 := Scalar.extui v2423
  let c0_i32_1127 : BitVec 32 := 0#32
  let v2425 : BitVec 1 := Scalar.cmpi .slt v2421 c0_i32_1127
  let v2426 : BitVec 32 := Scalar.extui v2425
  let v2427 : BitVec 32 := Scalar.subi v2424 v2426
  let c2_i32_1125 : BitVec 32 := 2#32
  let c0_i32_1128 : BitVec 32 := 0#32
  let v2428 : BitVec 1 := Scalar.cmpi .sgt c2_i32_1125 c0_i32_1128
  let v2429 : BitVec 32 := Scalar.extui v2428
  let c0_i32_1129 : BitVec 32 := 0#32
  let v2430 : BitVec 1 := Scalar.cmpi .slt c2_i32_1125 c0_i32_1129
  let v2431 : BitVec 32 := Scalar.extui v2430
  let v2432 : BitVec 32 := Scalar.subi v2429 v2431
  let v2433 : BitVec 1 := Scalar.cmpi .ne v2427 v2432
  let v2434 : BitVec 32 := Scalar.remsi v2421 c2_i32_1125
  let c0_i32_1130 : BitVec 32 := 0#32
  let v2435 : BitVec 1 := Scalar.cmpi .ne v2434 c0_i32_1130
  let v2436 : BitVec 1 := Scalar.andi v2433 v2435
  let v2422 : BitVec 32 := Scalar.divsi v2421 c2_i32_1125
  let c1_i32_1131 : BitVec 32 := 1#32
  let v2437 : BitVec 32 := Scalar.subi v2422 c1_i32_1131
  let v2438 : BitVec 32 := Scalar.select v2436 v2437 v2422
  let v2439 : BitVec 32 := Scalar.subi v2438 c0_i32_1133
  let c1_i32_1134 : BitVec 32 := 1#32
  let v2441 : BitVec 32 := Scalar.divsi v2439 c1_i32_1134
  let v2442 : BitVec 32 := Scalar.muli v2441 c1_i32_1134
  let v2443 : BitVec 32 := Scalar.addi c0_i32_1133 v2442
  let c1_i32_1136 : BitVec 32 := 1#32
  let arg15 : BitVec 32 := Scf.iv v2443 c1_i32_1136 k0_t16
  let c2_i32_1181 : BitVec 32 := 2#32
  let v2506 : BitVec 32 := Scalar.muli arg15 c2_i32_1181
  let v2507 : BitVec 32 := Scalar.addi v2506 c0_i32_1182
  let c1_i32_1183 : BitVec 32 := 1#32
  let v2509 : BitVec 32 := Scalar.subi v20 c1_i32_1183
  let v2510 : BitVec 32 := Scalar.minsi v2507 v2509
  let c512_i32_1184 : BitVec 32 := 512#32
  let v2511 : BitVec 32 := Scalar.muli v2510 c512_i32_1184
  let v2512 : BitVec 32 := v2511
  let v2513 : BitVec 32 := Scalar.addi v2512 c0_i32_1185
  let v2514 : Index := Scalar.indexCast v2513
  ![0, v2514.toNat]
def k0_off17 (i : grid0.Coords) (k0_t16 : Fin (k0_t16_loop i).trips) (c0_i32_1182 : BitVec 32) : Fin 2 → Nat :=
  let c0_i32_1133 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c2_i32 : BitVec 32 := 2#32
  let v2420 : BitVec 32 := Scalar.addi v20 c2_i32
  let c1_i32_1124 : BitVec 32 := 1#32
  let v2421 : BitVec 32 := Scalar.subi v2420 c1_i32_1124
  let c0_i32_1126 : BitVec 32 := 0#32
  let v2423 : BitVec 1 := Scalar.cmpi .sgt v2421 c0_i32_1126
  let v2424 : BitVec 32 := Scalar.extui v2423
  let c0_i32_1127 : BitVec 32 := 0#32
  let v2425 : BitVec 1 := Scalar.cmpi .slt v2421 c0_i32_1127
  let v2426 : BitVec 32 := Scalar.extui v2425
  let v2427 : BitVec 32 := Scalar.subi v2424 v2426
  let c2_i32_1125 : BitVec 32 := 2#32
  let c0_i32_1128 : BitVec 32 := 0#32
  let v2428 : BitVec 1 := Scalar.cmpi .sgt c2_i32_1125 c0_i32_1128
  let v2429 : BitVec 32 := Scalar.extui v2428
  let c0_i32_1129 : BitVec 32 := 0#32
  let v2430 : BitVec 1 := Scalar.cmpi .slt c2_i32_1125 c0_i32_1129
  let v2431 : BitVec 32 := Scalar.extui v2430
  let v2432 : BitVec 32 := Scalar.subi v2429 v2431
  let v2433 : BitVec 1 := Scalar.cmpi .ne v2427 v2432
  let v2434 : BitVec 32 := Scalar.remsi v2421 c2_i32_1125
  let c0_i32_1130 : BitVec 32 := 0#32
  let v2435 : BitVec 1 := Scalar.cmpi .ne v2434 c0_i32_1130
  let v2436 : BitVec 1 := Scalar.andi v2433 v2435
  let v2422 : BitVec 32 := Scalar.divsi v2421 c2_i32_1125
  let c1_i32_1131 : BitVec 32 := 1#32
  let v2437 : BitVec 32 := Scalar.subi v2422 c1_i32_1131
  let v2438 : BitVec 32 := Scalar.select v2436 v2437 v2422
  let v2439 : BitVec 32 := Scalar.subi v2438 c0_i32_1133
  let c1_i32_1134 : BitVec 32 := 1#32
  let v2441 : BitVec 32 := Scalar.divsi v2439 c1_i32_1134
  let v2442 : BitVec 32 := Scalar.muli v2441 c1_i32_1134
  let v2443 : BitVec 32 := Scalar.addi c0_i32_1133 v2442
  let c1_i32_1136 : BitVec 32 := 1#32
  let arg15 : BitVec 32 := Scf.iv v2443 c1_i32_1136 k0_t16
  let c2_i32_1181 : BitVec 32 := 2#32
  let v2506 : BitVec 32 := Scalar.muli arg15 c2_i32_1181
  let v2507 : BitVec 32 := Scalar.addi v2506 c0_i32_1182
  let c1_i32_1183 : BitVec 32 := 1#32
  let v2509 : BitVec 32 := Scalar.subi v20 c1_i32_1183
  let v2510 : BitVec 32 := Scalar.minsi v2507 v2509
  let c512_i32_1184 : BitVec 32 := 512#32
  let v2511 : BitVec 32 := Scalar.muli v2510 c512_i32_1184
  let v2512 : BitVec 32 := v2511
  let v2551 : Index := Scalar.indexCast v2512
  let c0_1199 : Index := 0#32
  ![v2551.toNat, 0]
def k0_off18 (i : grid0.Coords) (k0_t16 : Fin (k0_t16_loop i).trips) (c0_i32_1182 : BitVec 32) : Fin 2 → Nat :=
  let c0_i32_1133 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c2_i32 : BitVec 32 := 2#32
  let v2420 : BitVec 32 := Scalar.addi v20 c2_i32
  let c1_i32_1124 : BitVec 32 := 1#32
  let v2421 : BitVec 32 := Scalar.subi v2420 c1_i32_1124
  let c0_i32_1126 : BitVec 32 := 0#32
  let v2423 : BitVec 1 := Scalar.cmpi .sgt v2421 c0_i32_1126
  let v2424 : BitVec 32 := Scalar.extui v2423
  let c0_i32_1127 : BitVec 32 := 0#32
  let v2425 : BitVec 1 := Scalar.cmpi .slt v2421 c0_i32_1127
  let v2426 : BitVec 32 := Scalar.extui v2425
  let v2427 : BitVec 32 := Scalar.subi v2424 v2426
  let c2_i32_1125 : BitVec 32 := 2#32
  let c0_i32_1128 : BitVec 32 := 0#32
  let v2428 : BitVec 1 := Scalar.cmpi .sgt c2_i32_1125 c0_i32_1128
  let v2429 : BitVec 32 := Scalar.extui v2428
  let c0_i32_1129 : BitVec 32 := 0#32
  let v2430 : BitVec 1 := Scalar.cmpi .slt c2_i32_1125 c0_i32_1129
  let v2431 : BitVec 32 := Scalar.extui v2430
  let v2432 : BitVec 32 := Scalar.subi v2429 v2431
  let v2433 : BitVec 1 := Scalar.cmpi .ne v2427 v2432
  let v2434 : BitVec 32 := Scalar.remsi v2421 c2_i32_1125
  let c0_i32_1130 : BitVec 32 := 0#32
  let v2435 : BitVec 1 := Scalar.cmpi .ne v2434 c0_i32_1130
  let v2436 : BitVec 1 := Scalar.andi v2433 v2435
  let v2422 : BitVec 32 := Scalar.divsi v2421 c2_i32_1125
  let c1_i32_1131 : BitVec 32 := 1#32
  let v2437 : BitVec 32 := Scalar.subi v2422 c1_i32_1131
  let v2438 : BitVec 32 := Scalar.select v2436 v2437 v2422
  let v2439 : BitVec 32 := Scalar.subi v2438 c0_i32_1133
  let c1_i32_1134 : BitVec 32 := 1#32
  let v2441 : BitVec 32 := Scalar.divsi v2439 c1_i32_1134
  let v2442 : BitVec 32 := Scalar.muli v2441 c1_i32_1134
  let v2443 : BitVec 32 := Scalar.addi c0_i32_1133 v2442
  let c1_i32_1136 : BitVec 32 := 1#32
  let arg15 : BitVec 32 := Scf.iv v2443 c1_i32_1136 k0_t16
  let c2_i32_1181 : BitVec 32 := 2#32
  let v2506 : BitVec 32 := Scalar.muli arg15 c2_i32_1181
  let v2507 : BitVec 32 := Scalar.addi v2506 c0_i32_1182
  let c1_i32_1183 : BitVec 32 := 1#32
  let v2509 : BitVec 32 := Scalar.subi v20 c1_i32_1183
  let v2510 : BitVec 32 := Scalar.minsi v2507 v2509
  let c512_i32_1184 : BitVec 32 := 512#32
  let v2511 : BitVec 32 := Scalar.muli v2510 c512_i32_1184
  let v2512 : BitVec 32 := v2511
  let v2593 : Index := Scalar.indexCast v2512
  let c128_1216 : Index := 128#32
  ![v2593.toNat, 128]
def k0_mult14 (i : grid0.Coords) (k0_t16 : Fin (k0_t16_loop i).trips) : BitVec 32 :=
  let c0_i32_1133 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c2_i32 : BitVec 32 := 2#32
  let v2420 : BitVec 32 := Scalar.addi v20 c2_i32
  let c1_i32_1124 : BitVec 32 := 1#32
  let v2421 : BitVec 32 := Scalar.subi v2420 c1_i32_1124
  let c0_i32_1126 : BitVec 32 := 0#32
  let v2423 : BitVec 1 := Scalar.cmpi .sgt v2421 c0_i32_1126
  let v2424 : BitVec 32 := Scalar.extui v2423
  let c0_i32_1127 : BitVec 32 := 0#32
  let v2425 : BitVec 1 := Scalar.cmpi .slt v2421 c0_i32_1127
  let v2426 : BitVec 32 := Scalar.extui v2425
  let v2427 : BitVec 32 := Scalar.subi v2424 v2426
  let c2_i32_1125 : BitVec 32 := 2#32
  let c0_i32_1128 : BitVec 32 := 0#32
  let v2428 : BitVec 1 := Scalar.cmpi .sgt c2_i32_1125 c0_i32_1128
  let v2429 : BitVec 32 := Scalar.extui v2428
  let c0_i32_1129 : BitVec 32 := 0#32
  let v2430 : BitVec 1 := Scalar.cmpi .slt c2_i32_1125 c0_i32_1129
  let v2431 : BitVec 32 := Scalar.extui v2430
  let v2432 : BitVec 32 := Scalar.subi v2429 v2431
  let v2433 : BitVec 1 := Scalar.cmpi .ne v2427 v2432
  let v2434 : BitVec 32 := Scalar.remsi v2421 c2_i32_1125
  let c0_i32_1130 : BitVec 32 := 0#32
  let v2435 : BitVec 1 := Scalar.cmpi .ne v2434 c0_i32_1130
  let v2436 : BitVec 1 := Scalar.andi v2433 v2435
  let v2422 : BitVec 32 := Scalar.divsi v2421 c2_i32_1125
  let c1_i32_1131 : BitVec 32 := 1#32
  let v2437 : BitVec 32 := Scalar.subi v2422 c1_i32_1131
  let v2438 : BitVec 32 := Scalar.select v2436 v2437 v2422
  let v2439 : BitVec 32 := Scalar.subi v2438 c0_i32_1133
  let c1_i32_1134 : BitVec 32 := 1#32
  let v2441 : BitVec 32 := Scalar.divsi v2439 c1_i32_1134
  let v2442 : BitVec 32 := Scalar.muli v2441 c1_i32_1134
  let v2443 : BitVec 32 := Scalar.addi c0_i32_1133 v2442
  let c1_i32_1136 : BitVec 32 := 1#32
  let arg15 : BitVec 32 := Scf.iv v2443 c1_i32_1136 k0_t16
  let c2_i32_1233 : BitVec 32 := 2#32
  let v2635 : BitVec 32 := Scalar.muli arg15 c2_i32_1233
  let c1_i32_1234 : BitVec 32 := 1#32
  let v2636 : BitVec 32 := Scalar.addi v2635 c1_i32_1234
  let c1_i32_1235 : BitVec 32 := 1#32
  let v2638 : BitVec 32 := Scalar.subi v20 c1_i32_1235
  let v2639 : BitVec 32 := Scalar.minsi v2636 v2638
  let c512_i32_1236 : BitVec 32 := 512#32
  let v2640 : BitVec 32 := Scalar.muli v2639 c512_i32_1236
  v2640
def cc0_transform_0 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8192x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8192x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8192x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel2.lean ====
abbrev S2176x8x1024 : Shape := ⟨3, ![2176, 8, 1024]⟩
abbrev S17408x1024 : Shape := ⟨2, ![17408, 1024]⟩
abbrev S17408x8 : Shape := ⟨2, ![17408, 8]⟩
abbrev S130x1024 : Shape := ⟨2, ![130, 1024]⟩
abbrev S8x1024x1408 : Shape := ⟨3, ![8, 1024, 1408]⟩
abbrev S8x1408x1024 : Shape := ⟨3, ![8, 1408, 1024]⟩
abbrev S_ : Shape := ⟨0, ![]⟩
abbrev S17408x120 : Shape := ⟨2, ![17408, 120]⟩
abbrev S17408x128 : Shape := ⟨2, ![17408, 128]⟩
abbrev S2x1024 : Shape := ⟨2, ![2, 1024]⟩
abbrev S2x64x1024 : Shape := ⟨3, ![2, 64, 1024]⟩
abbrev S128x1024 : Shape := ⟨2, ![128, 1024]⟩
abbrev S256x1024 : Shape := ⟨2, ![256, 1024]⟩
abbrev S256x1x1024 : Shape := ⟨3, ![256, 1, 1024]⟩
abbrev S64x8x1024 : Shape := ⟨3, ![64, 8, 1024]⟩
abbrev S512x1024 : Shape := ⟨2, ![512, 1024]⟩
abbrev S512x128 : Shape := ⟨2, ![512, 128]⟩
abbrev S64x1x1024 : Shape := ⟨3, ![64, 1, 1024]⟩
abbrev S1x1024x1408 : Shape := ⟨3, ![1, 1024, 1408]⟩
abbrev S1x1408x1024 : Shape := ⟨3, ![1, 1408, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 21
  | .vmem => 18
  | .smem => 0
  | _ => 0

abbrev bufTy : (tb : Table) → Fin (tcTables nBuf tb) → BufTy
  | .hbm, ⟨0, _⟩ => ⟨S2176x8x1024, .f32⟩
  | .hbm, ⟨1, _⟩ => ⟨S17408x1024, .f32⟩
  | .hbm, ⟨2, _⟩ => ⟨S17408x8, .f32⟩
  | .hbm, ⟨3, _⟩ => ⟨S130x1024, .f32⟩
  | .hbm, ⟨4, _⟩ => ⟨S8x1024x1408, .f32⟩
  | .hbm, ⟨5, _⟩ => ⟨S8x1024x1408, .f32⟩
  | .hbm, ⟨6, _⟩ => ⟨S8x1408x1024, .f32⟩
  | .hbm, ⟨7, _⟩ => ⟨S_, .f32⟩
  | .hbm, ⟨8, _⟩ => ⟨S17408x120, .f32⟩
  | .hbm, ⟨9, _⟩ => ⟨S17408x128, .f32⟩
  | .hbm, ⟨10, _⟩ => ⟨S17408x1024, .bf16⟩
  | .hbm, ⟨11, _⟩ => ⟨S2x1024, .f32⟩
  | .hbm, ⟨12, _⟩ => ⟨S2x64x1024, .f32⟩
  | .hbm, ⟨13, _⟩ => ⟨S128x1024, .f32⟩
  | .hbm, ⟨14, _⟩ => ⟨S128x1024, .f32⟩
  | .hbm, ⟨15, _⟩ => ⟨S256x1024, .f32⟩
  | .hbm, ⟨16, _⟩ => ⟨S256x1x1024, .f32⟩
  | .hbm, ⟨17, _⟩ => ⟨S8x1024x1408, .bf16⟩
  | .hbm, ⟨18, _⟩ => ⟨S8x1024x1408, .bf16⟩
  | .hbm, ⟨19, _⟩ => ⟨S8x1408x1024, .bf16⟩
  | .hbm, ⟨20, _⟩ => ⟨S2176x8x1024, .f32⟩
  | .local _ .vmem, ⟨0, _⟩ => ⟨S64x8x1024, .f32⟩
  | .local _ .vmem, ⟨1, _⟩ => ⟨S64x8x1024, .f32⟩
  | .local _ .vmem, ⟨2, _⟩ => ⟨S512x1024, .bf16⟩
  | .local _ .vmem, ⟨3, _⟩ => ⟨S512x1024, .bf16⟩
  | .local _ .vmem, ⟨4, _⟩ => ⟨S512x128, .f32⟩
  | .local _ .vmem, ⟨5, _⟩ => ⟨S512x128, .f32⟩
  | .local _ .vmem, ⟨6, _⟩ => ⟨S64x1x1024, .f32⟩
  | .local _ .vmem, ⟨7, _⟩ => ⟨S64x1x1024, .f32⟩
  | .local _ .vmem, ⟨8, _⟩ => ⟨S1x1024x1408, .bf16⟩
  | .local _ .vmem, ⟨9, _⟩ => ⟨S1x1024x1408, .bf16⟩
  | .local _ .vmem, ⟨10, _⟩ => ⟨S1x1024x1408, .bf16⟩
  | .local _ .vmem, ⟨11, _⟩ => ⟨S1x1024x1408, .bf16⟩
  | .local _ .vmem, ⟨12, _⟩ => ⟨S1x1408x1024, .bf16⟩
  | .local _ .vmem, ⟨13, _⟩ => ⟨S1x1408x1024, .bf16⟩
  | .local _ .vmem, ⟨14, _⟩ => ⟨S64x8x1024, .f32⟩
  | .local _ .vmem, ⟨15, _⟩ => ⟨S64x8x1024, .f32⟩
  | .local _ .vmem, ⟨16, _⟩ => ⟨S512x1024, .f32⟩
  | .local _ .vmem, ⟨17, _⟩ => ⟨S512x128, .f32⟩
  | _, _ => ⟨S2176x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![34, 8], ![false, false]⟩

def k0_cond2 (i : grid0.Coords) : BitVec 1 :=
  let arg1 : BitVec 32 := BitVec.ofNat 32 (i 1).val
  let c7_i32 : BitVec 32 := 7#32
  let v33 : BitVec 1 := Scalar.cmpi .eq arg1 c7_i32
  let v34 : BitVec 32 := Scalar.extui v33
  let c0_i32_21 : BitVec 32 := 0#32
  let v35 : BitVec 1 := Scalar.cmpi .ne v34 c0_i32_21
  v35

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg0 c32_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c32_i32_4 : BitVec 32 := 32#32
  let v18 : BitVec 32 := Scalar.subi arg0 c32_i32_4
  let c2_i32 : BitVec 32 := 2#32
  let v19 : BitVec 32 := Scalar.addi c2_i32 v18
  let v20 : BitVec 32 := Scalar.select v0 v17 v19
  let c0_i32_5 : BitVec 32 := 0#32
  let c0_i32_6 : BitVec 32 := 0#32
  let c0_i32_7 : BitVec 32 := 0#32
  ![v20.toNat, c0_i32_5.toNat, c0_i32_6.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S64x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1408x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S64x8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S2176x8x1024 : Shape := ⟨3, ![2176, 8, 1024]⟩
abbrev S17408x1024 : Shape := ⟨2, ![17408, 1024]⟩
abbrev S17408x8 : Shape := ⟨2, ![17408, 8]⟩
abbrev S130x1024 : Shape := ⟨2, ![130, 1024]⟩
abbrev S8x1024x1408 : Shape := ⟨3, ![8, 1024, 1408]⟩
abbrev S8x1408x1024 : Shape := ⟨3, ![8, 1408, 1024]⟩
abbrev S17408x2 : Shape := ⟨2, ![17408, 2]⟩
abbrev S_ : Shape := ⟨0, ![]⟩
abbrev S17408 : Shape := ⟨1, ![17408]⟩
abbrev S17408x1 : Shape := ⟨2, ![17408, 1]⟩
abbrev S17408x2x1 : Shape := ⟨3, ![17408, 2, 1]⟩
abbrev S1x1x8 : Shape := ⟨3, ![1, 1, 8]⟩
abbrev S17408x2x8 : Shape := ⟨3, ![17408, 2, 8]⟩
abbrev S1x1024x1408 : Shape := ⟨3, ![1, 1024, 1408]⟩
abbrev S1024x1408 : Shape := ⟨2, ![1024, 1408]⟩
abbrev S17408x1408 : Shape := ⟨2, ![17408, 1408]⟩
abbrev S1x1408x1024 : Shape := ⟨3, ![1, 1408, 1024]⟩
abbrev S1408x1024 : Shape := ⟨2, ![1408, 1024]⟩
abbrev S2x1024 : Shape := ⟨2, ![2, 1024]⟩
abbrev S2x1x1024 : Shape := ⟨3, ![2, 1, 1024]⟩
abbrev S2x8192x1024 : Shape := ⟨3, ![2, 8192, 1024]⟩
abbrev S16384x1024 : Shape := ⟨2, ![16384, 1024]⟩
abbrev S128x1024 : Shape := ⟨2, ![128, 1024]⟩
abbrev S128x1x1024 : Shape := ⟨3, ![128, 1, 1024]⟩
abbrev S128x8x1024 : Shape := ⟨3, ![128, 8, 1024]⟩
abbrev S1024x1024 : Shape := ⟨2, ![1024, 1024]⟩

abbrev nBuf : Space → Nat
  | .hbm => 232
  | .vmem => 0
  | .smem => 0
  | _ => 0

abbrev hbmTy0_0 (i : Nat) : BufTy := match i % 128 with
  | 0 => ⟨S2176x8x1024, .f32⟩
  | 1 => ⟨S17408x1024, .f32⟩
  | 2 => ⟨S17408x8, .f32⟩
  | 3 => ⟨S130x1024, .f32⟩
  | 4 => ⟨S8x1024x1408, .f32⟩
  | 5 => ⟨S8x1024x1408, .f32⟩
  | 6 => ⟨S8x1408x1024, .f32⟩
  | 7 => ⟨S17408x2, .f32⟩
  | 8 => ⟨S17408x2, .i32⟩
  | 9 => ⟨S_, .f32⟩
  | 10 => ⟨S17408, .f32⟩
  | 11 => ⟨S_, .f32⟩
  | 12 => ⟨S17408, .f32⟩
  | 13 => ⟨S17408, .f32⟩
  | 14 => ⟨S17408x1, .f32⟩
  | 15 => ⟨S17408x2, .f32⟩
  | 16 => ⟨S17408x2, .f32⟩
  | 17 => ⟨S17408x2, .f32⟩
  | 18 => ⟨S_, .f32⟩
  | 19 => ⟨S17408, .f32⟩
  | 20 => ⟨S17408x1, .f32⟩
  | 21 => ⟨S17408x2, .f32⟩
  | 22 => ⟨S17408x2, .f32⟩
  | 23 => ⟨S17408x2x1, .i32⟩
  | 24 => ⟨S1x1x8, .i32⟩
  | 25 => ⟨S17408x2x8, .i32⟩
  | 26 => ⟨S17408x2x8, .i32⟩
  | 27 => ⟨S17408x2x8, .i1⟩
  | 28 => ⟨S17408x2x8, .f32⟩
  | 29 => ⟨S17408x2x1, .f32⟩
  | 30 => ⟨S17408x2x8, .f32⟩
  | 31 => ⟨S17408x2x8, .f32⟩
  | 32 => ⟨S_, .f32⟩
  | 33 => ⟨S17408x8, .f32⟩
  | 34 => ⟨S_, .f32⟩
  | 35 => ⟨S17408x1024, .f32⟩
  | 36 => ⟨S17408x1, .f32⟩
  | 37 => ⟨S1x1024x1408, .f32⟩
  | 38 => ⟨S1024x1408, .f32⟩
  | 39 => ⟨S17408x1408, .f32⟩
  | 40 => ⟨S17408x1408, .f32⟩
  | 41 => ⟨S17408x1408, .f32⟩
  | 42 => ⟨S_, .f32⟩
  | 43 => ⟨S17408x1408, .f32⟩
  | 44 => ⟨S17408x1408, .f32⟩
  | 45 => ⟨S_, .f32⟩
  | 46 => ⟨S17408x1408, .f32⟩
  | 47 => ⟨S17408x1408, .f32⟩
  | 48 => ⟨S17408x1408, .f32⟩
  | 49 => ⟨S1x1024x1408, .f32⟩
  | 50 => ⟨S1024x1408, .f32⟩
  | 51 => ⟨S17408x1408, .f32⟩
  | 52 => ⟨S17408x1408, .f32⟩
  | 53 => ⟨S1x1408x1024, .f32⟩
  | 54 => ⟨S1408x1024, .f32⟩
  | 55 => ⟨S17408x1024, .f32⟩
  | 56 => ⟨S17408x1024, .f32⟩
  | 57 => ⟨S17408x1024, .f32⟩
  | 58 => ⟨S17408x1024, .f32⟩
  | 59 => ⟨S17408x1, .f32⟩
  | 60 => ⟨S1x1024x1408, .f32⟩
  | 61 => ⟨S1024x1408, .f32⟩
  | 62 => ⟨S17408x1408, .f32⟩
  | 63 => ⟨S17408x1408, .f32⟩
  | 64 => ⟨S17408x1408, .f32⟩
  | 65 => ⟨S_, .f32⟩
  | 66 => ⟨S17408x1408, .f32⟩
  | 67 => ⟨S17408x1408, .f32⟩
  | 68 => ⟨S_, .f32⟩
  | 69 => ⟨S17408x1408, .f32⟩
  | 70 => ⟨S17408x1408, .f32⟩
  | 71 => ⟨S17408x1408, .f32⟩
  | 72 => ⟨S1x1024x1408, .f32⟩
  | 73 => ⟨S1024x1408, .f32⟩
  | 74 => ⟨S17408x1408, .f32⟩
  | 75 => ⟨S17408x1408, .f32⟩
  | 76 => ⟨S1x1408x1024, .f32⟩
  | 77 => ⟨S1408x1024, .f32⟩
  | 78 => ⟨S17408x1024, .f32⟩
  | 79 => ⟨S17408x1024, .f32⟩
  | 80 => ⟨S17408x1024, .f32⟩
  | 81 => ⟨S17408x1024, .f32⟩
  | 82 => ⟨S17408x1, .f32⟩
  | 83 => ⟨S1x1024x1408, .f32⟩
  | 84 => ⟨S1024x1408, .f32⟩
  | 85 => ⟨S17408x1408, .f32⟩
  | 86 => ⟨S17408x1408, .f32⟩
  | 87 => ⟨S17408x1408, .f32⟩
  | 88 => ⟨S_, .f32⟩
  | 89 => ⟨S17408x1408, .f32⟩
  | 90 => ⟨S17408x1408, .f32⟩
  | 91 => ⟨S_, .f32⟩
  | 92 => ⟨S17408x1408, .f32⟩
  | 93 => ⟨S17408x1408, .f32⟩
  | 94 => ⟨S17408x1408, .f32⟩
  | 95 => ⟨S1x1024x1408, .f32⟩
  | 96 => ⟨S1024x1408, .f32⟩
  | 97 => ⟨S17408x1408, .f32⟩
  | 98 => ⟨S17408x1408, .f32⟩
  | 99 => ⟨S1x1408x1024, .f32⟩
  | 100 => ⟨S1408x1024, .f32⟩
  | 101 => ⟨S17408x1024, .f32⟩
  | 102 => ⟨S17408x1024, .f32⟩
  | 103 => ⟨S17408x1024, .f32⟩
  | 104 => ⟨S17408x1024, .f32⟩
  | 105 => ⟨S17408x1, .f32⟩
  | 106 => ⟨S1x1024x1408, .f32⟩
  | 107 => ⟨S1024x1408, .f32⟩
  | 108 => ⟨S17408x1408, .f32⟩
  | 109 => ⟨S17408x1408, .f32⟩
  | 110 => ⟨S17408x1408, .f32⟩
  | 111 => ⟨S_, .f32⟩
  | 112 => ⟨S17408x1408, .f32⟩
  | 113 => ⟨S17408x1408, .f32⟩
  | 114 => ⟨S_, .f32⟩
  | 115 => ⟨S17408x1408, .f32⟩
  | 116 => ⟨S17408x1408, .f32⟩
  | 117 => ⟨S17408x1408, .f32⟩
  | 118 => ⟨S1x1024x1408, .f32⟩
  | 119 => ⟨S1024x1408, .f32⟩
  | 120 => ⟨S17408x1408, .f32⟩
  | 121 => ⟨S17408x1408, .f32⟩
  | 122 => ⟨S1x1408x1024, .f32⟩
  | 123 => ⟨S1408x1024, .f32⟩
  | 124 => ⟨S17408x1024, .f32⟩
  | 125 => ⟨S17408x1024, .f32⟩
  | 126 => ⟨S17408x1024, .f32⟩
  | 127 => ⟨S17408x1024, .f32⟩
  | _ => ⟨S2176x8x1024, .f32⟩

abbrev hbmTy0_1 (i : Nat) : BufTy := match i % 128 with
  | 0 => ⟨S17408x1, .f32⟩
  | 1 => ⟨S1x1024x1408, .f32⟩
  | 2 => ⟨S1024x1408, .f32⟩
  | 3 => ⟨S17408x1408, .f32⟩
  | 4 => ⟨S17408x1408, .f32⟩
  | 5 => ⟨S17408x1408, .f32⟩
  | 6 => ⟨S_, .f32⟩
  | 7 => ⟨S17408x1408, .f32⟩
  | 8 => ⟨S17408x1408, .f32⟩
  | 9 => ⟨S_, .f32⟩
  | 10 => ⟨S17408x1408, .f32⟩
  | 11 => ⟨S17408x1408, .f32⟩
  | 12 => ⟨S17408x1408, .f32⟩
  | 13 => ⟨S1x1024x1408, .f32⟩
  | 14 => ⟨S1024x1408, .f32⟩
  | 15 => ⟨S17408x1408, .f32⟩
  | 16 => ⟨S17408x1408, .f32⟩
  | 17 => ⟨S1x1408x1024, .f32⟩
  | 18 => ⟨S1408x1024, .f32⟩
  | 19 => ⟨S17408x1024, .f32⟩
  | 20 => ⟨S17408x1024, .f32⟩
  | 21 => ⟨S17408x1024, .f32⟩
  | 22 => ⟨S17408x1024, .f32⟩
  | 23 => ⟨S17408x1, .f32⟩
  | 24 => ⟨S1x1024x1408, .f32⟩
  | 25 => ⟨S1024x1408, .f32⟩
  | 26 => ⟨S17408x1408, .f32⟩
  | 27 => ⟨S17408x1408, .f32⟩
  | 28 => ⟨S17408x1408, .f32⟩
  | 29 => ⟨S_, .f32⟩
  | 30 => ⟨S17408x1408, .f32⟩
  | 31 => ⟨S17408x1408, .f32⟩
  | 32 => ⟨S_, .f32⟩
  | 33 => ⟨S17408x1408, .f32⟩
  | 34 => ⟨S17408x1408, .f32⟩
  | 35 => ⟨S17408x1408, .f32⟩
  | 36 => ⟨S1x1024x1408, .f32⟩
  | 37 => ⟨S1024x1408, .f32⟩
  | 38 => ⟨S17408x1408, .f32⟩
  | 39 => ⟨S17408x1408, .f32⟩
  | 40 => ⟨S1x1408x1024, .f32⟩
  | 41 => ⟨S1408x1024, .f32⟩
  | 42 => ⟨S17408x1024, .f32⟩
  | 43 => ⟨S17408x1024, .f32⟩
  | 44 => ⟨S17408x1024, .f32⟩
  | 45 => ⟨S17408x1024, .f32⟩
  | 46 => ⟨S17408x1, .f32⟩
  | 47 => ⟨S1x1024x1408, .f32⟩
  | 48 => ⟨S1024x1408, .f32⟩
  | 49 => ⟨S17408x1408, .f32⟩
  | 50 => ⟨S17408x1408, .f32⟩
  | 51 => ⟨S17408x1408, .f32⟩
  | 52 => ⟨S_, .f32⟩
  | 53 => ⟨S17408x1408, .f32⟩
  | 54 => ⟨S17408x1408, .f32⟩
  | 55 => ⟨S_, .f32⟩
  | 56 => ⟨S17408x1408, .f32⟩
  | 57 => ⟨S17408x1408, .f32⟩
  | 58 => ⟨S17408x1408, .f32⟩
  | 59 => ⟨S1x1024x1408, .f32⟩
  | 60 => ⟨S1024x1408, .f32⟩
  | 61 => ⟨S17408x1408, .f32⟩
  | 62 => ⟨S17408x1408, .f32⟩
  | 63 => ⟨S1x1408x1024, .f32⟩
  | 64 => ⟨S1408x1024, .f32⟩
  | 65 => ⟨S17408x1024, .f32⟩
  | 66 => ⟨S17408x1024, .f32⟩
  | 67 => ⟨S17408x1024, .f32⟩
  | 68 => ⟨S17408x1024, .f32⟩
  | 69 => ⟨S17408x1, .f32⟩
  | 70 => ⟨S1x1024x1408, .f32⟩
  | 71 => ⟨S1024x1408, .f32⟩
  | 72 => ⟨S17408x1408, .f32⟩
  | 73 => ⟨S17408x1408, .f32⟩
  | 74 => ⟨S17408x1408, .f32⟩
  | 75 => ⟨S_, .f32⟩
  | 76 => ⟨S17408x1408, .f32⟩
  | 77 => ⟨S17408x1408, .f32⟩
  | 78 => ⟨S_, .f32⟩
  | 79 => ⟨S17408x1408, .f32⟩
  | 80 => ⟨S17408x1408, .f32⟩
  | 81 => ⟨S17408x1408, .f32⟩
  | 82 => ⟨S1x1024x1408, .f32⟩
  | 83 => ⟨S1024x1408, .f32⟩
  | 84 => ⟨S17408x1408, .f32⟩
  | 85 => ⟨S17408x1408, .f32⟩
  | 86 => ⟨S1x1408x1024, .f32⟩
  | 87 => ⟨S1408x1024, .f32⟩
  | 88 => ⟨S17408x1024, .f32⟩
  | 89 => ⟨S17408x1024, .f32⟩
  | 90 => ⟨S17408x1024, .f32⟩
  | 91 => ⟨S17408x1024, .f32⟩
  | 92 => ⟨S2x1024, .f32⟩
  | 93 => ⟨S2x1x1024, .f32⟩
  | 94 => ⟨S2x8192x1024, .f32⟩
  | 95 => ⟨S16384x1024, .f32⟩
  | 96 => ⟨S128x1024, .f32⟩
  | 97 => ⟨S128x1x1024, .f32⟩
  | 98 => ⟨S128x8x1024, .f32⟩
  | 99 => ⟨S1024x1024, .f32⟩
  | 100 => ⟨S17408x1024, .f32⟩
  | 101 => ⟨S17408x1024, .f32⟩
  | 102 => ⟨S2176x8x1024, .f32⟩
  | 103 => ⟨S2176x8x1024, .f32⟩
  | _ => ⟨S2176x8x1024, .f32⟩

abbrev hbmTy (i : Nat) : BufTy := match i / 128 with
  | 0 => hbmTy0_0 i
  | 1 => hbmTy0_1 i
  | _ => ⟨S2176x8x1024, .f32⟩

abbrev bufTy : (tb : Table) → Fin (tcTables nBuf tb) → BufTy
  | .hbm, ⟨i, _⟩ => hbmTy i
  | _, _ => ⟨S2176x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_values : Ref sig .tc := ⟨.hbm, 7, rfl⟩
abbrev main_indices : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_cst_3 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_call1_v0 : Ref sig .tc := ⟨.hbm, 40, rfl⟩
abbrev main_call1_v1 : Ref sig .tc := ⟨.hbm, 41, rfl⟩
abbrev main_call1_cst : Ref sig .tc := ⟨.hbm, 42, rfl⟩
abbrev main_call1_v2 : Ref sig .tc := ⟨.hbm, 43, rfl⟩
abbrev main_call1_v3 : Ref sig .tc := ⟨.hbm, 44, rfl⟩
abbrev main_call1_cst_0 : Ref sig .tc := ⟨.hbm, 45, rfl⟩
abbrev main_call1_v4 : Ref sig .tc := ⟨.hbm, 46, rfl⟩
abbrev main_call1_v5 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_call2_v0 : Ref sig .tc := ⟨.hbm, 63, rfl⟩
abbrev main_call2_v1 : Ref sig .tc := ⟨.hbm, 64, rfl⟩
abbrev main_call2_cst : Ref sig .tc := ⟨.hbm, 65, rfl⟩
abbrev main_call2_v2 : Ref sig .tc := ⟨.hbm, 66, rfl⟩
abbrev main_call2_v3 : Ref sig .tc := ⟨.hbm, 67, rfl⟩
abbrev main_call2_cst_0 : Ref sig .tc := ⟨.hbm, 68, rfl⟩
abbrev main_call2_v4 : Ref sig .tc := ⟨.hbm, 69, rfl⟩
abbrev main_call2_v5 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_call3_v0 : Ref sig .tc := ⟨.hbm, 86, rfl⟩
abbrev main_call3_v1 : Ref sig .tc := ⟨.hbm, 87, rfl⟩
abbrev main_call3_cst : Ref sig .tc := ⟨.hbm, 88, rfl⟩
abbrev main_call3_v2 : Ref sig .tc := ⟨.hbm, 89, rfl⟩
abbrev main_call3_v3 : Ref sig .tc := ⟨.hbm, 90, rfl⟩
abbrev main_call3_cst_0 : Ref sig .tc := ⟨.hbm, 91, rfl⟩
abbrev main_call3_v4 : Ref sig .tc := ⟨.hbm, 92, rfl⟩
abbrev main_call3_v5 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_call4_v0 : Ref sig .tc := ⟨.hbm, 109, rfl⟩
abbrev main_call4_v1 : Ref sig .tc := ⟨.hbm, 110, rfl⟩
abbrev main_call4_cst : Ref sig .tc := ⟨.hbm, 111, rfl⟩
abbrev main_call4_v2 : Ref sig .tc := ⟨.hbm, 112, rfl⟩
abbrev main_call4_v3 : Ref sig .tc := ⟨.hbm, 113, rfl⟩
abbrev main_call4_cst_0 : Ref sig .tc := ⟨.hbm, 114, rfl⟩
abbrev main_call4_v4 : Ref sig .tc := ⟨.hbm, 115, rfl⟩
abbrev main_call4_v5 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_call5_v0 : Ref sig .tc := ⟨.hbm, 132, rfl⟩
abbrev main_call5_v1 : Ref sig .tc := ⟨.hbm, 133, rfl⟩
abbrev main_call5_cst : Ref sig .tc := ⟨.hbm, 134, rfl⟩
abbrev main_call5_v2 : Ref sig .tc := ⟨.hbm, 135, rfl⟩
abbrev main_call5_v3 : Ref sig .tc := ⟨.hbm, 136, rfl⟩
abbrev main_call5_cst_0 : Ref sig .tc := ⟨.hbm, 137, rfl⟩
abbrev main_call5_v4 : Ref sig .tc := ⟨.hbm, 138, rfl⟩
abbrev main_call5_v5 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_call6_v0 : Ref sig .tc := ⟨.hbm, 155, rfl⟩
abbrev main_call6_v1 : Ref sig .tc := ⟨.hbm, 156, rfl⟩
abbrev main_call6_cst : Ref sig .tc := ⟨.hbm, 157, rfl⟩
abbrev main_call6_v2 : Ref sig .tc := ⟨.hbm, 158, rfl⟩
abbrev main_call6_v3 : Ref sig .tc := ⟨.hbm, 159, rfl⟩
abbrev main_call6_cst_0 : Ref sig .tc := ⟨.hbm, 160, rfl⟩
abbrev main_call6_v4 : Ref sig .tc := ⟨.hbm, 161, rfl⟩
abbrev main_call6_v5 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_call7_v0 : Ref sig .tc := ⟨.hbm, 178, rfl⟩
abbrev main_call7_v1 : Ref sig .tc := ⟨.hbm, 179, rfl⟩
abbrev main_call7_cst : Ref sig .tc := ⟨.hbm, 180, rfl⟩
abbrev main_call7_v2 : Ref sig .tc := ⟨.hbm, 181, rfl⟩
abbrev main_call7_v3 : Ref sig .tc := ⟨.hbm, 182, rfl⟩
abbrev main_call7_cst_0 : Ref sig .tc := ⟨.hbm, 183, rfl⟩
abbrev main_call7_v4 : Ref sig .tc := ⟨.hbm, 184, rfl⟩
abbrev main_call7_v5 : Ref sig .tc := ⟨.hbm, 185, rfl⟩
abbrev main_v111 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_v115 : Ref sig .tc := ⟨.hbm, 190, rfl⟩
abbrev main_v116 : Ref sig .tc := ⟨.hbm, 191, rfl⟩
abbrev main_v117 : Ref sig .tc := ⟨.hbm, 192, rfl⟩
abbrev main_v118 : Ref sig .tc := ⟨.hbm, 193, rfl⟩
abbrev main_v119 : Ref sig .tc := ⟨.hbm, 194, rfl⟩
abbrev main_v120 : Ref sig .tc := ⟨.hbm, 195, rfl⟩
abbrev main_v121 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_v125 : Ref sig .tc := ⟨.hbm, 200, rfl⟩
abbrev main_call8_v0 : Ref sig .tc := ⟨.hbm, 201, rfl⟩
abbrev main_call8_v1 : Ref sig .tc := ⟨.hbm, 202, rfl⟩
abbrev main_call8_cst : Ref sig .tc := ⟨.hbm, 203, rfl⟩
abbrev main_call8_v2 : Ref sig .tc := ⟨.hbm, 204, rfl⟩
abbrev main_call8_v3 : Ref sig .tc := ⟨.hbm, 205, rfl⟩
abbrev main_call8_cst_0 : Ref sig .tc := ⟨.hbm, 206, rfl⟩
abbrev main_call8_v4 : Ref sig .tc := ⟨.hbm, 207, rfl⟩
abbrev main_call8_v5 : Ref sig .tc := ⟨.hbm, 208, rfl⟩
abbrev main_v126 : Ref sig .tc := ⟨.hbm, 209, rfl⟩
abbrev main_v127 : Ref sig .tc := ⟨.hbm, 210, rfl⟩
abbrev main_v128 : Ref sig .tc := ⟨.hbm, 211, rfl⟩
abbrev main_v129 : Ref sig .tc := ⟨.hbm, 212, rfl⟩
abbrev main_v130 : Ref sig .tc := ⟨.hbm, 213, rfl⟩
abbrev main_v131 : Ref sig .tc := ⟨.hbm, 214, rfl⟩
abbrev main_v132 : Ref sig .tc := ⟨.hbm, 215, rfl⟩
abbrev main_v133 : Ref sig .tc := ⟨.hbm, 216, rfl⟩
abbrev main_v134 : Ref sig .tc := ⟨.hbm, 217, rfl⟩
abbrev main_v135 : Ref sig .tc := ⟨.hbm, 218, rfl⟩
abbrev main_v136 : Ref sig .tc := ⟨.hbm, 219, rfl⟩
abbrev main_v137 : Ref sig .tc := ⟨.hbm, 220, rfl⟩
abbrev main_v138 : Ref sig .tc := ⟨.hbm, 221, rfl⟩
abbrev main_v139 : Ref sig .tc := ⟨.hbm, 222, rfl⟩
abbrev main_v140 : Ref sig .tc := ⟨.hbm, 223, rfl⟩
abbrev main_v141 : Ref sig .tc := ⟨.hbm, 224, rfl⟩
abbrev main_v142 : Ref sig .tc := ⟨.hbm, 225, rfl⟩
abbrev main_v143 : Ref sig .tc := ⟨.hbm, 226, rfl⟩
abbrev main_v144 : Ref sig .tc := ⟨.hbm, 227, rfl⟩
abbrev main_v145 : Ref sig .tc := ⟨.hbm, 228, rfl⟩
abbrev main_v146 : Ref sig .tc := ⟨.hbm, 229, rfl⟩
abbrev main_v147 : Ref sig .tc := ⟨.hbm, 230, rfl⟩
abbrev main_v148 : Ref sig .tc := ⟨.hbm, 231, rfl⟩

abbrev nD : Nat := 1
abbrev τ : Topo := Topo.v7x

variable {F : FTy → Type} [FloatOps F]
-- ==== Kernel3.lean ====
abbrev S2176x8x1024 : Shape := ⟨3, ![2176, 8, 1024]⟩
abbrev S17408x1024 : Shape := ⟨2, ![17408, 1024]⟩
abbrev S130x1024 : Shape := ⟨2, ![130, 1024]⟩
abbrev S1024x2816 : Shape := ⟨2, ![1024, 2816]⟩
abbrev S2816x1024 : Shape := ⟨2, ![2816, 1024]⟩
abbrev S2x1024 : Shape := ⟨2, ![2, 1024]⟩
abbrev S2x32x1024 : Shape := ⟨3, ![2, 32, 1024]⟩
abbrev S64x1024 : Shape := ⟨2, ![64, 1024]⟩
abbrev S128x1024 : Shape := ⟨2, ![128, 1024]⟩
abbrev S192x1024 : Shape := ⟨2, ![192, 1024]⟩
abbrev S192x1x1024 : Shape := ⟨3, ![192, 1, 1024]⟩
abbrev S32x8x1024 : Shape := ⟨3, ![32, 8, 1024]⟩
abbrev S256x1024 : Shape := ⟨2, ![256, 1024]⟩
abbrev S32x1x1024 : Shape := ⟨3, ![32, 1, 1024]⟩
abbrev S1024x1408 : Shape := ⟨2, ![1024, 1408]⟩
abbrev S256x1408 : Shape := ⟨2, ![256, 1408]⟩
abbrev S1408x1024 : Shape := ⟨2, ![1408, 1024]⟩

abbrev nBuf : Space → Nat
  | .hbm => 17
  | .vmem => 11
  | .smem => 0
  | _ => 0

abbrev bufTy : (tb : Table) → Fin (tcTables nBuf tb) → BufTy
  | .hbm, ⟨0, _⟩ => ⟨S2176x8x1024, .f32⟩
  | .hbm, ⟨1, _⟩ => ⟨S17408x1024, .f32⟩
  | .hbm, ⟨2, _⟩ => ⟨S130x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S17408x1024, .bf16⟩
  | .hbm, ⟨7, _⟩ => ⟨S2x1024, .f32⟩
  | .hbm, ⟨8, _⟩ => ⟨S2x32x1024, .f32⟩
  | .hbm, ⟨9, _⟩ => ⟨S64x1024, .f32⟩
  | .hbm, ⟨10, _⟩ => ⟨S128x1024, .f32⟩
  | .hbm, ⟨11, _⟩ => ⟨S192x1024, .f32⟩
  | .hbm, ⟨12, _⟩ => ⟨S192x1x1024, .f32⟩
  | .hbm, ⟨13, _⟩ => ⟨S1024x2816, .bf16⟩
  | .hbm, ⟨14, _⟩ => ⟨S1024x2816, .bf16⟩
  | .hbm, ⟨15, _⟩ => ⟨S2816x1024, .bf16⟩
  | .hbm, ⟨16, _⟩ => ⟨S2176x8x1024, .f32⟩
  | .local _ .vmem, ⟨0, _⟩ => ⟨S32x8x1024, .f32⟩
  | .local _ .vmem, ⟨1, _⟩ => ⟨S32x8x1024, .f32⟩
  | .local _ .vmem, ⟨2, _⟩ => ⟨S256x1024, .bf16⟩
  | .local _ .vmem, ⟨3, _⟩ => ⟨S256x1024, .bf16⟩
  | .local _ .vmem, ⟨4, _⟩ => ⟨S32x1x1024, .f32⟩
  | .local _ .vmem, ⟨5, _⟩ => ⟨S32x1x1024, .f32⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S32x8x1024, .f32⟩
  | .local _ .vmem, ⟨10, _⟩ => ⟨S32x8x1024, .f32⟩
  | _, _ => ⟨S2176x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![68], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c64_i32 : BitVec 32 := 64#32
  let v0 : BitVec 1 := Scalar.cmpi .slt arg0 c64_i32
  let c32_i32 : BitVec 32 := 32#32
  let v1 : BitVec 32 := Scalar.divsi arg0 c32_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c64_i32_4 : BitVec 32 := 64#32
  let v18 : BitVec 32 := Scalar.subi arg0 c64_i32_4
  let c2_i32 : BitVec 32 := 2#32
  let v19 : BitVec 32 := Scalar.addi c2_i32 v18
  let v20 : BitVec 32 := Scalar.select v0 v17 v19
  let c0_i32_5 : BitVec 32 := 0#32
  let c0_i32_6 : BitVec 32 := 0#32
  let c0_i32_7 : BitVec 32 := 0#32
  ![v20.toNat, c0_i32_5.toNat, c0_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S32x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S2176x8x1024 : Shape := ⟨3, ![2176, 8, 1024]⟩
abbrev S17408x1024 : Shape := ⟨2, ![17408, 1024]⟩
abbrev S130x1024 : Shape := ⟨2, ![130, 1024]⟩
abbrev S1024x2816 : Shape := ⟨2, ![1024, 2816]⟩
abbrev S2816x1024 : Shape := ⟨2, ![2816, 1024]⟩
abbrev S2x1024 : Shape := ⟨2, ![2, 1024]⟩
abbrev S2x1x1024 : Shape := ⟨3, ![2, 1, 1024]⟩
abbrev S2x8192x1024 : Shape := ⟨3, ![2, 8192, 1024]⟩
abbrev S16384x1024 : Shape := ⟨2, ![16384, 1024]⟩
abbrev S128x1024 : Shape := ⟨2, ![128, 1024]⟩
abbrev S128x1x1024 : Shape := ⟨3, ![128, 1, 1024]⟩
abbrev S128x8x1024 : Shape := ⟨3, ![128, 8, 1024]⟩
abbrev S1024x1024 : Shape := ⟨2, ![1024, 1024]⟩
abbrev S17408x2816 : Shape := ⟨2, ![17408, 2816]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S2176x8x1024, .f32⟩
  | .hbm, ⟨1, _⟩ => ⟨S17408x1024, .f32⟩
  | .hbm, ⟨2, _⟩ => ⟨S130x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S2x1024, .f32⟩
  | .hbm, ⟨7, _⟩ => ⟨S2x1x1024, .f32⟩
  | .hbm, ⟨8, _⟩ => ⟨S2x8192x1024, .f32⟩
  | .hbm, ⟨9, _⟩ => ⟨S16384x1024, .f32⟩
  | .hbm, ⟨10, _⟩ => ⟨S128x1024, .f32⟩
  | .hbm, ⟨11, _⟩ => ⟨S128x1x1024, .f32⟩
  | .hbm, ⟨12, _⟩ => ⟨S128x8x1024, .f32⟩
  | .hbm, ⟨13, _⟩ => ⟨S1024x1024, .f32⟩
  | .hbm, ⟨14, _⟩ => ⟨S17408x1024, .f32⟩
  | .hbm, ⟨15, _⟩ => ⟨S17408x2816, .f32⟩
  | .hbm, ⟨16, _⟩ => ⟨S17408x2816, .f32⟩
  | .hbm, ⟨17, _⟩ => ⟨S17408x2816, .f32⟩
  | .hbm, ⟨18, _⟩ => ⟨S_, .f32⟩
  | .hbm, ⟨19, _⟩ => ⟨S17408x2816, .f32⟩
  | .hbm, ⟨20, _⟩ => ⟨S17408x2816, .f32⟩
  | .hbm, ⟨21, _⟩ => ⟨S_, .f32⟩
  | .hbm, ⟨22, _⟩ => ⟨S17408x2816, .f32⟩
  | .hbm, ⟨23, _⟩ => ⟨S17408x2816, .f32⟩
  | .hbm, ⟨24, _⟩ => ⟨S17408x2816, .f32⟩
  | .hbm, ⟨25, _⟩ => ⟨S17408x2816, .f32⟩
  | .hbm, ⟨26, _⟩ => ⟨S17408x2816, .f32⟩
  | .hbm, ⟨27, _⟩ => ⟨S17408x1024, .f32⟩
  | .hbm, ⟨28, _⟩ => ⟨S17408x1024, .f32⟩
  | .hbm, ⟨29, _⟩ => ⟨S2176x8x1024, .f32⟩
  | .hbm, ⟨30, _⟩ => ⟨S2176x8x1024, .f32⟩
  | _, _ => ⟨S2176x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩

abbrev nD : Nat := 1
abbrev τ : Topo := Topo.v7x

variable {F : FTy → Type} [FloatOps F]
-- ==== Kernel4.lean ====
abbrev S2176x8x1024 : Shape := ⟨3, ![2176, 8, 1024]⟩
abbrev S130x1024 : Shape := ⟨2, ![130, 1024]⟩
abbrev S1024 : Shape := ⟨1, ![1024]⟩
abbrev S1024x3664 : Shape := ⟨2, ![1024, 3664]⟩
abbrev S128 : Shape := ⟨1, ![128]⟩
abbrev S1024x1024 : Shape := ⟨2, ![1024, 1024]⟩
abbrev S1024x512 : Shape := ⟨2, ![1024, 512]⟩
abbrev S1024x8x1x64 : Shape := ⟨4, ![1024, 8, 1, 64]⟩
abbrev S1024x8x2x64 : Shape := ⟨4, ![1024, 8, 2, 64]⟩
abbrev S1024x64 : Shape := ⟨2, ![1024, 64]⟩
abbrev S1024x8 : Shape := ⟨2, ![1024, 8]⟩
abbrev S1024x4 : Shape := ⟨2, ![1024, 4]⟩
abbrev S_ : Shape := ⟨0, ![]⟩
abbrev S1024x112 : Shape := ⟨2, ![1024, 112]⟩
abbrev S1024x128 : Shape := ⟨2, ![1024, 128]⟩
abbrev S1024x1280 : Shape := ⟨2, ![1024, 1280]⟩
abbrev S1024x2048 : Shape := ⟨2, ![1024, 2048]⟩
abbrev S8192 : Shape := ⟨1, ![8192]⟩
abbrev S256 : Shape := ⟨1, ![256]⟩
abbrev S8448 : Shape := ⟨1, ![8448]⟩
abbrev S2x1024 : Shape := ⟨2, ![2, 1024]⟩
abbrev S2x32x1024 : Shape := ⟨3, ![2, 32, 1024]⟩
abbrev S64x1024 : Shape := ⟨2, ![64, 1024]⟩
abbrev S128x1024 : Shape := ⟨2, ![128, 1024]⟩
abbrev S192x1024 : Shape := ⟨2, ![192, 1024]⟩
abbrev S192x1x1024 : Shape := ⟨3, ![192, 1, 1024]⟩
abbrev S1x1024 : Shape := ⟨2, ![1, 1024]⟩
abbrev S1x128 : Shape := ⟨2, ![1, 128]⟩
abbrev S8448x1 : Shape := ⟨2, ![8448, 1]⟩
abbrev S64 : Shape := ⟨1, ![64]⟩
abbrev S1x64 : Shape := ⟨2, ![1, 64]⟩
abbrev S8448x64 : Shape := ⟨2, ![8448, 64]⟩
abbrev S8448x128 : Shape := ⟨2, ![8448, 128]⟩
abbrev S32 : Shape := ⟨1, ![32]⟩
abbrev S1x32 : Shape := ⟨2, ![1, 32]⟩
abbrev S8448x32 : Shape := ⟨2, ![8448, 32]⟩
abbrev S17408x512 : Shape := ⟨2, ![17408, 512]⟩
abbrev S17408x256 : Shape := ⟨2, ![17408, 256]⟩
abbrev S8x17408x256 : Shape := ⟨3, ![8, 17408, 256]⟩
abbrev S17408x64 : Shape := ⟨2, ![17408, 64]⟩
abbrev S17408x128 : Shape := ⟨2, ![17408, 128]⟩
abbrev S17408x1536 : Shape := ⟨2, ![17408, 1536]⟩
abbrev S32x8x1024 : Shape := ⟨3, ![32, 8, 1024]⟩
abbrev S32x1x1024 : Shape := ⟨3, ![32, 1, 1024]⟩
abbrev S256x128 : Shape := ⟨2, ![256, 128]⟩
abbrev S256x512 : Shape := ⟨2, ![256, 512]⟩
abbrev S256x256 : Shape := ⟨2, ![256, 256]⟩
abbrev S8x256x256 : Shape := ⟨3, ![8, 256, 256]⟩
abbrev S256x64 : Shape := ⟨2, ![256, 64]⟩
abbrev S256x1536 : Shape := ⟨2, ![256, 1536]⟩
abbrev S32x8 : Shape := ⟨2, ![32, 8]⟩
abbrev S32x8x1 : Shape := ⟨3, ![32, 8, 1]⟩
abbrev S1x1x1024 : Shape := ⟨3, ![1, 1, 1024]⟩
abbrev S256x1024 : Shape := ⟨2, ![256, 1024]⟩
abbrev S256x1280 : Shape := ⟨2, ![256, 1280]⟩
abbrev S256x2048 : Shape := ⟨2, ![256, 2048]⟩
abbrev S256x1 : Shape := ⟨2, ![256, 1]⟩
abbrev S1x256x128 : Shape := ⟨3, ![1, 256, 128]⟩

abbrev nBuf : Space → Nat
  | .hbm => 121
  | .vmem => 45
  | .smem => 0
  | _ => 0

abbrev bufTy : (tb : Table) → Fin (tcTables nBuf tb) → BufTy
  | .hbm, ⟨0, _⟩ => ⟨S2176x8x1024, .f32⟩
  | .hbm, ⟨1, _⟩ => ⟨S130x1024, .f32⟩
  | .hbm, ⟨2, _⟩ => ⟨S130x1024, .f32⟩
  | .hbm, ⟨3, _⟩ => ⟨S1024, .f32⟩
  | .hbm, ⟨4, _⟩ => ⟨S1024x3664, .f32⟩
  | .hbm, ⟨5, _⟩ => ⟨S128, .f32⟩
  | .hbm, ⟨6, _⟩ => ⟨S128, .f32⟩
  | .hbm, ⟨7, _⟩ => ⟨S1024x1024, .f32⟩
  | .hbm, ⟨8, _⟩ => ⟨S1024x1024, .bf16⟩
  | .hbm, ⟨9, _⟩ => ⟨S1024x512, .f32⟩
  | .hbm, ⟨10, _⟩ => ⟨S1024x8x1x64, .f32⟩
  | .hbm, ⟨11, _⟩ => ⟨S1024x8x2x64, .f32⟩
  | .hbm, ⟨12, _⟩ => ⟨S1024x1024, .f32⟩
  | .hbm, ⟨13, _⟩ => ⟨S1024x64, .f32⟩
  | .hbm, ⟨14, _⟩ => ⟨S1024x8, .f32⟩
  | .hbm, ⟨15, _⟩ => ⟨S1024x4, .f32⟩
  | .hbm, ⟨16, _⟩ => ⟨S1024x4, .f32⟩
  | .hbm, ⟨17, _⟩ => ⟨S_, .f32⟩
  | .hbm, ⟨18, _⟩ => ⟨S1024x112, .f32⟩
  | .hbm, ⟨19, _⟩ => ⟨S1024x128, .f32⟩
  | .hbm, ⟨20, _⟩ => ⟨S1024x1280, .f32⟩
  | .hbm, ⟨21, _⟩ => ⟨S1024x1280, .bf16⟩
  | .hbm, ⟨22, _⟩ => ⟨S1024x1280, .f32⟩
  | .hbm, ⟨23, _⟩ => ⟨S1024x1280, .f32⟩
  | .hbm, ⟨24, _⟩ => ⟨S1024x1280, .bf16⟩
  | .hbm, ⟨25, _⟩ => ⟨S1024x2048, .f32⟩
  | .hbm, ⟨26, _⟩ => ⟨S1024x2048, .bf16⟩
  | .hbm, ⟨27, _⟩ => ⟨S8192, .i32⟩
  | .hbm, ⟨28, _⟩ => ⟨S256, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S256, .i32⟩
  | .hbm, ⟨36, _⟩ => ⟨S256, .i32⟩
  | .hbm, ⟨37, _⟩ => ⟨S_, .i32⟩
  | .hbm, ⟨38, _⟩ => ⟨S256, .i32⟩
  | .hbm, ⟨39, _⟩ => ⟨S256, .i1⟩
  | .hbm, ⟨40, _⟩ => ⟨S_, .i32⟩
  | .hbm, ⟨41, _⟩ => ⟨S256, .i32⟩
  | .hbm, ⟨42, _⟩ => ⟨S256, .i1⟩
  | .hbm, ⟨43, _⟩ => ⟨S_, .i32⟩
  | .hbm, ⟨44, _⟩ => ⟨S_, .i1⟩
  | .hbm, ⟨45, _⟩ => ⟨S256, .i1⟩
  | .hbm, ⟨46, _⟩ => ⟨S256, .i1⟩
  | .hbm, ⟨47, _⟩ => ⟨S256, .i1⟩
  | .hbm, ⟨48, _⟩ => ⟨S256, .i32⟩
  | .hbm, ⟨49, _⟩ => ⟨S256, .i32⟩
  | .hbm, ⟨50, _⟩ => ⟨S256, .i32⟩
  | .hbm, ⟨51, _⟩ => ⟨S_, .i32⟩
  | .hbm, ⟨52, _⟩ => ⟨S256, .i32⟩
  | .hbm, ⟨53, _⟩ => ⟨S256, .i32⟩
  | .hbm, ⟨54, _⟩ => ⟨S8448, .i32⟩
  | .hbm, ⟨55, _⟩ => ⟨S2x1024, .f32⟩
  | .hbm, ⟨56, _⟩ => ⟨S2x32x1024, .f32⟩
  | .hbm, ⟨57, _⟩ => ⟨S64x1024, .f32⟩
  | .hbm, ⟨58, _⟩ => ⟨S128x1024, .f32⟩
  | .hbm, ⟨59, _⟩ => ⟨S192x1024, .f32⟩
  | .hbm, ⟨60, _⟩ => ⟨S192x1x1024, .f32⟩
  | .hbm, ⟨61, _⟩ => ⟨S2x1024, .f32⟩
  | .hbm, ⟨62, _⟩ => ⟨S2x32x1024, .f32⟩
  | .hbm, ⟨63, _⟩ => ⟨S64x1024, .f32⟩
  | .hbm, ⟨64, _⟩ => ⟨S128x1024, .f32⟩
  | .hbm, ⟨65, _⟩ => ⟨S192x1024, .f32⟩
  | .hbm, ⟨66, _⟩ => ⟨S192x1x1024, .f32⟩
  | .hbm, ⟨67, _⟩ => ⟨S1x1024, .f32⟩
  | .hbm, ⟨68, _⟩ => ⟨S1x128, .f32⟩
  | .hbm, ⟨69, _⟩ => ⟨S1x128, .f32⟩
  | .hbm, ⟨70, _⟩ => ⟨S8448, .f32⟩
  | .hbm, ⟨71, _⟩ => ⟨S8448x1, .f32⟩
  | .hbm, ⟨72, _⟩ => ⟨S64, .f32⟩
  | .hbm, ⟨73, _⟩ => ⟨S64, .f32⟩
  | .hbm, ⟨74, _⟩ => ⟨S_, .f32⟩
  | .hbm, ⟨75, _⟩ => ⟨S64, .f32⟩
  | .hbm, ⟨76, _⟩ => ⟨S64, .f32⟩
  | .hbm, ⟨77, _⟩ => ⟨S_, .f32⟩
  | .hbm, ⟨78, _⟩ => ⟨S64, .f32⟩
  | .hbm, ⟨79, _⟩ => ⟨S64, .f32⟩
  | .hbm, ⟨80, _⟩ => ⟨S1x64, .f32⟩
  | .hbm, ⟨81, _⟩ => ⟨S8448x64, .f32⟩
  | .hbm, ⟨82, _⟩ => ⟨S8448x64, .f32⟩
  | .hbm, ⟨83, _⟩ => ⟨S8448x64, .f32⟩
  | .hbm, ⟨84, _⟩ => ⟨S8448x64, .f32⟩
  | .hbm, ⟨85, _⟩ => ⟨S8448x64, .f32⟩
  | .hbm, ⟨86, _⟩ => ⟨S8448x128, .f32⟩
  | .hbm, ⟨87, _⟩ => ⟨S8448x64, .f32⟩
  | .hbm, ⟨88, _⟩ => ⟨S8448x128, .f32⟩
  | .hbm, ⟨89, _⟩ => ⟨S32, .f32⟩
  | .hbm, ⟨90, _⟩ => ⟨S32, .f32⟩
  | .hbm, ⟨91, _⟩ => ⟨S_, .f32⟩
  | .hbm, ⟨92, _⟩ => ⟨S32, .f32⟩
  | .hbm, ⟨93, _⟩ => ⟨S32, .f32⟩
  | .hbm, ⟨94, _⟩ => ⟨S_, .f32⟩
  | .hbm, ⟨95, _⟩ => ⟨S32, .f32⟩
  | .hbm, ⟨96, _⟩ => ⟨S32, .f32⟩
  | .hbm, ⟨97, _⟩ => ⟨S1x32, .f32⟩
  | .hbm, ⟨98, _⟩ => ⟨S8448x32, .f32⟩
  | .hbm, ⟨99, _⟩ => ⟨S8448x32, .f32⟩
  | .hbm, ⟨100, _⟩ => ⟨S8448x32, .f32⟩
  | .hbm, ⟨101, _⟩ => ⟨S8448x32, .f32⟩
  | .hbm, ⟨102, _⟩ => ⟨S8448x32, .f32⟩
  | .hbm, ⟨103, _⟩ => ⟨S_, .f32⟩
  | .hbm, ⟨104, _⟩ => ⟨S8448x32, .f32⟩
  | .hbm, ⟨105, _⟩ => ⟨S8448x128, .f32⟩
  | .hbm, ⟨106, _⟩ => ⟨S8448x32, .f32⟩
  | .hbm, ⟨107, _⟩ => ⟨S8448x32, .f32⟩
  | .hbm, ⟨108, _⟩ => ⟨S8448x128, .f32⟩
  | .hbm, ⟨109, _⟩ => ⟨S8448x128, .f32⟩
  | .hbm, ⟨110, _⟩ => ⟨S17408x512, .bf16⟩
  | .hbm, ⟨111, _⟩ => ⟨S17408x256, .f32⟩
  | .hbm, ⟨112, _⟩ => ⟨S17408x256, .f32⟩
  | .hbm, ⟨113, _⟩ => ⟨S17408x256, .bf16⟩
  | .hbm, ⟨114, _⟩ => ⟨S17408x256, .bf16⟩
  | .hbm, ⟨115, _⟩ => ⟨S8x17408x256, .bf16⟩
  | .hbm, ⟨116, _⟩ => ⟨S17408x64, .f32⟩
  | .hbm, ⟨117, _⟩ => ⟨S17408x256, .bf16⟩
  | .hbm, ⟨118, _⟩ => ⟨S17408x128, .f32⟩
  | .hbm, ⟨119, _⟩ => ⟨S17408x1536, .f32⟩
  | .hbm, ⟨120, _⟩ => ⟨S17408x512, .f32⟩
  | .local _ .vmem, ⟨0, _⟩ => ⟨S32x8x1024, .f32⟩
  | .local _ .vmem, ⟨1, _⟩ => ⟨S32x8x1024, .f32⟩
  | .local _ .vmem, ⟨2, _⟩ => ⟨S32x1x1024, .f32⟩
  | .local _ .vmem, ⟨3, _⟩ => ⟨S32x1x1024, .f32⟩
  | .local _ .vmem, ⟨4, _⟩ => ⟨S32x1x1024, .f32⟩
  | .local _ .vmem, ⟨5, _⟩ => ⟨S32x1x1024, .f32⟩
  | .local _ .vmem, ⟨6, _⟩ => ⟨S1x1024, .f32⟩
  | .local _ .vmem, ⟨7, _⟩ => ⟨S1024x1024, .bf16⟩
  | .local _ .vmem, ⟨8, _⟩ => ⟨S1024x1280, .bf16⟩
  | .local _ .vmem, ⟨9, _⟩ => ⟨S1024x1280, .bf16⟩
  | .local _ .vmem, ⟨10, _⟩ => ⟨S1024x2048, .bf16⟩
  | .local _ .vmem, ⟨11, _⟩ => ⟨S1x128, .f32⟩
  | .local _ .vmem, ⟨12, _⟩ => ⟨S1x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S256x128, .f32⟩
  | .local _ .vmem, ⟨23, _⟩ => ⟨S256x512, .bf16⟩
  | .local _ .vmem, ⟨24, _⟩ => ⟨S256x512, .bf16⟩
  | .local _ .vmem, ⟨25, _⟩ => ⟨S256x256, .f32⟩
  | .local _ .vmem, ⟨26, _⟩ => ⟨S256x256, .f32⟩
  | .local _ .vmem, ⟨27, _⟩ => ⟨S256x256, .f32⟩
  | .local _ .vmem, ⟨28, _⟩ => ⟨S256x256, .f32⟩
  | .local _ .vmem, ⟨29, _⟩ => ⟨S256x256, .bf16⟩
  | .local _ .vmem, ⟨30, _⟩ => ⟨S256x256, .bf16⟩
  | .local _ .vmem, ⟨31, _⟩ => ⟨S256x256, .bf16⟩
  | .local _ .vmem, ⟨32, _⟩ => ⟨S256x256, .bf16⟩
  | .local _ .vmem, ⟨33, _⟩ => ⟨S8x256x256, .bf16⟩
  | .local _ .vmem, ⟨34, _⟩ => ⟨S8x256x256, .bf16⟩
  | .local _ .vmem, ⟨35, _⟩ => ⟨S256x64, .f32⟩
  | .local _ .vmem, ⟨36, _⟩ => ⟨S256x64, .f32⟩
  | .local _ .vmem, ⟨37, _⟩ => ⟨S256x256, .bf16⟩
  | .local _ .vmem, ⟨38, _⟩ => ⟨S256x256, .bf16⟩
  | .local _ .vmem, ⟨39, _⟩ => ⟨S256x128, .f32⟩
  | .local _ .vmem, ⟨40, _⟩ => ⟨S256x128, .f32⟩
  | .local _ .vmem, ⟨41, _⟩ => ⟨S256x1536, .f32⟩
  | .local _ .vmem, ⟨42, _⟩ => ⟨S256x1536, .f32⟩
  | .local _ .vmem, ⟨43, _⟩ => ⟨S256x512, .f32⟩
  | .local _ .vmem, ⟨44, _⟩ => ⟨S256x512, .f32⟩
  | _, _ => ⟨S2176x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c : Ref sig .tc := ⟨.hbm, 29, rfl⟩
abbrev main_call0_v0 : Ref sig .tc := ⟨.hbm, 30, rfl⟩
abbrev main_call0_c : Ref sig .tc := ⟨.hbm, 31, rfl⟩
abbrev main_call0_v1 : Ref sig .tc := ⟨.hbm, 32, rfl⟩
abbrev main_call0_c_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_c_1 : Ref sig .tc := ⟨.hbm, 37, rfl⟩
abbrev main_call0_v5 : Ref sig .tc := ⟨.hbm, 38, rfl⟩
abbrev main_call0_v6 : Ref sig .tc := ⟨.hbm, 39, rfl⟩
abbrev main_call0_c_2 : Ref sig .tc := ⟨.hbm, 40, rfl⟩
abbrev main_call0_v7 : Ref sig .tc := ⟨.hbm, 41, rfl⟩
abbrev main_call0_v8 : Ref sig .tc := ⟨.hbm, 42, rfl⟩
abbrev main_call0_c_3 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_v12 : Ref sig .tc := ⟨.hbm, 47, rfl⟩
abbrev main_call0_v13 : Ref sig .tc := ⟨.hbm, 48, rfl⟩
abbrev main_call0_v14 : Ref sig .tc := ⟨.hbm, 49, rfl⟩
abbrev main_v21 : Ref sig .tc := ⟨.hbm, 50, rfl⟩
abbrev main_c_0 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_1 : Ref sig .tc := ⟨.hbm, 74, rfl⟩
abbrev main_v44 : Ref sig .tc := ⟨.hbm, 75, rfl⟩
abbrev main_v45 : Ref sig .tc := ⟨.hbm, 76, rfl⟩
abbrev main_cst_2 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_3 : Ref sig .tc := ⟨.hbm, 91, rfl⟩
abbrev main_v59 : Ref sig .tc := ⟨.hbm, 92, rfl⟩
abbrev main_v60 : Ref sig .tc := ⟨.hbm, 93, rfl⟩
abbrev main_cst_4 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_5 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75_0 : Ref sig .tc := ⟨.hbm, 110, rfl⟩
abbrev main_v75_1 : Ref sig .tc := ⟨.hbm, 111, rfl⟩
abbrev main_v75_2 : Ref sig .tc := ⟨.hbm, 112, rfl⟩
abbrev main_v75_3 : Ref sig .tc := ⟨.hbm, 113, rfl⟩
abbrev main_v75_4 : Ref sig .tc := ⟨.hbm, 114, rfl⟩
abbrev main_v75_5 : Ref sig .tc := ⟨.hbm, 115, rfl⟩
abbrev main_v75_6 : Ref sig .tc := ⟨.hbm, 116, rfl⟩
abbrev main_v75_7 : Ref sig .tc := ⟨.hbm, 117, rfl⟩
abbrev main_v75_8 : Ref sig .tc := ⟨.hbm, 118, rfl⟩
abbrev main_v75_9 : Ref sig .tc := ⟨.hbm, 119, rfl⟩
abbrev main_v75_10 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg21_1 : Ref sig .tc := ⟨.vmem, 36, rfl⟩
abbrev cc0_stg22_0 : Ref sig .tc := ⟨.vmem, 37, rfl⟩
abbrev cc0_stg22_1 : Ref sig .tc := ⟨.vmem, 38, rfl⟩
abbrev cc0_stg23_0 : Ref sig .tc := ⟨.vmem, 39, rfl⟩
abbrev cc0_stg23_1 : Ref sig .tc := ⟨.vmem, 40, rfl⟩
abbrev cc0_stg24_0 : Ref sig .tc := ⟨.vmem, 41, rfl⟩
abbrev cc0_stg24_1 : Ref sig .tc := ⟨.vmem, 42, rfl⟩
abbrev cc0_stg25_0 : Ref sig .tc := ⟨.vmem, 43, rfl⟩
abbrev cc0_stg25_1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem21_1 : DmaSem sig := 36
abbrev cc0_sem22_0 : DmaSem sig := 37
abbrev cc0_sem22_1 : DmaSem sig := 38
abbrev cc0_sem23_0 : DmaSem sig := 39
abbrev cc0_sem23_1 : DmaSem sig := 40
abbrev cc0_sem24_0 : DmaSem sig := 41
abbrev cc0_sem24_1 : DmaSem sig := 42
abbrev cc0_sem25_0 : DmaSem sig := 43
abbrev cc0_sem25_1 : DmaSem sig := 44

abbrev nD : Nat := 1
abbrev τ : Topo := Topo.v7x

variable {F : FTy → Type} [FloatOps F]

abbrev grid0 : Pipeline.Grid := ⟨1, ![68], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c64_i32 : BitVec 32 := 64#32
  let v0 : BitVec 1 := Scalar.cmpi .slt arg0 c64_i32
  let c32_i32 : BitVec 32 := 32#32
  let v1 : BitVec 32 := Scalar.divsi arg0 c32_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c64_i32_4 : BitVec 32 := 64#32
  let v18 : BitVec 32 := Scalar.subi arg0 c64_i32_4
  let c2_i32 : BitVec 32 := 2#32
  let v19 : BitVec 32 := Scalar.addi c2_i32 v18
  let v20 : BitVec 32 := Scalar.select v0 v17 v19
  let c0_i32_5 : BitVec 32 := 0#32
  let c0_i32_6 : BitVec 32 := 0#32
  let c0_i32_7 : BitVec 32 := 0#32
  ![v20.toNat, c0_i32_5.toNat, c0_i32_6.toNat]

def cc0_transform_2 (i : grid0.Coords) : Fin 3 → Nat :=
  let arg0 : BitVec 32 := BitVec.ofNat 32 (i 0).val
  let c64_i32 : BitVec 32 := 64#32
  let v0 : BitVec 1 := Scalar.cmpi .slt arg0 c64_i32
  let c32_i32 : BitVec 32 := 32#32
  let v1 : BitVec 32 := Scalar.divsi arg0 c32_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c64_i32_4 : BitVec 32 := 64#32
  let v18 : BitVec 32 := Scalar.subi arg0 c64_i32_4
  let c2_i32 : BitVec 32 := 2#32
  let v19 : BitVec 32 := Scalar.addi c2_i32 v18
  let v20 : BitVec 32 := Scalar.select v0 v17 v19
  let c0_i32_5 : BitVec 32 := 0#32
  let c0_i32_6 : BitVec 32 := 0#32
  let c0_i32_7 : BitVec 32 := 0#32
  ![v20.toNat, c0_i32_5.toNat, c0_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c64_i32 : BitVec 32 := 64#32
  let v0 : BitVec 1 := Scalar.cmpi .slt arg0 c64_i32
  let c32_i32 : BitVec 32 := 32#32
  let c0_i32 : BitVec 32 := 0#32
  let v1 : BitVec 1 := Scalar.cmpi .eq c32_i32 c0_i32
  let c1_i32 : BitVec 32 := 1#32
  let v2 : BitVec 32 := Scalar.select v1 c1_i32 c32_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c32_i32_3 : BitVec 32 := 32#32
  let v11 : BitVec 32 := Scalar.select v0 v10 c32_i32_3
  let c0_i32_4 : BitVec 32 := 0#32
  let c0_i32_5 : BitVec 32 := 0#32
  ![v11.toNat, c0_i32_4.toNat]

def cc0_transform_11 (i : grid0.Coords) : Fin 2 → Nat :=
  let arg0 : BitVec 32 := BitVec.ofNat 32 (i 0).val
  let c64_i32 : BitVec 32 := 64#32
  let v0 : BitVec 1 := Scalar.cmpi .slt arg0 c64_i32
  let c32_i32 : BitVec 32 := 32#32
  let c0_i32 : BitVec 32 := 0#32
  let v1 : BitVec 1 := Scalar.cmpi .eq c32_i32 c0_i32
  let c1_i32 : BitVec 32 := 1#32
  let v2 : BitVec 32 := Scalar.select v1 c1_i32 c32_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c32_i32_3 : BitVec 32 := 32#32
  let v11 : BitVec 32 := Scalar.select v0 v10 c32_i32_3
  let c0_i32_4 : BitVec 32 := 0#32
  let c0_i32_5 : BitVec 32 := 0#32
  ![v11.toNat, c0_i32_4.toNat]

def cc0_transform_12 (i : grid0.Coords) : Fin 2 → Nat :=
  let arg0 : BitVec 32 := BitVec.ofNat 32 (i 0).val
  let c64_i32 : BitVec 32 := 64#32
  let v0 : BitVec 1 := Scalar.cmpi .slt arg0 c64_i32
  let c32_i32 : BitVec 32 := 32#32
  let c0_i32 : BitVec 32 := 0#32
  let v1 : BitVec 1 := Scalar.cmpi .eq c32_i32 c0_i32
  let c1_i32 : BitVec 32 := 1#32
  let v2 : BitVec 32 := Scalar.select v1 c1_i32 c32_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c32_i32_3 : BitVec 32 := 32#32
  let v11 : BitVec 32 := Scalar.select v0 v10 c32_i32_3
  let c0_i32_4 : BitVec 32 := 0#32
  let c0_i32_5 : BitVec 32 := 0#32
  ![v11.toNat, c0_i32_4.toNat]

def cc0_transform_13 (i : grid0.Coords) : Fin 2 → Nat :=
  let arg0 : BitVec 32 := BitVec.ofNat 32 (i 0).val
  let c64_i32 : BitVec 32 := 64#32
  let v0 : BitVec 1 := Scalar.cmpi .slt arg0 c64_i32
  let c32_i32 : BitVec 32 := 32#32
  let c0_i32 : BitVec 32 := 0#32
  let v1 : BitVec 1 := Scalar.cmpi .eq c32_i32 c0_i32
  let c1_i32 : BitVec 32 := 1#32
  let v2 : BitVec 32 := Scalar.select v1 c1_i32 c32_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c32_i32_3 : BitVec 32 := 32#32
  let v11 : BitVec 32 := Scalar.select v0 v10 c32_i32_3
  let c0_i32_4 : BitVec 32 := 0#32
  let c0_i32_5 : BitVec 32 := 0#32
  ![v11.toNat, c0_i32_4.toNat]

def cc0_transform_14 (i : grid0.Coords) : Fin 2 → Nat :=
  let arg0 : BitVec 32 := BitVec.ofNat 32 (i 0).val
  let c64_i32 : BitVec 32 := 64#32
  let v0 : BitVec 1 := Scalar.cmpi .slt arg0 c64_i32
  let c32_i32 : BitVec 32 := 32#32
  let c0_i32 : BitVec 32 := 0#32
  let v1 : BitVec 1 := Scalar.cmpi .eq c32_i32 c0_i32
  let c1_i32 : BitVec 32 := 1#32
  let v2 : BitVec 32 := Scalar.select v1 c1_i32 c32_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c32_i32_3 : BitVec 32 := 32#32
  let v11 : BitVec 32 := Scalar.select v0 v10 c32_i32_3
  let c0_i32_4 : BitVec 32 := 0#32
  let c0_i32_5 : BitVec 32 := 0#32
  ![v11.toNat, c0_i32_4.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1280 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1280 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S8x256x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x64 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x256 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x1536 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S256x512 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]
-- ==== Reference4Ideal.lean ====
abbrev S2176x8x1024 : Shape := ⟨3, ![2176, 8, 1024]⟩
abbrev S130x1024 : Shape := ⟨2, ![130, 1024]⟩
abbrev S1024 : Shape := ⟨1, ![1024]⟩
abbrev S1024x3664 : Shape := ⟨2, ![1024, 3664]⟩
abbrev S128 : Shape := ⟨1, ![128]⟩
abbrev S17408x1024 : Shape := ⟨2, ![17408, 1024]⟩
abbrev S_ : Shape := ⟨0, ![]⟩
abbrev S17408 : Shape := ⟨1, ![17408]⟩
abbrev S17408x1 : Shape := ⟨2, ![17408, 1]⟩
abbrev S1x1024 : Shape := ⟨2, ![1, 1024]⟩
abbrev S2x1024 : Shape := ⟨2, ![2, 1024]⟩
abbrev S2x1x1024 : Shape := ⟨3, ![2, 1, 1024]⟩
abbrev S2x8192x1024 : Shape := ⟨3, ![2, 8192, 1024]⟩
abbrev S16384x1024 : Shape := ⟨2, ![16384, 1024]⟩
abbrev S128x1024 : Shape := ⟨2, ![128, 1024]⟩
abbrev S128x1x1024 : Shape := ⟨3, ![128, 1, 1024]⟩
abbrev S128x8x1024 : Shape := ⟨3, ![128, 8, 1024]⟩
abbrev S1024x1024 : Shape := ⟨2, ![1024, 1024]⟩
abbrev S17408x3664 : Shape := ⟨2, ![17408, 3664]⟩
abbrev S8192 : Shape := ⟨1, ![8192]⟩
abbrev S1x8192 : Shape := ⟨2, ![1, 8192]⟩
abbrev S2x8192 : Shape := ⟨2, ![2, 8192]⟩
abbrev S16384 : Shape := ⟨1, ![16384]⟩
abbrev S8 : Shape := ⟨1, ![8]⟩
abbrev S1x8 : Shape := ⟨2, ![1, 8]⟩
abbrev S128x8 : Shape := ⟨2, ![128, 8]⟩
abbrev S17408x256 : Shape := ⟨2, ![17408, 256]⟩
abbrev S17408x2x128 : Shape := ⟨3, ![17408, 2, 128]⟩
abbrev S17408x2 : Shape := ⟨2, ![17408, 2]⟩
abbrev S17408x2x1 : Shape := ⟨3, ![17408, 2, 1]⟩
abbrev S1x1x128 : Shape := ⟨3, ![1, 1, 128]⟩
abbrev S64 : Shape := ⟨1, ![64]⟩
abbrev S1x64 : Shape := ⟨2, ![1, 64]⟩
abbrev S17408x64 : Shape := ⟨2, ![17408, 64]⟩
abbrev S17408x1x64 : Shape := ⟨3, ![17408, 1, 64]⟩
abbrev S17408x2x64 : Shape := ⟨3, ![17408, 2, 64]⟩
abbrev S17408x1536 : Shape := ⟨2, ![17408, 1536]⟩
abbrev S17408x512 : Shape := ⟨2, ![17408, 512]⟩

abbrev nBuf : Space → Nat
  | .hbm => 113
  | .vmem => 0
  | .smem => 0
  | _ => 0

abbrev bufTy : (tb : Table) → Fin (tcTables nBuf tb) → BufTy
  | .hbm, ⟨0, _⟩ => ⟨S2176x8x1024, .f32⟩
  | .hbm, ⟨1, _⟩ => ⟨S130x1024, .f32⟩
  | .hbm, ⟨2, _⟩ => ⟨S130x1024, .f32⟩
  | .hbm, ⟨3, _⟩ => ⟨S1024, .f32⟩
  | .hbm, ⟨4, _⟩ => ⟨S1024x3664, .f32⟩
  | .hbm, ⟨5, _⟩ => ⟨S128, .f32⟩
  | .hbm, ⟨6, _⟩ => ⟨S128, .f32⟩
  | .hbm, ⟨7, _⟩ => ⟨S17408x1024, .f32⟩
  | .hbm, ⟨8, _⟩ => ⟨S17408x1024, .f32⟩
  | .hbm, ⟨9, _⟩ => ⟨S_, .f32⟩
  | .hbm, ⟨10, _⟩ => ⟨S17408, .f32⟩
  | .hbm, ⟨11, _⟩ => ⟨S17408x1, .f32⟩
  | .hbm, ⟨12, _⟩ => ⟨S_, .f32⟩
  | .hbm, ⟨13, _⟩ => ⟨S17408x1, .f32⟩
  | .hbm, ⟨14, _⟩ => ⟨S17408x1, .f32⟩
  | .hbm, ⟨15, _⟩ => ⟨S_, .f32⟩
  | .hbm, ⟨16, _⟩ => ⟨S17408x1, .f32⟩
  | .hbm, ⟨17, _⟩ => ⟨S17408x1, .f32⟩
  | .hbm, ⟨18, _⟩ => ⟨S17408x1, .f32⟩
  | .hbm, ⟨19, _⟩ => ⟨S17408x1024, .f32⟩
  | .hbm, ⟨20, _⟩ => ⟨S17408x1024, .f32⟩
  | .hbm, ⟨21, _⟩ => ⟨S1x1024, .f32⟩
  | .hbm, ⟨22, _⟩ => ⟨S17408x1024, .f32⟩
  | .hbm, ⟨23, _⟩ => ⟨S17408x1024, .f32⟩
  | .hbm, ⟨24, _⟩ => ⟨S2x1024, .f32⟩
  | .hbm, ⟨25, _⟩ => ⟨S2x1x1024, .f32⟩
  | .hbm, ⟨26, _⟩ => ⟨S2x8192x1024, .f32⟩
  | .hbm, ⟨27, _⟩ => ⟨S16384x1024, .f32⟩
  | .hbm, ⟨28, _⟩ => ⟨S128x1024, .f32⟩
  | .hbm, ⟨29, _⟩ => ⟨S128x1x1024, .f32⟩
  | .hbm, ⟨30, _⟩ => ⟨S128x8x1024, .f32⟩
  | .hbm, ⟨31, _⟩ => ⟨S1024x1024, .f32⟩
  | .hbm, ⟨32, _⟩ => ⟨S17408x1024, .f32⟩
  | .hbm, ⟨33, _⟩ => ⟨S_, .f32⟩
  | .hbm, ⟨34, _⟩ => ⟨S17408x1024, .f32⟩
  | .hbm, ⟨35, _⟩ => ⟨S17408x1024, .f32⟩
  | .hbm, ⟨36, _⟩ => ⟨S17408x1024, .f32⟩
  | .hbm, ⟨37, _⟩ => ⟨S2x1024, .f32⟩
  | .hbm, ⟨38, _⟩ => ⟨S2x1x1024, .f32⟩
  | .hbm, ⟨39, _⟩ => ⟨S2x8192x1024, .f32⟩
  | .hbm, ⟨40, _⟩ => ⟨S16384x1024, .f32⟩
  | .hbm, ⟨41, _⟩ => ⟨S128x1024, .f32⟩
  | .hbm, ⟨42, _⟩ => ⟨S128x1x1024, .f32⟩
  | .hbm, ⟨43, _⟩ => ⟨S128x8x1024, .f32⟩
  | .hbm, ⟨44, _⟩ => ⟨S1024x1024, .f32⟩
  | .hbm, ⟨45, _⟩ => ⟨S17408x1024, .f32⟩
  | .hbm, ⟨46, _⟩ => ⟨S17408x1024, .f32⟩
  | .hbm, ⟨47, _⟩ => ⟨S17408x3664, .f32⟩
  | .hbm, ⟨48, _⟩ => ⟨S8192, .i32⟩
  | .hbm, ⟨49, _⟩ => ⟨S1x8192, .i32⟩
  | .hbm, ⟨50, _⟩ => ⟨S2x8192, .i32⟩
  | .hbm, ⟨51, _⟩ => ⟨S16384, .i32⟩
  | .hbm, ⟨52, _⟩ => ⟨S8, .i32⟩
  | .hbm, ⟨53, _⟩ => ⟨S1x8, .i32⟩
  | .hbm, ⟨54, _⟩ => ⟨S_, .i32⟩
  | .hbm, ⟨55, _⟩ => ⟨S1x8, .i32⟩
  | .hbm, ⟨56, _⟩ => ⟨S1x8, .i32⟩
  | .hbm, ⟨57, _⟩ => ⟨S128x8, .i32⟩
  | .hbm, ⟨58, _⟩ => ⟨S1024, .i32⟩
  | .hbm, ⟨59, _⟩ => ⟨S17408, .i32⟩
  | .hbm, ⟨60, _⟩ => ⟨S17408x256, .f32⟩
  | .hbm, ⟨61, _⟩ => ⟨S17408x2x128, .f32⟩
  | .hbm, ⟨62, _⟩ => ⟨S17408x2x128, .f32⟩
  | .hbm, ⟨63, _⟩ => ⟨S_, .f32⟩
  | .hbm, ⟨64, _⟩ => ⟨S17408x2, .f32⟩
  | .hbm, ⟨65, _⟩ => ⟨S17408x2x1, .f32⟩
  | .hbm, ⟨66, _⟩ => ⟨S_, .f32⟩
  | .hbm, ⟨67, _⟩ => ⟨S17408x2x1, .f32⟩
  | .hbm, ⟨68, _⟩ => ⟨S17408x2x1, .f32⟩
  | .hbm, ⟨69, _⟩ => ⟨S_, .f32⟩
  | .hbm, ⟨70, _⟩ => ⟨S17408x2x1, .f32⟩
  | .hbm, ⟨71, _⟩ => ⟨S17408x2x1, .f32⟩
  | .hbm, ⟨72, _⟩ => ⟨S17408x2x1, .f32⟩
  | .hbm, ⟨73, _⟩ => ⟨S17408x2x128, .f32⟩
  | .hbm, ⟨74, _⟩ => ⟨S17408x2x128, .f32⟩
  | .hbm, ⟨75, _⟩ => ⟨S1x1x128, .f32⟩
  | .hbm, ⟨76, _⟩ => ⟨S17408x2x128, .f32⟩
  | .hbm, ⟨77, _⟩ => ⟨S17408x2x128, .f32⟩
  | .hbm, ⟨78, _⟩ => ⟨S64, .f32⟩
  | .hbm, ⟨79, _⟩ => ⟨S64, .f32⟩
  | .hbm, ⟨80, _⟩ => ⟨S_, .f32⟩
  | .hbm, ⟨81, _⟩ => ⟨S64, .f32⟩
  | .hbm, ⟨82, _⟩ => ⟨S64, .f32⟩
  | .hbm, ⟨83, _⟩ => ⟨S_, .f32⟩
  | .hbm, ⟨84, _⟩ => ⟨S64, .f32⟩
  | .hbm, ⟨85, _⟩ => ⟨S64, .f32⟩
  | .hbm, ⟨86, _⟩ => ⟨S17408, .f32⟩
  | .hbm, ⟨87, _⟩ => ⟨S17408x1, .f32⟩
  | .hbm, ⟨88, _⟩ => ⟨S1x64, .f32⟩
  | .hbm, ⟨89, _⟩ => ⟨S17408x64, .f32⟩
  | .hbm, ⟨90, _⟩ => ⟨S17408x64, .f32⟩
  | .hbm, ⟨91, _⟩ => ⟨S17408x64, .f32⟩
  | .hbm, ⟨92, _⟩ => ⟨S17408x64, .f32⟩
  | .hbm, ⟨93, _⟩ => ⟨S17408x1x64, .f32⟩
  | .hbm, ⟨94, _⟩ => ⟨S17408x64, .f32⟩
  | .hbm, ⟨95, _⟩ => ⟨S17408x1x64, .f32⟩
  | .hbm, ⟨96, _⟩ => ⟨S17408x2x64, .f32⟩
  | .hbm, ⟨97, _⟩ => ⟨S17408x2x64, .f32⟩
  | .hbm, ⟨98, _⟩ => ⟨S17408x2x64, .f32⟩
  | .hbm, ⟨99, _⟩ => ⟨S17408x2x64, .f32⟩
  | .hbm, ⟨100, _⟩ => ⟨S17408x2x64, .f32⟩
  | .hbm, ⟨101, _⟩ => ⟨S17408x2x64, .f32⟩
  | .hbm, ⟨102, _⟩ => ⟨S17408x2x64, .f32⟩
  | .hbm, ⟨103, _⟩ => ⟨S17408x2x64, .f32⟩
  | .hbm, ⟨104, _⟩ => ⟨S17408x2x64, .f32⟩
  | .hbm, ⟨105, _⟩ => ⟨S17408x2x64, .f32⟩
  | .hbm, ⟨106, _⟩ => ⟨S17408x2x64, .f32⟩
  | .hbm, ⟨107, _⟩ => ⟨S17408x2x64, .f32⟩
  | .hbm, ⟨108, _⟩ => ⟨S17408x2x128, .f32⟩
  | .hbm, ⟨109, _⟩ => ⟨S17408x256, .f32⟩
  | .hbm, ⟨110, _⟩ => ⟨S17408x256, .f32⟩
  | .hbm, ⟨111, _⟩ => ⟨S17408x1536, .f32⟩
  | .hbm, ⟨112, _⟩ => ⟨S17408x512, .f32⟩
  | _, _ => ⟨S2176x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_c : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_3 : Ref sig .tc := ⟨.hbm, 63, rfl⟩
abbrev main_v51 : Ref sig .tc := ⟨.hbm, 64, rfl⟩
abbrev main_v52 : Ref sig .tc := ⟨.hbm, 65, rfl⟩
abbrev main_cst_4 : Ref sig .tc := ⟨.hbm, 66, rfl⟩
abbrev main_v53 : Ref sig .tc := ⟨.hbm, 67, rfl⟩
abbrev main_v54 : Ref sig .tc := ⟨.hbm, 68, rfl⟩
abbrev main_cst_5 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_cst_6 : Ref sig .tc := ⟨.hbm, 80, rfl⟩
abbrev main_v65 : Ref sig .tc := ⟨.hbm, 81, rfl⟩
abbrev main_v66 : Ref sig .tc := ⟨.hbm, 82, rfl⟩
abbrev main_cst_7 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩

abbrev nD : Nat := 1
abbrev τ : Topo := Topo.v7x

variable {F : FTy → Type} [FloatOps F]
-- ==== Kernel5.lean ====
abbrev S2176x8x1024 : Shape := ⟨3, ![2176, 8, 1024]⟩
abbrev S130x1024 : Shape := ⟨2, ![130, 1024]⟩
abbrev S1024 : Shape := ⟨1, ![1024]⟩
abbrev S1024x3664 : Shape := ⟨2, ![1024, 3664]⟩
abbrev S128 : Shape := ⟨1, ![128]⟩
abbrev S1024x1024 : Shape := ⟨2, ![1024, 1024]⟩
abbrev S1024x512 : Shape := ⟨2, ![1024, 512]⟩
abbrev S1024x8x1x64 : Shape := ⟨4, ![1024, 8, 1, 64]⟩
abbrev S1024x8x2x64 : Shape := ⟨4, ![1024, 8, 2, 64]⟩
abbrev S1024x64 : Shape := ⟨2, ![1024, 64]⟩
abbrev S1024x8 : Shape := ⟨2, ![1024, 8]⟩
abbrev S1024x4 : Shape := ⟨2, ![1024, 4]⟩
abbrev S_ : Shape := ⟨0, ![]⟩
abbrev S1024x112 : Shape := ⟨2, ![1024, 112]⟩
abbrev S1024x128 : Shape := ⟨2, ![1024, 128]⟩
abbrev S1024x1280 : Shape := ⟨2, ![1024, 1280]⟩
abbrev S1024x2048 : Shape := ⟨2, ![1024, 2048]⟩
abbrev S8192 : Shape := ⟨1, ![8192]⟩
abbrev S256 : Shape := ⟨1, ![256]⟩
abbrev S8448 : Shape := ⟨1, ![8448]⟩
abbrev S2x1024 : Shape := ⟨2, ![2, 1024]⟩
abbrev S2x32x1024 : Shape := ⟨3, ![2, 32, 1024]⟩
abbrev S64x1024 : Shape := ⟨2, ![64, 1024]⟩
abbrev S128x1024 : Shape := ⟨2, ![128, 1024]⟩
abbrev S192x1024 : Shape := ⟨2, ![192, 1024]⟩
abbrev S192x1x1024 : Shape := ⟨3, ![192, 1, 1024]⟩
abbrev S1x1024 : Shape := ⟨2, ![1, 1024]⟩
abbrev S1x128 : Shape := ⟨2, ![1, 128]⟩
abbrev S8448x1 : Shape := ⟨2, ![8448, 1]⟩
abbrev S64 : Shape := ⟨1, ![64]⟩
abbrev S1x64 : Shape := ⟨2, ![1, 64]⟩
abbrev S8448x64 : Shape := ⟨2, ![8448, 64]⟩
abbrev S8448x128 : Shape := ⟨2, ![8448, 128]⟩
abbrev S32 : Shape := ⟨1, ![32]⟩
abbrev S1x32 : Shape := ⟨2, ![1, 32]⟩
abbrev S8448x32 : Shape := ⟨2, ![8448, 32]⟩
abbrev S17408x512 : Shape := ⟨2, ![17408, 512]⟩
abbrev S17408x256 : Shape := ⟨2, ![17408, 256]⟩
abbrev S8x17408x256 : Shape := ⟨3, ![8, 17408, 256]⟩
abbrev S17408x64 : Shape := ⟨2, ![17408, 64]⟩
abbrev S17408x128 : Shape := ⟨2, ![17408, 128]⟩
abbrev S17408x1536 : Shape := ⟨2, ![17408, 1536]⟩
abbrev S32x8x1024 : Shape := ⟨3, ![32, 8, 1024]⟩
abbrev S32x1x1024 : Shape := ⟨3, ![32, 1, 1024]⟩
abbrev S256x128 : Shape := ⟨2, ![256, 128]⟩
abbrev S256x512 : Shape := ⟨2, ![256, 512]⟩
abbrev S256x256 : Shape := ⟨2, ![256, 256]⟩
abbrev S8x256x256 : Shape := ⟨3, ![8, 256, 256]⟩
abbrev S256x64 : Shape := ⟨2, ![256, 64]⟩
abbrev S256x1536 : Shape := ⟨2, ![256, 1536]⟩
abbrev S32x8 : Shape := ⟨2, ![32, 8]⟩
abbrev S32x8x1 : Shape := ⟨3, ![32, 8, 1]⟩
abbrev S1x1x1024 : Shape := ⟨3, ![1, 1, 1024]⟩
abbrev S256x1024 : Shape := ⟨2, ![256, 1024]⟩
abbrev S256x1280 : Shape := ⟨2, ![256, 1280]⟩
abbrev S256x2048 : Shape := ⟨2, ![256, 2048]⟩
abbrev S256x1 : Shape := ⟨2, ![256, 1]⟩
abbrev S1x256x128 : Shape := ⟨3, ![1, 256, 128]⟩

abbrev nBuf : Space → Nat
  | .hbm => 121
  | .vmem => 45
  | .smem => 0
  | _ => 0

abbrev bufTy : (tb : Table) → Fin (tcTables nBuf tb) → BufTy
  | .hbm, ⟨0, _⟩ => ⟨S2176x8x1024, .f32⟩
  | .hbm, ⟨1, _⟩ => ⟨S130x1024, .f32⟩
  | .hbm, ⟨2, _⟩ => ⟨S130x1024, .f32⟩
  | .hbm, ⟨3, _⟩ => ⟨S1024, .f32⟩
  | .hbm, ⟨4, _⟩ => ⟨S1024x3664, .f32⟩
  | .hbm, ⟨5, _⟩ => ⟨S128, .f32⟩
  | .hbm, ⟨6, _⟩ => ⟨S128, .f32⟩
  | .hbm, ⟨7, _⟩ => ⟨S1024x1024, .f32⟩
  | .hbm, ⟨8, _⟩ => ⟨S1024x1024, .bf16⟩
  | .hbm, ⟨9, _⟩ => ⟨S1024x512, .f32⟩
  | .hbm, ⟨10, _⟩ => ⟨S1024x8x1x64, .f32⟩
  | .hbm, ⟨11, _⟩ => ⟨S1024x8x2x64, .f32⟩
  | .hbm, ⟨12, _⟩ => ⟨S1024x1024, .f32⟩
  | .hbm, ⟨13, _⟩ => ⟨S1024x64, .f32⟩
  | .hbm, ⟨14, _⟩ => ⟨S1024x8, .f32⟩
  | .hbm, ⟨15, _⟩ => ⟨S1024x4, .f32⟩
  | .hbm, ⟨16, _⟩ => ⟨S1024x4, .f32⟩
  | .hbm, ⟨17, _⟩ => ⟨S_, .f32⟩
  | .hbm, ⟨18, _⟩ => ⟨S1024x112, .f32⟩
  | .hbm, ⟨19, _⟩ => ⟨S1024x128, .f32⟩
  | .hbm, ⟨20, _⟩ => ⟨S1024x1280, .f32⟩
  | .hbm, ⟨21, _⟩ => ⟨S1024x1280, .bf16⟩
  | .hbm, ⟨22, _⟩ => ⟨S1024x1280, .f32⟩
  | .hbm, ⟨23, _⟩ => ⟨S1024x1280, .f32⟩
  | .hbm, ⟨24, _⟩ => ⟨S1024x1280, .bf16⟩
  | .hbm, ⟨25, _⟩ => ⟨S1024x2048, .f32⟩
  | .hbm, ⟨26, _⟩ => ⟨S1024x2048, .bf16⟩
  | .hbm, ⟨27, _⟩ => ⟨S8192, .i32⟩
  | .hbm, ⟨28, _⟩ => ⟨S256, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S256, .i32⟩
  | .hbm, ⟨36, _⟩ => ⟨S256, .i32⟩
  | .hbm, ⟨37, _⟩ => ⟨S_, .i32⟩
  | .hbm, ⟨38, _⟩ => ⟨S256, .i32⟩
  | .hbm, ⟨39, _⟩ => ⟨S256, .i1⟩
  | .hbm, ⟨40, _⟩ => ⟨S_, .i32⟩
  | .hbm, ⟨41, _⟩ => ⟨S256, .i32⟩
  | .hbm, ⟨42, _⟩ => ⟨S256, .i1⟩
  | .hbm, ⟨43, _⟩ => ⟨S_, .i32⟩
  | .hbm, ⟨44, _⟩ => ⟨S_, .i1⟩
  | .hbm, ⟨45, _⟩ => ⟨S256, .i1⟩
  | .hbm, ⟨46, _⟩ => ⟨S256, .i1⟩
  | .hbm, ⟨47, _⟩ => ⟨S256, .i1⟩
  | .hbm, ⟨48, _⟩ => ⟨S256, .i32⟩
  | .hbm, ⟨49, _⟩ => ⟨S256, .i32⟩
  | .hbm, ⟨50, _⟩ => ⟨S256, .i32⟩
  | .hbm, ⟨51, _⟩ => ⟨S_, .i32⟩
  | .hbm, ⟨52, _⟩ => ⟨S256, .i32⟩
  | .hbm, ⟨53, _⟩ => ⟨S256, .i32⟩
  | .hbm, ⟨54, _⟩ => ⟨S8448, .i32⟩
  | .hbm, ⟨55, _⟩ => ⟨S2x1024, .f32⟩
  | .hbm, ⟨56, _⟩ => ⟨S2x32x1024, .f32⟩
  | .hbm, ⟨57, _⟩ => ⟨S64x1024, .f32⟩
  | .hbm, ⟨58, _⟩ => ⟨S128x1024, .f32⟩
  | .hbm, ⟨59, _⟩ => ⟨S192x1024, .f32⟩
  | .hbm, ⟨60, _⟩ => ⟨S192x1x1024, .f32⟩
  | .hbm, ⟨61, _⟩ => ⟨S2x1024, .f32⟩
  | .hbm, ⟨62, _⟩ => ⟨S2x32x1024, .f32⟩
  | .hbm, ⟨63, _⟩ => ⟨S64x1024, .f32⟩
  | .hbm, ⟨64, _⟩ => ⟨S128x1024, .f32⟩
  | .hbm, ⟨65, _⟩ => ⟨S192x1024, .f32⟩
  | .hbm, ⟨66, _⟩ => ⟨S192x1x1024, .f32⟩
  | .hbm, ⟨67, _⟩ => ⟨S1x1024, .f32⟩
  | .hbm, ⟨68, _⟩ => ⟨S1x128, .f32⟩
  | .hbm, ⟨69, _⟩ => ⟨S1x128, .f32⟩
  | .hbm, ⟨70, _⟩ => ⟨S8448, .f32⟩
  | .hbm, ⟨71, _⟩ => ⟨S8448x1, .f32⟩
  | .hbm, ⟨72, _⟩ => ⟨S64, .f32⟩
  | .hbm, ⟨73, _⟩ => ⟨S64, .f32⟩
  | .hbm, ⟨74, _⟩ => ⟨S_, .f32⟩
  | .hbm, ⟨75, _⟩ => ⟨S64, .f32⟩
  | .hbm, ⟨76, _⟩ => ⟨S64, .f32⟩
  | .hbm, ⟨77, _⟩ => ⟨S_, .f32⟩
  | .hbm, ⟨78, _⟩ => ⟨S64, .f32⟩
  | .hbm, ⟨79, _⟩ => ⟨S64, .f32⟩
  | .hbm, ⟨80, _⟩ => ⟨S1x64, .f32⟩
  | .hbm, ⟨81, _⟩ => ⟨S8448x64, .f32⟩
  | .hbm, ⟨82, _⟩ => ⟨S8448x64, .f32⟩
  | .hbm, ⟨83, _⟩ => ⟨S8448x64, .f32⟩
  | .hbm, ⟨84, _⟩ => ⟨S8448x64, .f32⟩
  | .hbm, ⟨85, _⟩ => ⟨S8448x64, .f32⟩
  | .hbm, ⟨86, _⟩ => ⟨S8448x128, .f32⟩
  | .hbm, ⟨87, _⟩ => ⟨S8448x64, .f32⟩
  | .hbm, ⟨88, _⟩ => ⟨S8448x128, .f32⟩
  | .hbm, ⟨89, _⟩ => ⟨S32, .f32⟩
  | .hbm, ⟨90, _⟩ => ⟨S32, .f32⟩
  | .hbm, ⟨91, _⟩ => ⟨S_, .f32⟩
  | .hbm, ⟨92, _⟩ => ⟨S32, .f32⟩
  | .hbm, ⟨93, _⟩ => ⟨S32, .f32⟩
  | .hbm, ⟨94, _⟩ => ⟨S_, .f32⟩
  | .hbm, ⟨95, _⟩ => ⟨S32, .f32⟩
  | .hbm, ⟨96, _⟩ => ⟨S32, .f32⟩
  | .hbm, ⟨97, _⟩ => ⟨S1x32, .f32⟩
  | .hbm, ⟨98, _⟩ => ⟨S8448x32, .f32⟩
  | .hbm, ⟨99, _⟩ => ⟨S8448x32, .f32⟩
  | .hbm, ⟨100, _⟩ => ⟨S8448x32, .f32⟩
  | .hbm, ⟨101, _⟩ => ⟨S8448x32, .f32⟩
  | .hbm, ⟨102, _⟩ => ⟨S8448x32, .f32⟩
  | .hbm, ⟨103, _⟩ => ⟨S_, .f32⟩
  | .hbm, ⟨104, _⟩ => ⟨S8448x32, .f32⟩
  | .hbm, ⟨105, _⟩ => ⟨S8448x128, .f32⟩
  | .hbm, ⟨106, _⟩ => ⟨S8448x32, .f32⟩
  | .hbm, ⟨107, _⟩ => ⟨S8448x32, .f32⟩
  | .hbm, ⟨108, _⟩ => ⟨S8448x128, .f32⟩
  | .hbm, ⟨109, _⟩ => ⟨S8448x128, .f32⟩
  | .hbm, ⟨110, _⟩ => ⟨S17408x512, .bf16⟩
  | .hbm, ⟨111, _⟩ => ⟨S17408x256, .f32⟩
  | .hbm, ⟨112, _⟩ => ⟨S17408x256, .f32⟩
  | .hbm, ⟨113, _⟩ => ⟨S17408x256, .bf16⟩
  | .hbm, ⟨114, _⟩ => ⟨S17408x256, .bf16⟩
  | .hbm, ⟨115, _⟩ => ⟨S8x17408x256, .bf16⟩
  | .hbm, ⟨116, _⟩ => ⟨S17408x64, .f32⟩
  | .hbm, ⟨117, _⟩ => ⟨S17408x256, .bf16⟩
  | .hbm, ⟨118, _⟩ => ⟨S17408x128, .f32⟩
  | .hbm, ⟨119, _⟩ => ⟨S17408x1536, .f32⟩
  | .hbm, ⟨120, _⟩ => ⟨S17408x512, .f32⟩
  | .local _ .vmem, ⟨0, _⟩ => ⟨S32x8x1024, .f32⟩
  | .local _ .vmem, ⟨1, _⟩ => ⟨S32x8x1024, .f32⟩
  | .local _ .vmem, ⟨2, _⟩ => ⟨S32x1x1024, .f32⟩
  | .local _ .vmem, ⟨3, _⟩ => ⟨S32x1x1024, .f32⟩
  | .local _ .vmem, ⟨4, _⟩ => ⟨S32x1x1024, .f32⟩
  | .local _ .vmem, ⟨5, _⟩ => ⟨S32x1x1024, .f32⟩
  | .local _ .vmem, ⟨6, _⟩ => ⟨S1x1024, .f32⟩
  | .local _ .vmem, ⟨7, _⟩ => ⟨S1024x1024, .bf16⟩
  | .local _ .vmem, ⟨8, _⟩ => ⟨S1024x1280, .bf16⟩
  | .local _ .vmem, ⟨9, _⟩ => ⟨S1024x1280, .bf16⟩
  | .local _ .vmem, ⟨10, _⟩ => ⟨S1024x2048, .bf16⟩
  | .local _ .vmem, ⟨11, _⟩ => ⟨S1x128, .f32⟩
  | .local _ .vmem, ⟨12, _⟩ => ⟨S1x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S256x128, .f32⟩
  | .local _ .vmem, ⟨23, _⟩ => ⟨S256x512, .bf16⟩
  | .local _ .vmem, ⟨24, _⟩ => ⟨S256x512, .bf16⟩
  | .local _ .vmem, ⟨25, _⟩ => ⟨S256x256, .f32⟩
  | .local _ .vmem, ⟨26, _⟩ => ⟨S256x256, .f32⟩
  | .local _ .vmem, ⟨27, _⟩ => ⟨S256x256, .f32⟩
  | .local _ .vmem, ⟨28, _⟩ => ⟨S256x256, .f32⟩
  | .local _ .vmem, ⟨29, _⟩ => ⟨S256x256, .bf16⟩
  | .local _ .vmem, ⟨30, _⟩ => ⟨S256x256, .bf16⟩
  | .local _ .vmem, ⟨31, _⟩ => ⟨S256x256, .bf16⟩
  | .local _ .vmem, ⟨32, _⟩ => ⟨S256x256, .bf16⟩
  | .local _ .vmem, ⟨33, _⟩ => ⟨S8x256x256, .bf16⟩
  | .local _ .vmem, ⟨34, _⟩ => ⟨S8x256x256, .bf16⟩
  | .local _ .vmem, ⟨35, _⟩ => ⟨S256x64, .f32⟩
  | .local _ .vmem, ⟨36, _⟩ => ⟨S256x64, .f32⟩
  | .local _ .vmem, ⟨37, _⟩ => ⟨S256x256, .bf16⟩
  | .local _ .vmem, ⟨38, _⟩ => ⟨S256x256, .bf16⟩
  | .local _ .vmem, ⟨39, _⟩ => ⟨S256x128, .f32⟩
  | .local _ .vmem, ⟨40, _⟩ => ⟨S256x128, .f32⟩
  | .local _ .vmem, ⟨41, _⟩ => ⟨S256x1536, .f32⟩
  | .local _ .vmem, ⟨42, _⟩ => ⟨S256x1536, .f32⟩
  | .local _ .vmem, ⟨43, _⟩ => ⟨S256x512, .f32⟩
  | .local _ .vmem, ⟨44, _⟩ => ⟨S256x512, .f32⟩
  | _, _ => ⟨S2176x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c : Ref sig .tc := ⟨.hbm, 29, rfl⟩
abbrev main_call0_v0 : Ref sig .tc := ⟨.hbm, 30, rfl⟩
abbrev main_call0_c : Ref sig .tc := ⟨.hbm, 31, rfl⟩
abbrev main_call0_v1 : Ref sig .tc := ⟨.hbm, 32, rfl⟩
abbrev main_call0_c_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_c_1 : Ref sig .tc := ⟨.hbm, 37, rfl⟩
abbrev main_call0_v5 : Ref sig .tc := ⟨.hbm, 38, rfl⟩
abbrev main_call0_v6 : Ref sig .tc := ⟨.hbm, 39, rfl⟩
abbrev main_call0_c_2 : Ref sig .tc := ⟨.hbm, 40, rfl⟩
abbrev main_call0_v7 : Ref sig .tc := ⟨.hbm, 41, rfl⟩
abbrev main_call0_v8 : Ref sig .tc := ⟨.hbm, 42, rfl⟩
abbrev main_call0_c_3 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_v12 : Ref sig .tc := ⟨.hbm, 47, rfl⟩
abbrev main_call0_v13 : Ref sig .tc := ⟨.hbm, 48, rfl⟩
abbrev main_call0_v14 : Ref sig .tc := ⟨.hbm, 49, rfl⟩
abbrev main_v21 : Ref sig .tc := ⟨.hbm, 50, rfl⟩
abbrev main_c_0 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_1 : Ref sig .tc := ⟨.hbm, 74, rfl⟩
abbrev main_v44 : Ref sig .tc := ⟨.hbm, 75, rfl⟩
abbrev main_v45 : Ref sig .tc := ⟨.hbm, 76, rfl⟩
abbrev main_cst_2 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_3 : Ref sig .tc := ⟨.hbm, 91, rfl⟩
abbrev main_v59 : Ref sig .tc := ⟨.hbm, 92, rfl⟩
abbrev main_v60 : Ref sig .tc := ⟨.hbm, 93, rfl⟩
abbrev main_cst_4 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_5 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75_0 : Ref sig .tc := ⟨.hbm, 110, rfl⟩
abbrev main_v75_1 : Ref sig .tc := ⟨.hbm, 111, rfl⟩
abbrev main_v75_2 : Ref sig .tc := ⟨.hbm, 112, rfl⟩
abbrev main_v75_3 : Ref sig .tc := ⟨.hbm, 113, rfl⟩
abbrev main_v75_4 : Ref sig .tc := ⟨.hbm, 114, rfl⟩
abbrev main_v75_5 : Ref sig .tc := ⟨.hbm, 115, rfl⟩
abbrev main_v75_6 : Ref sig .tc := ⟨.hbm, 116, rfl⟩
abbrev main_v75_7 : Ref sig .tc := ⟨.hbm, 117, rfl⟩
abbrev main_v75_8 : Ref sig .tc := ⟨.hbm, 118, rfl⟩
abbrev main_v75_9 : Ref sig .tc := ⟨.hbm, 119, rfl⟩
abbrev main_v75_10 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg21_1 : Ref sig .tc := ⟨.vmem, 36, rfl⟩
abbrev cc0_stg22_0 : Ref sig .tc := ⟨.vmem, 37, rfl⟩
abbrev cc0_stg22_1 : Ref sig .tc := ⟨.vmem, 38, rfl⟩
abbrev cc0_stg23_0 : Ref sig .tc := ⟨.vmem, 39, rfl⟩
abbrev cc0_stg23_1 : Ref sig .tc := ⟨.vmem, 40, rfl⟩
abbrev cc0_stg24_0 : Ref sig .tc := ⟨.vmem, 41, rfl⟩
abbrev cc0_stg24_1 : Ref sig .tc := ⟨.vmem, 42, rfl⟩
abbrev cc0_stg25_0 : Ref sig .tc := ⟨.vmem, 43, rfl⟩
abbrev cc0_stg25_1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem21_1 : DmaSem sig := 36
abbrev cc0_sem22_0 : DmaSem sig := 37
abbrev cc0_sem22_1 : DmaSem sig := 38
abbrev cc0_sem23_0 : DmaSem sig := 39
abbrev cc0_sem23_1 : DmaSem sig := 40
abbrev cc0_sem24_0 : DmaSem sig := 41
abbrev cc0_sem24_1 : DmaSem sig := 42
abbrev cc0_sem25_0 : DmaSem sig := 43
abbrev cc0_sem25_1 : DmaSem sig := 44

abbrev nD : Nat := 1
abbrev τ : Topo := Topo.v7x

variable {F : FTy → Type} [FloatOps F]

abbrev grid0 : Pipeline.Grid := ⟨1, ![68], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c64_i32 : BitVec 32 := 64#32
  let v0 : BitVec 1 := Scalar.cmpi .slt arg0 c64_i32
  let c32_i32 : BitVec 32 := 32#32
  let v1 : BitVec 32 := Scalar.divsi arg0 c32_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c64_i32_4 : BitVec 32 := 64#32
  let v18 : BitVec 32 := Scalar.subi arg0 c64_i32_4
  let c2_i32 : BitVec 32 := 2#32
  let v19 : BitVec 32 := Scalar.addi c2_i32 v18
  let v20 : BitVec 32 := Scalar.select v0 v17 v19
  let c0_i32_5 : BitVec 32 := 0#32
  let c0_i32_6 : BitVec 32 := 0#32
  let c0_i32_7 : BitVec 32 := 0#32
  ![v20.toNat, c0_i32_5.toNat, c0_i32_6.toNat]

def cc0_transform_2 (i : grid0.Coords) : Fin 3 → Nat :=
  let arg0 : BitVec 32 := BitVec.ofNat 32 (i 0).val
  let c64_i32 : BitVec 32 := 64#32
  let v0 : BitVec 1 := Scalar.cmpi .slt arg0 c64_i32
  let c32_i32 : BitVec 32 := 32#32
  let v1 : BitVec 32 := Scalar.divsi arg0 c32_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c64_i32_4 : BitVec 32 := 64#32
  let v18 : BitVec 32 := Scalar.subi arg0 c64_i32_4
  let c2_i32 : BitVec 32 := 2#32
  let v19 : BitVec 32 := Scalar.addi c2_i32 v18
  let v20 : BitVec 32 := Scalar.select v0 v17 v19
  let c0_i32_5 : BitVec 32 := 0#32
  let c0_i32_6 : BitVec 32 := 0#32
  let c0_i32_7 : BitVec 32 := 0#32
  ![v20.toNat, c0_i32_5.toNat, c0_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c64_i32 : BitVec 32 := 64#32
  let v0 : BitVec 1 := Scalar.cmpi .slt arg0 c64_i32
  let c32_i32 : BitVec 32 := 32#32
  let c0_i32 : BitVec 32 := 0#32
  let v1 : BitVec 1 := Scalar.cmpi .eq c32_i32 c0_i32
  let c1_i32 : BitVec 32 := 1#32
  let v2 : BitVec 32 := Scalar.select v1 c1_i32 c32_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c32_i32_3 : BitVec 32 := 32#32
  let v11 : BitVec 32 := Scalar.select v0 v10 c32_i32_3
  let c0_i32_4 : BitVec 32 := 0#32
  let c0_i32_5 : BitVec 32 := 0#32
  ![v11.toNat, c0_i32_4.toNat]

def cc0_transform_11 (i : grid0.Coords) : Fin 2 → Nat :=
  let arg0 : BitVec 32 := BitVec.ofNat 32 (i 0).val
  let c64_i32 : BitVec 32 := 64#32
  let v0 : BitVec 1 := Scalar.cmpi .slt arg0 c64_i32
  let c32_i32 : BitVec 32 := 32#32
  let c0_i32 : BitVec 32 := 0#32
  let v1 : BitVec 1 := Scalar.cmpi .eq c32_i32 c0_i32
  let c1_i32 : BitVec 32 := 1#32
  let v2 : BitVec 32 := Scalar.select v1 c1_i32 c32_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c32_i32_3 : BitVec 32 := 32#32
  let v11 : BitVec 32 := Scalar.select v0 v10 c32_i32_3
  let c0_i32_4 : BitVec 32 := 0#32
  let c0_i32_5 : BitVec 32 := 0#32
  ![v11.toNat, c0_i32_4.toNat]

def cc0_transform_12 (i : grid0.Coords) : Fin 2 → Nat :=
  let arg0 : BitVec 32 := BitVec.ofNat 32 (i 0).val
  let c64_i32 : BitVec 32 := 64#32
  let v0 : BitVec 1 := Scalar.cmpi .slt arg0 c64_i32
  let c32_i32 : BitVec 32 := 32#32
  let c0_i32 : BitVec 32 := 0#32
  let v1 : BitVec 1 := Scalar.cmpi .eq c32_i32 c0_i32
  let c1_i32 : BitVec 32 := 1#32
  let v2 : BitVec 32 := Scalar.select v1 c1_i32 c32_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c32_i32_3 : BitVec 32 := 32#32
  let v11 : BitVec 32 := Scalar.select v0 v10 c32_i32_3
  let c0_i32_4 : BitVec 32 := 0#32
  let c0_i32_5 : BitVec 32 := 0#32
  ![v11.toNat, c0_i32_4.toNat]

def cc0_transform_13 (i : grid0.Coords) : Fin 2 → Nat :=
  let arg0 : BitVec 32 := BitVec.ofNat 32 (i 0).val
  let c64_i32 : BitVec 32 := 64#32
  let v0 : BitVec 1 := Scalar.cmpi .slt arg0 c64_i32
  let c32_i32 : BitVec 32 := 32#32
  let c0_i32 : BitVec 32 := 0#32
  let v1 : BitVec 1 := Scalar.cmpi .eq c32_i32 c0_i32
  let c1_i32 : BitVec 32 := 1#32
  let v2 : BitVec 32 := Scalar.select v1 c1_i32 c32_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c32_i32_3 : BitVec 32 := 32#32
  let v11 : BitVec 32 := Scalar.select v0 v10 c32_i32_3
  let c0_i32_4 : BitVec 32 := 0#32
  let c0_i32_5 : BitVec 32 := 0#32
  ![v11.toNat, c0_i32_4.toNat]

def cc0_transform_14 (i : grid0.Coords) : Fin 2 → Nat :=
  let arg0 : BitVec 32 := BitVec.ofNat 32 (i 0).val
  let c64_i32 : BitVec 32 := 64#32
  let v0 : BitVec 1 := Scalar.cmpi .slt arg0 c64_i32
  let c32_i32 : BitVec 32 := 32#32
  let c0_i32 : BitVec 32 := 0#32
  let v1 : BitVec 1 := Scalar.cmpi .eq c32_i32 c0_i32
  let c1_i32 : BitVec 32 := 1#32
  let v2 : BitVec 32 := Scalar.select v1 c1_i32 c32_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c32_i32_3 : BitVec 32 := 32#32
  let v11 : BitVec 32 := Scalar.select v0 v10 c32_i32_3
  let c0_i32_4 : BitVec 32 := 0#32
  let c0_i32_5 : BitVec 32 := 0#32
  ![v11.toNat, c0_i32_4.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1280 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1280 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S8x256x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x64 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x256 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x1536 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S256x512 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]
-- ==== Reference5Ideal.lean ====
abbrev S2176x8x1024 : Shape := ⟨3, ![2176, 8, 1024]⟩
abbrev S130x1024 : Shape := ⟨2, ![130, 1024]⟩
abbrev S1024 : Shape := ⟨1, ![1024]⟩
abbrev S1024x3664 : Shape := ⟨2, ![1024, 3664]⟩
abbrev S128 : Shape := ⟨1, ![128]⟩
abbrev S17408x1024 : Shape := ⟨2, ![17408, 1024]⟩
abbrev S_ : Shape := ⟨0, ![]⟩
abbrev S17408 : Shape := ⟨1, ![17408]⟩
abbrev S17408x1 : Shape := ⟨2, ![17408, 1]⟩
abbrev S1x1024 : Shape := ⟨2, ![1, 1024]⟩
abbrev S2x1024 : Shape := ⟨2, ![2, 1024]⟩
abbrev S2x1x1024 : Shape := ⟨3, ![2, 1, 1024]⟩
abbrev S2x8192x1024 : Shape := ⟨3, ![2, 8192, 1024]⟩
abbrev S16384x1024 : Shape := ⟨2, ![16384, 1024]⟩
abbrev S128x1024 : Shape := ⟨2, ![128, 1024]⟩
abbrev S128x1x1024 : Shape := ⟨3, ![128, 1, 1024]⟩
abbrev S128x8x1024 : Shape := ⟨3, ![128, 8, 1024]⟩
abbrev S1024x1024 : Shape := ⟨2, ![1024, 1024]⟩
abbrev S17408x3664 : Shape := ⟨2, ![17408, 3664]⟩
abbrev S17408x64 : Shape := ⟨2, ![17408, 64]⟩
abbrev S8192 : Shape := ⟨1, ![8192]⟩
abbrev S1x8192 : Shape := ⟨2, ![1, 8192]⟩
abbrev S2x8192 : Shape := ⟨2, ![2, 8192]⟩
abbrev S16384 : Shape := ⟨1, ![16384]⟩
abbrev S8 : Shape := ⟨1, ![8]⟩
abbrev S1x8 : Shape := ⟨2, ![1, 8]⟩
abbrev S128x8 : Shape := ⟨2, ![128, 8]⟩
abbrev S17408x1x64 : Shape := ⟨3, ![17408, 1, 64]⟩
abbrev S32 : Shape := ⟨1, ![32]⟩
abbrev S1x32 : Shape := ⟨2, ![1, 32]⟩
abbrev S17408x32 : Shape := ⟨2, ![17408, 32]⟩
abbrev S17408x1x32 : Shape := ⟨3, ![17408, 1, 32]⟩

abbrev nBuf : Space → Nat
  | .hbm => 90
  | .vmem => 0
  | .smem => 0
  | _ => 0

abbrev bufTy : (tb : Table) → Fin (tcTables nBuf tb) → BufTy
  | .hbm, ⟨0, _⟩ => ⟨S2176x8x1024, .f32⟩
  | .hbm, ⟨1, _⟩ => ⟨S130x1024, .f32⟩
  | .hbm, ⟨2, _⟩ => ⟨S130x1024, .f32⟩
  | .hbm, ⟨3, _⟩ => ⟨S1024, .f32⟩
  | .hbm, ⟨4, _⟩ => ⟨S1024x3664, .f32⟩
  | .hbm, ⟨5, _⟩ => ⟨S128, .f32⟩
  | .hbm, ⟨6, _⟩ => ⟨S128, .f32⟩
  | .hbm, ⟨7, _⟩ => ⟨S17408x1024, .f32⟩
  | .hbm, ⟨8, _⟩ => ⟨S17408x1024, .f32⟩
  | .hbm, ⟨9, _⟩ => ⟨S_, .f32⟩
  | .hbm, ⟨10, _⟩ => ⟨S17408, .f32⟩
  | .hbm, ⟨11, _⟩ => ⟨S17408x1, .f32⟩
  | .hbm, ⟨12, _⟩ => ⟨S_, .f32⟩
  | .hbm, ⟨13, _⟩ => ⟨S17408x1, .f32⟩
  | .hbm, ⟨14, _⟩ => ⟨S17408x1, .f32⟩
  | .hbm, ⟨15, _⟩ => ⟨S_, .f32⟩
  | .hbm, ⟨16, _⟩ => ⟨S17408x1, .f32⟩
  | .hbm, ⟨17, _⟩ => ⟨S17408x1, .f32⟩
  | .hbm, ⟨18, _⟩ => ⟨S17408x1, .f32⟩
  | .hbm, ⟨19, _⟩ => ⟨S17408x1024, .f32⟩
  | .hbm, ⟨20, _⟩ => ⟨S17408x1024, .f32⟩
  | .hbm, ⟨21, _⟩ => ⟨S1x1024, .f32⟩
  | .hbm, ⟨22, _⟩ => ⟨S17408x1024, .f32⟩
  | .hbm, ⟨23, _⟩ => ⟨S17408x1024, .f32⟩
  | .hbm, ⟨24, _⟩ => ⟨S2x1024, .f32⟩
  | .hbm, ⟨25, _⟩ => ⟨S2x1x1024, .f32⟩
  | .hbm, ⟨26, _⟩ => ⟨S2x8192x1024, .f32⟩
  | .hbm, ⟨27, _⟩ => ⟨S16384x1024, .f32⟩
  | .hbm, ⟨28, _⟩ => ⟨S128x1024, .f32⟩
  | .hbm, ⟨29, _⟩ => ⟨S128x1x1024, .f32⟩
  | .hbm, ⟨30, _⟩ => ⟨S128x8x1024, .f32⟩
  | .hbm, ⟨31, _⟩ => ⟨S1024x1024, .f32⟩
  | .hbm, ⟨32, _⟩ => ⟨S17408x1024, .f32⟩
  | .hbm, ⟨33, _⟩ => ⟨S_, .f32⟩
  | .hbm, ⟨34, _⟩ => ⟨S17408x1024, .f32⟩
  | .hbm, ⟨35, _⟩ => ⟨S17408x1024, .f32⟩
  | .hbm, ⟨36, _⟩ => ⟨S17408x1024, .f32⟩
  | .hbm, ⟨37, _⟩ => ⟨S2x1024, .f32⟩
  | .hbm, ⟨38, _⟩ => ⟨S2x1x1024, .f32⟩
  | .hbm, ⟨39, _⟩ => ⟨S2x8192x1024, .f32⟩
  | .hbm, ⟨40, _⟩ => ⟨S16384x1024, .f32⟩
  | .hbm, ⟨41, _⟩ => ⟨S128x1024, .f32⟩
  | .hbm, ⟨42, _⟩ => ⟨S128x1x1024, .f32⟩
  | .hbm, ⟨43, _⟩ => ⟨S128x8x1024, .f32⟩
  | .hbm, ⟨44, _⟩ => ⟨S1024x1024, .f32⟩
  | .hbm, ⟨45, _⟩ => ⟨S17408x1024, .f32⟩
  | .hbm, ⟨46, _⟩ => ⟨S17408x1024, .f32⟩
  | .hbm, ⟨47, _⟩ => ⟨S17408x3664, .f32⟩
  | .hbm, ⟨48, _⟩ => ⟨S17408x64, .f32⟩
  | .hbm, ⟨49, _⟩ => ⟨S8192, .i32⟩
  | .hbm, ⟨50, _⟩ => ⟨S1x8192, .i32⟩
  | .hbm, ⟨51, _⟩ => ⟨S2x8192, .i32⟩
  | .hbm, ⟨52, _⟩ => ⟨S16384, .i32⟩
  | .hbm, ⟨53, _⟩ => ⟨S8, .i32⟩
  | .hbm, ⟨54, _⟩ => ⟨S1x8, .i32⟩
  | .hbm, ⟨55, _⟩ => ⟨S_, .i32⟩
  | .hbm, ⟨56, _⟩ => ⟨S1x8, .i32⟩
  | .hbm, ⟨57, _⟩ => ⟨S1x8, .i32⟩
  | .hbm, ⟨58, _⟩ => ⟨S128x8, .i32⟩
  | .hbm, ⟨59, _⟩ => ⟨S1024, .i32⟩
  | .hbm, ⟨60, _⟩ => ⟨S17408, .i32⟩
  | .hbm, ⟨61, _⟩ => ⟨S17408x1x64, .f32⟩
  | .hbm, ⟨62, _⟩ => ⟨S32, .f32⟩
  | .hbm, ⟨63, _⟩ => ⟨S32, .f32⟩
  | .hbm, ⟨64, _⟩ => ⟨S_, .f32⟩
  | .hbm, ⟨65, _⟩ => ⟨S32, .f32⟩
  | .hbm, ⟨66, _⟩ => ⟨S32, .f32⟩
  | .hbm, ⟨67, _⟩ => ⟨S_, .f32⟩
  | .hbm, ⟨68, _⟩ => ⟨S32, .f32⟩
  | .hbm, ⟨69, _⟩ => ⟨S32, .f32⟩
  | .hbm, ⟨70, _⟩ => ⟨S17408, .f32⟩
  | .hbm, ⟨71, _⟩ => ⟨S17408x1, .f32⟩
  | .hbm, ⟨72, _⟩ => ⟨S1x32, .f32⟩
  | .hbm, ⟨73, _⟩ => ⟨S17408x32, .f32⟩
  | .hbm, ⟨74, _⟩ => ⟨S17408x32, .f32⟩
  | .hbm, ⟨75, _⟩ => ⟨S17408x32, .f32⟩
  | .hbm, ⟨76, _⟩ => ⟨S17408x32, .f32⟩
  | .hbm, ⟨77, _⟩ => ⟨S17408x1x32, .f32⟩
  | .hbm, ⟨78, _⟩ => ⟨S17408x32, .f32⟩
  | .hbm, ⟨79, _⟩ => ⟨S17408x1x32, .f32⟩
  | .hbm, ⟨80, _⟩ => ⟨S17408x1x32, .f32⟩
  | .hbm, ⟨81, _⟩ => ⟨S17408x1x32, .f32⟩
  | .hbm, ⟨82, _⟩ => ⟨S17408x1x32, .f32⟩
  | .hbm, ⟨83, _⟩ => ⟨S17408x1x32, .f32⟩
  | .hbm, ⟨84, _⟩ => ⟨S17408x1x32, .f32⟩
  | .hbm, ⟨85, _⟩ => ⟨S17408x1x32, .f32⟩
  | .hbm, ⟨86, _⟩ => ⟨S17408x1x32, .f32⟩
  | .hbm, ⟨87, _⟩ => ⟨S17408x1x32, .f32⟩
  | .hbm, ⟨88, _⟩ => ⟨S17408x1x64, .f32⟩
  | .hbm, ⟨89, _⟩ => ⟨S17408x64, .f32⟩
  | _, _ => ⟨S2176x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_c : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_3 : Ref sig .tc := ⟨.hbm, 64, rfl⟩
abbrev main_v52 : Ref sig .tc := ⟨.hbm, 65, rfl⟩
abbrev main_v53 : Ref sig .tc := ⟨.hbm, 66, rfl⟩
abbrev main_cst_4 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩

abbrev nD : Nat := 1
abbrev τ : Topo := Topo.v7x

variable {F : FTy → Type} [FloatOps F]
-- ==== Proof.InpFrame.lean ====
module

public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1560000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel4Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The body's accesses -/

abbrev r0_0 : Rect S32x8x1024 := Rect.unit (s := S32x8x1024) ![0, 0, 0] S32x8x1024.size inb_S32x8x1024_S32x8x1024_0_0_0
abbrev r0_1 : Rect S1x1024 := Rect.unit (s := S1x1024) ![0, 0] S1x1024.size inb_S1x1024_S1x1024_0_0
abbrev r0_2 : Rect S32x1x1024 := Rect.unit (s := S32x1x1024) ![0, 0, 0] S32x1x1024.size inb_S32x1x1024_S32x1x1024_0_0_0
abbrev r0_3 : Rect S1024x1024 := Rect.unit (s := S1024x1024) ![0, 0] S1024x1024.size inb_S1024x1024_S1024x1024_0_0
abbrev r0_4 : Rect S1024x1280 := Rect.unit (s := S1024x1280) ![0, 0] S1024x1280.size inb_S1024x1280_S1024x1280_0_0
abbrev r0_5 : Rect S1024x2048 := Rect.unit (s := S1024x2048) ![0, 0] S1024x2048.size inb_S1024x2048_S1024x2048_0_0
abbrev r0_6 : Rect S256x128 := Rect.unit (s := S256x128) ![0, 0] S256x128.size inb_S256x128_S256x128_0_0
abbrev r0_7 : Rect S1x128 := Rect.unit (s := S1x128) ![0, 0] S1x128.size inb_S1x128_S1x128_0_0
abbrev r0_8 : Rect S256x512 := Rect.unit (s := S256x512) ![0, 0] S256x128.size inb_S256x512_S256x128_0_0
abbrev r0_9 : Rect S256x512 := Rect.unit (s := S256x512) ![0, 128] S256x128.size inb_S256x512_S256x128_0_128
abbrev r0_10 : Rect S256x512 := Rect.unit (s := S256x512) ![0, 256] S256x128.size inb_S256x512_S256x128_0_256
abbrev r0_11 : Rect S256x512 := Rect.unit (s := S256x512) ![0, 384] S256x128.size inb_S256x512_S256x128_0_384
abbrev r0_12 : Rect S256x256 := Rect.unit (s := S256x256) ![0, 0] S256x128.size inb_S256x256_S256x128_0_0
abbrev r0_13 : Rect S256x256 := Rect.unit (s := S256x256) ![0, 128] S256x128.size inb_S256x256_S256x128_0_128
abbrev r0_14 : Rect S256x256 := Rect.unit (s := S256x256) ![0, 0] S256x256.size inb_S256x256_S256x256_0_0
abbrev r0_15 : Rect S8x256x256 := Rect.unit (s := S8x256x256) ![0, 0, 0] S1x256x128.size inb_S8x256x256_S1x256x128_0_0_0
abbrev r0_16 : Rect S8x256x256 := Rect.unit (s := S8x256x256) ![0, 0, 128] S1x256x128.size inb_S8x256x256_S1x256x128_0_0_128
abbrev r0_17 : Rect S8x256x256 := Rect.unit (s := S8x256x256) ![1, 0, 0] S1x256x128.size inb_S8x256x256_S1x256x128_1_0_0
abbrev r0_18 : Rect S8x256x256 := Rect.unit (s := S8x256x256) ![1, 0, 128] S1x256x128.size inb_S8x256x256_S1x256x128_1_0_128
abbrev r0_19 : Rect S8x256x256 := Rect.unit (s := S8x256x256) ![2, 0, 0] S1x256x128.size inb_S8x256x256_S1x256x128_2_0_0
abbrev r0_20 : Rect S8x256x256 := Rect.unit (s := S8x256x256) ![2, 0, 128] S1x256x128.size inb_S8x256x256_S1x256x128_2_0_128
abbrev r0_21 : Rect S8x256x256 := Rect.unit (s := S8x256x256) ![3, 0, 0] S1x256x128.size inb_S8x256x256_S1x256x128_3_0_0
abbrev r0_22 : Rect S8x256x256 := Rect.unit (s := S8x256x256) ![3, 0, 128] S1x256x128.size inb_S8x256x256_S1x256x128_3_0_128
abbrev r0_23 : Rect S8x256x256 := Rect.unit (s := S8x256x256) ![4, 0, 0] S1x256x128.size inb_S8x256x256_S1x256x128_4_0_0
abbrev r0_24 : Rect S8x256x256 := Rect.unit (s := S8x256x256) ![4, 0, 128] S1x256x128.size inb_S8x256x256_S1x256x128_4_0_128
abbrev r0_25 : Rect S8x256x256 := Rect.unit (s := S8x256x256) ![5, 0, 0] S1x256x128.size inb_S8x256x256_S1x256x128_5_0_0
abbrev r0_26 : Rect S8x256x256 := Rect.unit (s := S8x256x256) ![5, 0, 128] S1x256x128.size inb_S8x256x256_S1x256x128_5_0_128
abbrev r0_27 : Rect S8x256x256 := Rect.unit (s := S8x256x256) ![6, 0, 0] S1x256x128.size inb_S8x256x256_S1x256x128_6_0_0
abbrev r0_28 : Rect S8x256x256 := Rect.unit (s := S8x256x256) ![6, 0, 128] S1x256x128.size inb_S8x256x256_S1x256x128_6_0_128
abbrev r0_29 : Rect S8x256x256 := Rect.unit (s := S8x256x256) ![7, 0, 0] S1x256x128.size inb_S8x256x256_S1x256x128_7_0_0
abbrev r0_30 : Rect S8x256x256 := Rect.unit (s := S8x256x256) ![7, 0, 128] S1x256x128.size inb_S8x256x256_S1x256x128_7_0_128
abbrev r0_31 : Rect S256x64 := Rect.unit (s := S256x64) ![0, 0] S256x64.size inb_S256x64_S256x64_0_0
abbrev r0_32 : Rect S256x1536 := Rect.unit (s := S256x1536) ![0, 0] S256x1536.size inb_S256x1536_S256x1536_0_0
abbrev r0_33 : Rect S256x512 := Rect.unit (s := S256x512) ![0, 0] S256x512.size inb_S256x512_S256x512_0_0

/-! ## What the body leaves in each output window's buffer -/

/-! ### Values of the body that the stores' payloads, spelt out, would write more than once

    Each is a vector the body binds (often a part call's result), stated over the input windows' blocks and
    numbered on from the skeleton's payload functions (`k0_pay78` …, after `k0_pay77`), so that
    `out0_W` and the values after it name it instead of spelling it out (`unfold_out out0_W` opens a canon
    with them, `unfold_payloads` opens them with the payloads); the comment after each is the printed function's
    name for the value (a count appended where that name is bound again). -/

def k0_pay78 (x0 : Vec F S32x8x1024 .f32) (x1 : Vec F S32x1x1024 .f32) (x2 : Vec F S32x1x1024 .f32) (x3 : Vec F S1x1024 .f32) (x4 : Vec F S1024x1024 .bf16) (x5 : Vec F S1024x1280 .bf16) (x6 : Vec F S1024x1280 .bf16) (x7 : Vec F S1024x2048 .bf16) (x8 : Vec F S1x128 .f32) (x9 : Vec F S1x128 .f32) (x10 : Vec F S256x128 .f32) (x11 : Vec F S256x128 .f32) (x12 : Vec F S256x128 .f32) (x13 : Vec F S256x128 .f32) (x14 : Vec F S256x128 .f32) : FVec F S256x1024 .bf16 :=
  k0_pay6 (View.ld x0 r0_0) (View.ld x3 r0_1) (View.ld x2 r0_2) (View.ld x1 r0_2) -- `v27`
def k0_pay79 (x0 : Vec F S32x8x1024 .f32) (x1 : Vec F S32x1x1024 .f32) (x2 : Vec F S32x1x1024 .f32) (x3 : Vec F S1x1024 .f32) (x4 : Vec F S1024x1024 .bf16) (x5 : Vec F S1024x1280 .bf16) (x6 : Vec F S1024x1280 .bf16) (x7 : Vec F S1024x2048 .bf16) (x8 : Vec F S1x128 .f32) (x9 : Vec F S1x128 .f32) (x10 : Vec F S256x128 .f32) (x11 : Vec F S256x128 .f32) (x12 : Vec F S256x128 .f32) (x13 : Vec F S256x128 .f32) (x14 : Vec F S256x128 .f32) : FVec F S256x1024 .f32 :=
  k0_pay8 (View.ld x0 r0_0) (View.ld x3 r0_1) (View.ld x2 r0_2) (View.ld x1 r0_2) (View.ld x4 r0_3) -- `v33`
def k0_pay80 (x0 : Vec F S32x8x1024 .f32) (x1 : Vec F S32x1x1024 .f32) (x2 : Vec F S32x1x1024 .f32) (x3 : Vec F S1x1024 .f32) (x4 : Vec F S1024x1024 .bf16) (x5 : Vec F S1024x1280 .bf16) (x6 : Vec F S1024x1280 .bf16) (x7 : Vec F S1024x2048 .bf16) (x8 : Vec F S1x128 .f32) (x9 : Vec F S1x128 .f32) (x10 : Vec F S256x128 .f32) (x11 : Vec F S256x128 .f32) (x12 : Vec F S256x128 .f32) (x13 : Vec F S256x128 .f32) (x14 : Vec F S256x128 .f32) : FVec F S256x1280 .f32 :=
  k0_pay11 (k0_pay78 x0 x1 x2 x3 x4 x5 x6 x7 x8 x9 x10 x11 x12 x13 x14) (k0_pay7 (View.ld x0 r0_0) (View.ld x3 r0_1) (View.ld x2 r0_2) (View.ld x1 r0_2)) (k0_pay9 (View.ld x5 r0_4)) (k0_pay10 (View.ld x0 r0_0) (View.ld x3 r0_1) (View.ld x2 r0_2) (View.ld x1 r0_2) (View.ld x5 r0_4)) (View.ld x6 r0_4) -- `v42`
def k0_pay81 (x0 : Vec F S32x8x1024 .f32) (x1 : Vec F S32x1x1024 .f32) (x2 : Vec F S32x1x1024 .f32) (x3 : Vec F S1x1024 .f32) (x4 : Vec F S1024x1024 .bf16) (x5 : Vec F S1024x1280 .bf16) (x6 : Vec F S1024x1280 .bf16) (x7 : Vec F S1024x2048 .bf16) (x8 : Vec F S1x128 .f32) (x9 : Vec F S1x128 .f32) (x10 : Vec F S256x128 .f32) (x11 : Vec F S256x128 .f32) (x12 : Vec F S256x128 .f32) (x13 : Vec F S256x128 .f32) (x14 : Vec F S256x128 .f32) : FVec F S256x2048 .f32 :=
  k0_pay12 (k0_pay78 x0 x1 x2 x3 x4 x5 x6 x7 x8 x9 x10 x11 x12 x13 x14) (View.ld x7 r0_5) -- `v45`
def k0_pay82 (x0 : Vec F S32x8x1024 .f32) (x1 : Vec F S32x1x1024 .f32) (x2 : Vec F S32x1x1024 .f32) (x3 : Vec F S1x1024 .f32) (x4 : Vec F S1024x1024 .bf16) (x5 : Vec F S1024x1280 .bf16) (x6 : Vec F S1024x1280 .bf16) (x7 : Vec F S1024x2048 .bf16) (x8 : Vec F S1x128 .f32) (x9 : Vec F S1x128 .f32) (x10 : Vec F S256x128 .f32) (x11 : Vec F S256x128 .f32) (x12 : Vec F S256x128 .f32) (x13 : Vec F S256x128 .f32) (x14 : Vec F S256x128 .f32) : FVec F S256x128 .f32 :=
  k0_pay13 (View.ld x10 r0_6) -- `v47`
def k0_pay83 (x0 : Vec F S32x8x1024 .f32) (x1 : Vec F S32x1x1024 .f32) (x2 : Vec F S32x1x1024 .f32) (x3 : Vec F S1x1024 .f32) (x4 : Vec F S1024x1024 .bf16) (x5 : Vec F S1024x1280 .bf16) (x6 : Vec F S1024x1280 .bf16) (x7 : Vec F S1024x2048 .bf16) (x8 : Vec F S1x128 .f32) (x9 : Vec F S1x128 .f32) (x10 : Vec F S256x128 .f32) (x11 : Vec F S256x128 .f32) (x12 : Vec F S256x128 .f32) (x13 : Vec F S256x128 .f32) (x14 : Vec F S256x128 .f32) : FVec F S256x128 .f32 :=
  k0_pay14 (View.ld x11 r0_6) -- `v49`
def k0_pay84 (x0 : Vec F S32x8x1024 .f32) (x1 : Vec F S32x1x1024 .f32) (x2 : Vec F S32x1x1024 .f32) (x3 : Vec F S1x1024 .f32) (x4 : Vec F S1024x1024 .bf16) (x5 : Vec F S1024x1280 .bf16) (x6 : Vec F S1024x1280 .bf16) (x7 : Vec F S1024x2048 .bf16) (x8 : Vec F S1x128 .f32) (x9 : Vec F S1x128 .f32) (x10 : Vec F S256x128 .f32) (x11 : Vec F S256x128 .f32) (x12 : Vec F S256x128 .f32) (x13 : Vec F S256x128 .f32) (x14 : Vec F S256x128 .f32) : FVec F S1x128 .f32 :=
  k0_pay15 (View.ld x8 r0_7) -- `v51`
def k0_pay85 (x0 : Vec F S32x8x1024 .f32) (x1 : Vec F S32x1x1024 .f32) (x2 : Vec F S32x1x1024 .f32) (x3 : Vec F S1x1024 .f32) (x4 : Vec F S1024x1024 .bf16) (x5 : Vec F S1024x1280 .bf16) (x6 : Vec F S1024x1280 .bf16) (x7 : Vec F S1024x2048 .bf16) (x8 : Vec F S1x128 .f32) (x9 : Vec F S1x128 .f32) (x10 : Vec F S256x128 .f32) (x11 : Vec F S256x128 .f32) (x12 : Vec F S256x128 .f32) (x13 : Vec F S256x128 .f32) (x14 : Vec F S256x128 .f32) : FVec F S1x128 .f32 :=
  k0_pay16 (View.ld x9 r0_7) -- `v53`
def k0_pay86 (x0 : Vec F S32x8x1024 .f32) (x1 : Vec F S32x1x1024 .f32) (x2 : Vec F S32x1x1024 .f32) (x3 : Vec F S1x1024 .f32) (x4 : Vec F S1024x1024 .bf16) (x5 : Vec F S1024x1280 .bf16) (x6 : Vec F S1024x1280 .bf16) (x7 : Vec F S1024x2048 .bf16) (x8 : Vec F S1x128 .f32) (x9 : Vec F S1x128 .f32) (x10 : Vec F S256x128 .f32) (x11 : Vec F S256x128 .f32) (x12 : Vec F S256x128 .f32) (x13 : Vec F S256x128 .f32) (x14 : Vec F S256x128 .f32) : FVec F S256x128 .f32 :=
  k0_pay25 (k0_pay79 x0 x1 x2 x3 x4 x5 x6 x7 x8 x9 x10 x11 x12 x13 x14) -- `v158`
def k0_pay87 (x0 : Vec F S32x8x1024 .f32) (x1 : Vec F S32x1x1024 .f32) (x2 : Vec F S32x1x1024 .f32) (x3 : Vec F S1x1024 .f32) (x4 : Vec F S1024x1024 .bf16) (x5 : Vec F S1024x1280 .bf16) (x6 : Vec F S1024x1280 .bf16) (x7 : Vec F S1024x2048 .bf16) (x8 : Vec F S1x128 .f32) (x9 : Vec F S1x128 .f32) (x10 : Vec F S256x128 .f32) (x11 : Vec F S256x128 .f32) (x12 : Vec F S256x128 .f32) (x13 : Vec F S256x128 .f32) (x14 : Vec F S256x128 .f32) : FVec F S256x128 .f32 :=
  k0_pay26 (k0_pay79 x0 x1 x2 x3 x4 x5 x6 x7 x8 x9 x10 x11 x12 x13 x14) -- `v159`
def k0_pay88 (x0 : Vec F S32x8x1024 .f32) (x1 : Vec F S32x1x1024 .f32) (x2 : Vec F S32x1x1024 .f32) (x3 : Vec F S1x1024 .f32) (x4 : Vec F S1024x1024 .bf16) (x5 : Vec F S1024x1280 .bf16) (x6 : Vec F S1024x1280 .bf16) (x7 : Vec F S1024x2048 .bf16) (x8 : Vec F S1x128 .f32) (x9 : Vec F S1x128 .f32) (x10 : Vec F S256x128 .f32) (x11 : Vec F S256x128 .f32) (x12 : Vec F S256x128 .f32) (x13 : Vec F S256x128 .f32) (x14 : Vec F S256x128 .f32) : FVec F S256x128 .f32 :=
  k0_pay31 (View.ld x12 r0_6) -- `v183`
def k0_pay89 (x0 : Vec F S32x8x1024 .f32) (x1 : Vec F S32x1x1024 .f32) (x2 : Vec F S32x1x1024 .f32) (x3 : Vec F S1x1024 .f32) (x4 : Vec F S1024x1024 .bf16) (x5 : Vec F S1024x1280 .bf16) (x6 : Vec F S1024x1280 .bf16) (x7 : Vec F S1024x2048 .bf16) (x8 : Vec F S1x128 .f32) (x9 : Vec F S1x128 .f32) (x10 : Vec F S256x128 .f32) (x11 : Vec F S256x128 .f32) (x12 : Vec F S256x128 .f32) (x13 : Vec F S256x128 .f32) (x14 : Vec F S256x128 .f32) : FVec F S256x128 .f32 :=
  k0_pay32 (View.ld x13 r0_6) -- `v185`
def k0_pay90 (x0 : Vec F S32x8x1024 .f32) (x1 : Vec F S32x1x1024 .f32) (x2 : Vec F S32x1x1024 .f32) (x3 : Vec F S1x1024 .f32) (x4 : Vec F S1024x1024 .bf16) (x5 : Vec F S1024x1280 .bf16) (x6 : Vec F S1024x1280 .bf16) (x7 : Vec F S1024x2048 .bf16) (x8 : Vec F S1x128 .f32) (x9 : Vec F S1x128 .f32) (x10 : Vec F S256x128 .f32) (x11 : Vec F S256x128 .f32) (x12 : Vec F S256x128 .f32) (x13 : Vec F S256x128 .f32) (x14 : Vec F S256x128 .f32) : FVec F S256x128 .f32 :=
  k0_pay33 (View.ld x14 r0_6) -- `v187`
def k0_pay91 (x0 : Vec F S32x8x1024 .f32) (x1 : Vec F S32x1x1024 .f32) (x2 : Vec F S32x1x1024 .f32) (x3 : Vec F S1x1024 .f32) (x4 : Vec F S1024x1024 .bf16) (x5 : Vec F S1024x1280 .bf16) (x6 : Vec F S1024x1280 .bf16) (x7 : Vec F S1024x2048 .bf16) (x8 : Vec F S1x128 .f32) (x9 : Vec F S1x128 .f32) (x10 : Vec F S256x128 .f32) (x11 : Vec F S256x128 .f32) (x12 : Vec F S256x128 .f32) (x13 : Vec F S256x128 .f32) (x14 : Vec F S256x128 .f32) : IVec S256x128 1 :=
  k0_pay34 -- `v190`
def k0_pay92 (x0 : Vec F S32x8x1024 .f32) (x1 : Vec F S32x1x1024 .f32) (x2 : Vec F S32x1x1024 .f32) (x3 : Vec F S1x1024 .f32) (x4 : Vec F S1024x1024 .bf16) (x5 : Vec F S1024x1280 .bf16) (x6 : Vec F S1024x1280 .bf16) (x7 : Vec F S1024x2048 .bf16) (x8 : Vec F S1x128 .f32) (x9 : Vec F S1x128 .f32) (x10 : Vec F S256x128 .f32) (x11 : Vec F S256x128 .f32) (x12 : Vec F S256x128 .f32) (x13 : Vec F S256x128 .f32) (x14 : Vec F S256x128 .f32) : FVec F S256x128 .f32 :=
  k0_pay35 (k0_pay80 x0 x1 x2 x3 x4 x5 x6 x7 x8 x9 x10 x11 x12 x13 x14) -- `v191`
def k0_pay93 (x0 : Vec F S32x8x1024 .f32) (x1 : Vec F S32x1x1024 .f32) (x2 : Vec F S32x1x1024 .f32) (x3 : Vec F S1x1024 .f32) (x4 : Vec F S1024x1024 .bf16) (x5 : Vec F S1024x1280 .bf16) (x6 : Vec F S1024x1280 .bf16) (x7 : Vec F S1024x2048 .bf16) (x8 : Vec F S1x128 .f32) (x9 : Vec F S1x128 .f32) (x10 : Vec F S256x128 .f32) (x11 : Vec F S256x128 .f32) (x12 : Vec F S256x128 .f32) (x13 : Vec F S256x128 .f32) (x14 : Vec F S256x128 .f32) : FVec F S256x128 .f32 :=
  k0_pay36 (k0_pay80 x0 x1 x2 x3 x4 x5 x6 x7 x8 x9 x10 x11 x12 x13 x14) (View.ld x12 r0_6) (View.ld x13 r0_6) -- `v195`
def k0_pay94 (x0 : Vec F S32x8x1024 .f32) (x1 : Vec F S32x1x1024 .f32) (x2 : Vec F S32x1x1024 .f32) (x3 : Vec F S1x1024 .f32) (x4 : Vec F S1024x1024 .bf16) (x5 : Vec F S1024x1280 .bf16) (x6 : Vec F S1024x1280 .bf16) (x7 : Vec F S1024x2048 .bf16) (x8 : Vec F S1x128 .f32) (x9 : Vec F S1x128 .f32) (x10 : Vec F S256x128 .f32) (x11 : Vec F S256x128 .f32) (x12 : Vec F S256x128 .f32) (x13 : Vec F S256x128 .f32) (x14 : Vec F S256x128 .f32) : FVec F S256x128 .f32 :=
  k0_pay59 (k0_pay80 x0 x1 x2 x3 x4 x5 x6 x7 x8 x9 x10 x11 x12 x13 x14) -- `v311`
def k0_pay95 (x0 : Vec F S32x8x1024 .f32) (x1 : Vec F S32x1x1024 .f32) (x2 : Vec F S32x1x1024 .f32) (x3 : Vec F S1x1024 .f32) (x4 : Vec F S1024x1024 .bf16) (x5 : Vec F S1024x1280 .bf16) (x6 : Vec F S1024x1280 .bf16) (x7 : Vec F S1024x2048 .bf16) (x8 : Vec F S1x128 .f32) (x9 : Vec F S1x128 .f32) (x10 : Vec F S256x128 .f32) (x11 : Vec F S256x128 .f32) (x12 : Vec F S256x128 .f32) (x13 : Vec F S256x128 .f32) (x14 : Vec F S256x128 .f32) : FVec F S256x128 .f32 :=
  k0_pay60 (k0_pay80 x0 x1 x2 x3 x4 x5 x6 x7 x8 x9 x10 x11 x12 x13 x14) (k0_pay88 x0 x1 x2 x3 x4 x5 x6 x7 x8 x9 x10 x11 x12 x13 x14) (k0_pay89 x0 x1 x2 x3 x4 x5 x6 x7 x8 x9 x10 x11 x12 x13 x14) -- `v315`

/-- Window 15's staging buffer after the body, from the input windows' blocks: its 4 stores as pieces, LAST
    FIRST (Lib/Pipeline/FrameBody.lean `View.canon`; the payloads are the skeleton's and the values stated above). -/
def out0_15 (x0 : Vec F S32x8x1024 .f32) (x1 : Vec F S32x1x1024 .f32) (x2 : Vec F S32x1x1024 .f32) (x3 : Vec F S1x1024 .f32) (x4 : Vec F S1024x1024 .bf16) (x5 : Vec F S1024x1280 .bf16) (x6 : Vec F S1024x1280 .bf16) (x7 : Vec F S1024x2048 .bf16) (x8 : Vec F S1x128 .f32) (x9 : Vec F S1x128 .f32) (x10 : Vec F S256x128 .f32) (x11 : Vec F S256x128 .f32) (x12 : Vec F S256x128 .f32) (x13 : Vec F S256x128 .f32) (x14 : Vec F S256x128 .f32) : Vec F S256x512 .bf16 :=
  View.canon [⟨r0_11, k0_pay22 (k0_pay82 x0 x1 x2 x3 x4 x5 x6 x7 x8 x9 x10 x11 x12 x13 x14) (k0_pay83 x0 x1 x2 x3 x4 x5 x6 x7 x8 x9 x10 x11 x12 x13 x14) (k0_pay84 x0 x1 x2 x3 x4 x5 x6 x7 x8 x9 x10 x11 x12 x13 x14) (k0_pay20 (k0_pay79 x0 x1 x2 x3 x4 x5 x6 x7 x8 x9 x10 x11 x12 x13 x14)) (k0_pay21 (k0_pay79 x0 x1 x2 x3 x4 x5 x6 x7 x8 x9 x10 x11 x12 x13 x14))⟩,
    ⟨r0_10, k0_pay19 (k0_pay79 x0 x1 x2 x3 x4 x5 x6 x7 x8 x9 x10 x11 x12 x13 x14) (k0_pay82 x0 x1 x2 x3 x4 x5 x6 x7 x8 x9 x10 x11 x12 x13 x14) (k0_pay83 x0 x1 x2 x3 x4 x5 x6 x7 x8 x9 x10 x11 x12 x13 x14) (k0_pay84 x0 x1 x2 x3 x4 x5 x6 x7 x8 x9 x10 x11 x12 x13 x14)⟩,
    ⟨r0_9, k0_pay18 (k0_pay79 x0 x1 x2 x3 x4 x5 x6 x7 x8 x9 x10 x11 x12 x13 x14) (k0_pay82 x0 x1 x2 x3 x4 x5 x6 x7 x8 x9 x10 x11 x12 x13 x14) (k0_pay83 x0 x1 x2 x3 x4 x5 x6 x7 x8 x9 x10 x11 x12 x13 x14) (k0_pay84 x0 x1 x2 x3 x4 x5 x6 x7 x8 x9 x10 x11 x12 x13 x14)⟩,
    ⟨r0_8, k0_pay17 (k0_pay79 x0 x1 x2 x3 x4 x5 x6 x7 x8 x9 x10 x11 x12 x13 x14) (View.ld x10 r0_6) (View.ld x11 r0_6) (View.ld x8 r0_7)⟩]

/-- Its stores tile the buffer (checked by evaluation), so they cover it. -/
theorem cover0_15 (p0 : Vec F S256x128 .bf16) (p1 : Vec F S256x128 .bf16) (p2 : Vec F S256x128 .bf16) (p3 : Vec F S256x128 .bf16) (y : S256x512.Idx) :
    ∃ pc ∈ ([⟨r0_11, p0⟩, ⟨r0_10, p1⟩, ⟨r0_9, p2⟩, ⟨r0_8, p3⟩] : List (View.Piece (Elt F) S256x512 .bf16)), y ∈ pc.1.set :=
  View.cover_of_tiled [⟨r0_11, p0⟩, ⟨r0_10, p1⟩, ⟨r0_9, p2⟩, ⟨r0_8, p3⟩] S256x128.size (by rfl) y

/-- Window 16's staging buffer after the body, from the input windows' blocks: its 2 stores as pieces, LAST
    FIRST (Lib/Pipeline/FrameBody.lean `View.canon`; the payloads are the skeleton's and the values stated above). -/
def out0_16 (x0 : Vec F S32x8x1024 .f32) (x1 : Vec F S32x1x1024 .f32) (x2 : Vec F S32x1x1024 .f32) (x3 : Vec F S1x1024 .f32) (x4 : Vec F S1024x1024 .bf16) (x5 : Vec F S1024x1280 .bf16) (x6 : Vec F S1024x1280 .bf16) (x7 : Vec F S1024x2048 .bf16) (x8 : Vec F S1x128 .f32) (x9 : Vec F S1x128 .f32) (x10 : Vec F S256x128 .f32) (x11 : Vec F S256x128 .f32) (x12 : Vec F S256x128 .f32) (x13 : Vec F S256x128 .f32) (x14 : Vec F S256x128 .f32) : Vec F S256x256 .f32 :=
  View.canon [⟨r0_13, k0_pay27 (k0_pay82 x0 x1 x2 x3 x4 x5 x6 x7 x8 x9 x10 x11 x12 x13 x14) (k0_pay83 x0 x1 x2 x3 x4 x5 x6 x7 x8 x9 x10 x11 x12 x13 x14) (k0_pay85 x0 x1 x2 x3 x4 x5 x6 x7 x8 x9 x10 x11 x12 x13 x14) (k0_pay86 x0 x1 x2 x3 x4 x5 x6 x7 x8 x9 x10 x11 x12 x13 x14) (k0_pay87 x0 x1 x2 x3 x4 x5 x6 x7 x8 x9 x10 x11 x12 x13 x14)⟩,
    ⟨r0_12, k0_pay23 (k0_pay79 x0 x1 x2 x3 x4 x5 x6 x7 x8 x9 x10 x11 x12 x13 x14) (k0_pay82 x0 x1 x2 x3 x4 x5 x6 x7 x8 x9 x10 x11 x12 x13 x14) (k0_pay83 x0 x1 x2 x3 x4 x5 x6 x7 x8 x9 x10 x11 x12 x13 x14) (k0_pay85 x0 x1 x2 x3 x4 x5 x6 x7 x8 x9 x10 x11 x12 x13 x14)⟩]

/-- Its stores tile the buffer (checked by evaluation), so they cover it. -/
theorem cover0_16 (p0 : Vec F S256x128 .f32) (p1 : Vec F S256x128 .f32) (y : S256x256.Idx) :
    ∃ pc ∈ ([⟨r0_13, p0⟩, ⟨r0_12, p1⟩] : List (View.Piece (Elt F) S256x256 .f32)), y ∈ pc.1.set :=
  View.cover_of_tiled [⟨r0_13, p0⟩, ⟨r0_12, p1⟩] S256x128.size (by rfl) y

/-- Window 17's staging buffer after the body, from the input windows' blocks: its 1 store as pieces, LAST
    FIRST (Lib/Pipeline/FrameBody.lean `View.canon`; the payloads are the skeleton's and the values stated above). -/
def out0_17 (x0 : Vec F S32x8x1024 .f32) (x1 : Vec F S32x1x1024 .f32) (x2 : Vec F S32x1x1024 .f32) (x3 : Vec F S1x1024 .f32) (x4 : Vec F S1024x1024 .bf16) (x5 : Vec F S1024x1280 .bf16) (x6 : Vec F S1024x1280 .bf16) (x7 : Vec F S1024x2048 .bf16) (x8 : Vec F S1x128 .f32) (x9 : Vec F S1x128 .f32) (x10 : Vec F S256x128 .f32) (x11 : Vec F S256x128 .f32) (x12 : Vec F S256x128 .f32) (x13 : Vec F S256x128 .f32) (x14 : Vec F S256x128 .f32) : Vec F S256x256 .f32 :=
  View.canon [⟨r0_14, k0_pay29 (k0_pay79 x0 x1 x2 x3 x4 x5 x6 x7 x8 x9 x10 x11 x12 x13 x14)⟩]

/-- Its stores tile the buffer (checked by evaluation), so they cover it. -/
theorem cover0_17 (p0 : Vec F S256x256 .f32) (y : S256x256.Idx) :
    ∃ pc ∈ ([⟨r0_14, p0⟩] : List (View.Piece (Elt F) S256x256 .f32)), y ∈ pc.1.set :=
  View.cover_of_tiled [⟨r0_14, p0⟩] S256x256.size (by rfl) y

/-- Window 18's staging buffer after the body, from the input windows' blocks: its 2 stores as pieces, LAST
    FIRST (Lib/Pipeline/FrameBody.lean `View.canon`; the payloads are the skeleton's and the values stated above). -/
def out0_18 (x0 : Vec F S32x8x1024 .f32) (x1 : Vec F S32x1x1024 .f32) (x2 : Vec F S32x1x1024 .f32) (x3 : Vec F S1x1024 .f32) (x4 : Vec F S1024x1024 .bf16) (x5 : Vec F S1024x1280 .bf16) (x6 : Vec F S1024x1280 .bf16) (x7 : Vec F S1024x2048 .bf16) (x8 : Vec F S1x128 .f32) (x9 : Vec F S1x128 .f32) (x10 : Vec F S256x128 .f32) (x11 : Vec F S256x128 .f32) (x12 : Vec F S256x128 .f32) (x13 : Vec F S256x128 .f32) (x14 : Vec F S256x128 .f32) : Vec F S256x256 .bf16 :=
  View.canon [⟨r0_13, k0_pay28 (k0_pay82 x0 x1 x2 x3 x4 x5 x6 x7 x8 x9 x10 x11 x12 x13 x14) (k0_pay83 x0 x1 x2 x3 x4 x5 x6 x7 x8 x9 x10 x11 x12 x13 x14) (k0_pay85 x0 x1 x2 x3 x4 x5 x6 x7 x8 x9 x10 x11 x12 x13 x14) (k0_pay86 x0 x1 x2 x3 x4 x5 x6 x7 x8 x9 x10 x11 x12 x13 x14) (k0_pay87 x0 x1 x2 x3 x4 x5 x6 x7 x8 x9 x10 x11 x12 x13 x14)⟩,
    ⟨r0_12, k0_pay24 (k0_pay79 x0 x1 x2 x3 x4 x5 x6 x7 x8 x9 x10 x11 x12 x13 x14) (k0_pay82 x0 x1 x2 x3 x4 x5 x6 x7 x8 x9 x10 x11 x12 x13 x14) (k0_pay83 x0 x1 x2 x3 x4 x5 x6 x7 x8 x9 x10 x11 x12 x13 x14) (k0_pay85 x0 x1 x2 x3 x4 x5 x6 x7 x8 x9 x10 x11 x12 x13 x14)⟩]

/-- Its stores tile the buffer (checked by evaluation), so they cover it. -/
theorem cover0_18 (p0 : Vec F S256x128 .bf16) (p1 : Vec F S256x128 .bf16) (y : S256x256.Idx) :
    ∃ pc ∈ ([⟨r0_13, p0⟩, ⟨r0_12, p1⟩] : List (View.Piece (Elt F) S256x256 .bf16)), y ∈ pc.1.set :=
  View.cover_of_tiled [⟨r0_13, p0⟩, ⟨r0_12, p1⟩] S256x128.size (by rfl) y

/-- Window 19's staging buffer after the body, from the input windows' blocks: its 1 store as pieces, LAST
    FIRST (Lib/Pipeline/FrameBody.lean `View.canon`; the payloads are the skeleton's and the values stated above). -/
def out0_19 (x0 : Vec F S32x8x1024 .f32) (x1 : Vec F S32x1x1024 .f32) (x2 : Vec F S32x1x1024 .f32) (x3 : Vec F S1x1024 .f32) (x4 : Vec F S1024x1024 .bf16) (x5 : Vec F S1024x1280 .bf16) (x6 : Vec F S1024x1280 .bf16) (x7 : Vec F S1024x2048 .bf16) (x8 : Vec F S1x128 .f32) (x9 : Vec F S1x128 .f32) (x10 : Vec F S256x128 .f32) (x11 : Vec F S256x128 .f32) (x12 : Vec F S256x128 .f32) (x13 : Vec F S256x128 .f32) (x14 : Vec F S256x128 .f32) : Vec F S256x256 .bf16 :=
  View.canon [⟨r0_14, k0_pay30 (k0_pay79 x0 x1 x2 x3 x4 x5 x6 x7 x8 x9 x10 x11 x12 x13 x14)⟩]

/-- Its stores tile the buffer (checked by evaluation), so they cover it. -/
theorem cover0_19 (p0 : Vec F S256x256 .bf16) (y : S256x256.Idx) :
    ∃ pc ∈ ([⟨r0_14, p0⟩] : List (View.Piece (Elt F) S256x256 .bf16)), y ∈ pc.1.set :=
  View.cover_of_tiled [⟨r0_14, p0⟩] S256x256.size (by rfl) y

/-- Window 20's staging buffer after the body, from the input windows' blocks: its 16 stores as pieces, LAST
    FIRST (Lib/Pipeline/FrameBody.lean `View.canon`; the payloads are the skeleton's and the values stated above). -/
def out0_20 (x0 : Vec F S32x8x1024 .f32) (x1 : Vec F S32x1x1024 .f32) (x2 : Vec F S32x1x1024 .f32) (x3 : Vec F S1x1024 .f32) (x4 : Vec F S1024x1024 .bf16) (x5 : Vec F S1024x1280 .bf16) (x6 : Vec F S1024x1280 .bf16) (x7 : Vec F S1024x2048 .bf16) (x8 : Vec F S1x128 .f32) (x9 : Vec F S1x128 .f32) (x10 : Vec F S256x128 .f32) (x11 : Vec F S256x128 .f32) (x12 : Vec F S256x128 .f32) (x13 : Vec F S256x128 .f32) (x14 : Vec F S256x128 .f32) : Vec F S8x256x256 .bf16 :=
  View.canon [⟨r0_30, k0_pay73 (k0_pay80 x0 x1 x2 x3 x4 x5 x6 x7 x8 x9 x10 x11 x12 x13 x14) (k0_pay88 x0 x1 x2 x3 x4 x5 x6 x7 x8 x9 x10 x11 x12 x13 x14) (k0_pay89 x0 x1 x2 x3 x4 x5 x6 x7 x8 x9 x10 x11 x12 x13 x14) (k0_pay90 x0 x1 x2 x3 x4 x5 x6 x7 x8 x9 x10 x11 x12 x13 x14) (k0_pay91 x0 x1 x2 x3 x4 x5 x6 x7 x8 x9 x10 x11 x12 x13 x14)⟩,
    ⟨r0_29, k0_pay72 (k0_pay80 x0 x1 x2 x3 x4 x5 x6 x7 x8 x9 x10 x11 x12 x13 x14) (k0_pay88 x0 x1 x2 x3 x4 x5 x6 x7 x8 x9 x10 x11 x12 x13 x14) (k0_pay89 x0 x1 x2 x3 x4 x5 x6 x7 x8 x9 x10 x11 x12 x13 x14) (k0_pay90 x0 x1 x2 x3 x4 x5 x6 x7 x8 x9 x10 x11 x12 x13 x14) (k0_pay91 x0 x1 x2 x3 x4 x5 x6 x7 x8 x9 x10 x11 x12 x13 x14)⟩,
    ⟨r0_28, k0_pay69 (k0_pay68 (k0_pay80 x0 x1 x2 x3 x4 x5 x6 x7 x8 x9 x10 x11 x12 x13 x14) (k0_pay88 x0 x1 x2 x3 x4 x5 x6 x7 x8 x9 x10 x11 x12 x13 x14) (k0_pay89 x0 x1 x2 x3 x4 x5 x6 x7 x8 x9 x10 x11 x12 x13 x14) (k0_pay90 x0 x1 x2 x3 x4 x5 x6 x7 x8 x9 x10 x11 x12 x13 x14) (k0_pay91 x0 x1 x2 x3 x4 x5 x6 x7 x8 x9 x10 x11 x12 x13 x14))⟩,
    ⟨r0_27, k0_pay67 (k0_pay80 x0 x1 x2 x3 x4 x5 x6 x7 x8 x9 x10 x11 x12 x13 x14) (k0_pay88 x0 x1 x2 x3 x4 x5 x6 x7 x8 x9 x10 x11 x12 x13 x14) (k0_pay89 x0 x1 x2 x3 x4 x5 x6 x7 x8 x9 x10 x11 x12 x13 x14) (k0_pay90 x0 x1 x2 x3 x4 x5 x6 x7 x8 x9 x10 x11 x12 x13 x14) (k0_pay91 x0 x1 x2 x3 x4 x5 x6 x7 x8 x9 x10 x11 x12 x13 x14)⟩,
    ⟨r0_26, k0_pay64 (k0_pay90 x0 x1 x2 x3 x4 x5 x6 x7 x8 x9 x10 x11 x12 x13 x14) (k0_pay91 x0 x1 x2 x3 x4 x5 x6 x7 x8 x9 x10 x11 x12 x13 x14) (k0_pay94 x0 x1 x2 x3 x4 x5 x6 x7 x8 x9 x10 x11 x12 x13 x14) (k0_pay95 x0 x1 x2 x3 x4 x5 x6 x7 x8 x9 x10 x11 x12 x13 x14) 32#32⟩,
    ⟨r0_25, k0_pay63 (k0_pay90 x0 x1 x2 x3 x4 x5 x6 x7 x8 x9 x10 x11 x12 x13 x14) (k0_pay91 x0 x1 x2 x3 x4 x5 x6 x7 x8 x9 x10 x11 x12 x13 x14) (k0_pay94 x0 x1 x2 x3 x4 x5 x6 x7 x8 x9 x10 x11 x12 x13 x14) (k0_pay95 x0 x1 x2 x3 x4 x5 x6 x7 x8 x9 x10 x11 x12 x13 x14) 32#32⟩,
    ⟨r0_24, k0_pay58 (k0_pay80 x0 x1 x2 x3 x4 x5 x6 x7 x8 x9 x10 x11 x12 x13 x14) (k0_pay88 x0 x1 x2 x3 x4 x5 x6 x7 x8 x9 x10 x11 x12 x13 x14) (k0_pay89 x0 x1 x2 x3 x4 x5 x6 x7 x8 x9 x10 x11 x12 x13 x14) (k0_pay90 x0 x1 x2 x3 x4 x5 x6 x7 x8 x9 x10 x11 x12 x13 x14) (k0_pay91 x0 x1 x2 x3 x4 x5 x6 x7 x8 x9 x10 x11 x12 x13 x14)⟩,
    ⟨r0_23, k0_pay57 (k0_pay80 x0 x1 x2 x3 x4 x5 x6 x7 x8 x9 x10 x11 x12 x13 x14) (k0_pay88 x0 x1 x2 x3 x4 x5 x6 x7 x8 x9 x10 x11 x12 x13 x14) (k0_pay89 x0 x1 x2 x3 x4 x5 x6 x7 x8 x9 x10 x11 x12 x13 x14) (k0_pay90 x0 x1 x2 x3 x4 x5 x6 x7 x8 x9 x10 x11 x12 x13 x14) (k0_pay91 x0 x1 x2 x3 x4 x5 x6 x7 x8 x9 x10 x11 x12 x13 x14)⟩,
    ⟨r0_22, k0_pay54 (k0_pay91 x0 x1 x2 x3 x4 x5 x6 x7 x8 x9 x10 x11 x12 x13 x14) (k0_pay51 (k0_pay80 x0 x1 x2 x3 x4 x5 x6 x7 x8 x9 x10 x11 x12 x13 x14) (k0_pay88 x0 x1 x2 x3 x4 x5 x6 x7 x8 x9 x10 x11 x12 x13 x14) (k0_pay89 x0 x1 x2 x3 x4 x5 x6 x7 x8 x9 x10 x11 x12 x13 x14) (k0_pay90 x0 x1 x2 x3 x4 x5 x6 x7 x8 x9 x10 x11 x12 x13 x14))⟩,
    ⟨r0_21, k0_pay53 (k0_pay52 (k0_pay80 x0 x1 x2 x3 x4 x5 x6 x7 x8 x9 x10 x11 x12 x13 x14) (k0_pay88 x0 x1 x2 x3 x4 x5 x6 x7 x8 x9 x10 x11 x12 x13 x14) (k0_pay89 x0 x1 x2 x3 x4 x5 x6 x7 x8 x9 x10 x11 x12 x13 x14) (k0_pay90 x0 x1 x2 x3 x4 x5 x6 x7 x8 x9 x10 x11 x12 x13 x14) (k0_pay91 x0 x1 x2 x3 x4 x5 x6 x7 x8 x9 x10 x11 x12 x13 x14))⟩,
    ⟨r0_20, k0_pay49 (k0_pay80 x0 x1 x2 x3 x4 x5 x6 x7 x8 x9 x10 x11 x12 x13 x14) (k0_pay88 x0 x1 x2 x3 x4 x5 x6 x7 x8 x9 x10 x11 x12 x13 x14) (k0_pay89 x0 x1 x2 x3 x4 x5 x6 x7 x8 x9 x10 x11 x12 x13 x14) (k0_pay90 x0 x1 x2 x3 x4 x5 x6 x7 x8 x9 x10 x11 x12 x13 x14) (k0_pay91 x0 x1 x2 x3 x4 x5 x6 x7 x8 x9 x10 x11 x12 x13 x14)⟩,
    ⟨r0_19, k0_pay48 (k0_pay80 x0 x1 x2 x3 x4 x5 x6 x7 x8 x9 x10 x11 x12 x13 x14) (k0_pay88 x0 x1 x2 x3 x4 x5 x6 x7 x8 x9 x10 x11 x12 x13 x14) (k0_pay89 x0 x1 x2 x3 x4 x5 x6 x7 x8 x9 x10 x11 x12 x13 x14) (k0_pay90 x0 x1 x2 x3 x4 x5 x6 x7 x8 x9 x10 x11 x12 x13 x14) (k0_pay91 x0 x1 x2 x3 x4 x5 x6 x7 x8 x9 x10 x11 x12 x13 x14)⟩,
    ⟨r0_18, k0_pay45 (k0_pay44 (k0_pay80 x0 x1 x2 x3 x4 x5 x6 x7 x8 x9 x10 x11 x12 x13 x14) (k0_pay88 x0 x1 x2 x3 x4 x5 x6 x7 x8 x9 x10 x11 x12 x13 x14) (k0_pay89 x0 x1 x2 x3 x4 x5 x6 x7 x8 x9 x10 x11 x12 x13 x14) (k0_pay90 x0 x1 x2 x3 x4 x5 x6 x7 x8 x9 x10 x11 x12 x13 x14) (k0_pay91 x0 x1 x2 x3 x4 x5 x6 x7 x8 x9 x10 x11 x12 x13 x14))⟩,
    ⟨r0_17, k0_pay43 (k0_pay80 x0 x1 x2 x3 x4 x5 x6 x7 x8 x9 x10 x11 x12 x13 x14) (k0_pay88 x0 x1 x2 x3 x4 x5 x6 x7 x8 x9 x10 x11 x12 x13 x14) (k0_pay89 x0 x1 x2 x3 x4 x5 x6 x7 x8 x9 x10 x11 x12 x13 x14) (k0_pay90 x0 x1 x2 x3 x4 x5 x6 x7 x8 x9 x10 x11 x12 x13 x14) (k0_pay91 x0 x1 x2 x3 x4 x5 x6 x7 x8 x9 x10 x11 x12 x13 x14)⟩,
    ⟨r0_16, k0_pay40 (k0_pay90 x0 x1 x2 x3 x4 x5 x6 x7 x8 x9 x10 x11 x12 x13 x14) (k0_pay91 x0 x1 x2 x3 x4 x5 x6 x7 x8 x9 x10 x11 x12 x13 x14) (k0_pay92 x0 x1 x2 x3 x4 x5 x6 x7 x8 x9 x10 x11 x12 x13 x14) (k0_pay93 x0 x1 x2 x3 x4 x5 x6 x7 x8 x9 x10 x11 x12 x13 x14) 32#32⟩,
    ⟨r0_15, k0_pay39 (k0_pay90 x0 x1 x2 x3 x4 x5 x6 x7 x8 x9 x10 x11 x12 x13 x14) (k0_pay91 x0 x1 x2 x3 x4 x5 x6 x7 x8 x9 x10 x11 x12 x13 x14) (k0_pay92 x0 x1 x2 x3 x4 x5 x6 x7 x8 x9 x10 x11 x12 x13 x14) (k0_pay93 x0 x1 x2 x3 x4 x5 x6 x7 x8 x9 x10 x11 x12 x13 x14) 32#32⟩]

/-- Its stores tile the buffer (checked by evaluation), so they cover it. -/
theorem cover0_20 (p0 : Vec F S1x256x128 .bf16) (p1 : Vec F S1x256x128 .bf16) (p2 : Vec F S1x256x128 .bf16) (p3 : Vec F S1x256x128 .bf16) (p4 : Vec F S1x256x128 .bf16) (p5 : Vec F S1x256x128 .bf16) (p6 : Vec F S1x256x128 .bf16) (p7 : Vec F S1x256x128 .bf16) (p8 : Vec F S1x256x128 .bf16) (p9 : Vec F S1x256x128 .bf16) (p10 : Vec F S1x256x128 .bf16) (p11 : Vec F S1x256x128 .bf16) (p12 : Vec F S1x256x128 .bf16) (p13 : Vec F S1x256x128 .bf16) (p14 : Vec F S1x256x128 .bf16) (p15 : Vec F S1x256x128 .bf16) (y : S8x256x256.Idx) :
    ∃ pc ∈ ([⟨r0_30, p0⟩, ⟨r0_29, p1⟩, ⟨r0_28, p2⟩, ⟨r0_27, p3⟩, ⟨r0_26, p4⟩, ⟨r0_25, p5⟩, ⟨r0_24, p6⟩, ⟨r0_23, p7⟩, ⟨r0_22, p8⟩, ⟨r0_21, p9⟩, ⟨r0_20, p10⟩, ⟨r0_19, p11⟩, ⟨r0_18, p12⟩, ⟨r0_17, p13⟩, ⟨r0_16, p14⟩, ⟨r0_15, p15⟩] : List (View.Piece (Elt F) S8x256x256 .bf16)), y ∈ pc.1.set :=
  View.cover_of_tiled [⟨r0_30, p0⟩, ⟨r0_29, p1⟩, ⟨r0_28, p2⟩, ⟨r0_27, p3⟩, ⟨r0_26, p4⟩, ⟨r0_25, p5⟩, ⟨r0_24, p6⟩, ⟨r0_23, p7⟩, ⟨r0_22, p8⟩, ⟨r0_21, p9⟩, ⟨r0_20, p10⟩, ⟨r0_19, p11⟩, ⟨r0_18, p12⟩, ⟨r0_17, p13⟩, ⟨r0_16, p14⟩, ⟨r0_15, p15⟩] S1x256x128.size (by rfl) y

/-- Window 21's staging buffer after the body, from the input windows' blocks: its 1 store as pieces, LAST
    FIRST (Lib/Pipeline/FrameBody.lean `View.canon`; the payloads are the skeleton's and the values stated above). -/
def out0_21 (x0 : Vec F S32x8x1024 .f32) (x1 : Vec F S32x1x1024 .f32) (x2 : Vec F S32x1x1024 .f32) (x3 : Vec F S1x1024 .f32) (x4 : Vec F S1024x1024 .bf16) (x5 : Vec F S1024x1280 .bf16) (x6 : Vec F S1024x1280 .bf16) (x7 : Vec F S1024x2048 .bf16) (x8 : Vec F S1x128 .f32) (x9 : Vec F S1x128 .f32) (x10 : Vec F S256x128 .f32) (x11 : Vec F S256x128 .f32) (x12 : Vec F S256x128 .f32) (x13 : Vec F S256x128 .f32) (x14 : Vec F S256x128 .f32) : Vec F S256x64 .f32 :=
  View.canon [⟨r0_31, k0_pay75 (k0_pay80 x0 x1 x2 x3 x4 x5 x6 x7 x8 x9 x10 x11 x12 x13 x14) (k0_pay88 x0 x1 x2 x3 x4 x5 x6 x7 x8 x9 x10 x11 x12 x13 x14) (k0_pay89 x0 x1 x2 x3 x4 x5 x6 x7 x8 x9 x10 x11 x12 x13 x14) (k0_pay90 x0 x1 x2 x3 x4 x5 x6 x7 x8 x9 x10 x11 x12 x13 x14)⟩]

/-- Its stores tile the buffer (checked by evaluation), so they cover it. -/
theorem cover0_21 (p0 : Vec F S256x64 .f32) (y : S256x64.Idx) :
    ∃ pc ∈ ([⟨r0_31, p0⟩] : List (View.Piece (Elt F) S256x64 .f32)), y ∈ pc.1.set :=
  View.cover_of_tiled [⟨r0_31, p0⟩] S256x64.size (by rfl) y

/-- Window 22's staging buffer after the body, from the input windows' blocks: its 2 stores as pieces, LAST
    FIRST (Lib/Pipeline/FrameBody.lean `View.canon`; the payloads are the skeleton's and the values stated above). -/
def out0_22 (x0 : Vec F S32x8x1024 .f32) (x1 : Vec F S32x1x1024 .f32) (x2 : Vec F S32x1x1024 .f32) (x3 : Vec F S1x1024 .f32) (x4 : Vec F S1024x1024 .bf16) (x5 : Vec F S1024x1280 .bf16) (x6 : Vec F S1024x1280 .bf16) (x7 : Vec F S1024x2048 .bf16) (x8 : Vec F S1x128 .f32) (x9 : Vec F S1x128 .f32) (x10 : Vec F S256x128 .f32) (x11 : Vec F S256x128 .f32) (x12 : Vec F S256x128 .f32) (x13 : Vec F S256x128 .f32) (x14 : Vec F S256x128 .f32) : Vec F S256x256 .bf16 :=
  View.canon [⟨r0_13, k0_pay1 (k0_pay91 x0 x1 x2 x3 x4 x5 x6 x7 x8 x9 x10 x11 x12 x13 x14) (k0_pay74 (k0_pay80 x0 x1 x2 x3 x4 x5 x6 x7 x8 x9 x10 x11 x12 x13 x14) (k0_pay88 x0 x1 x2 x3 x4 x5 x6 x7 x8 x9 x10 x11 x12 x13 x14) (k0_pay89 x0 x1 x2 x3 x4 x5 x6 x7 x8 x9 x10 x11 x12 x13 x14) (k0_pay90 x0 x1 x2 x3 x4 x5 x6 x7 x8 x9 x10 x11 x12 x13 x14)) (k0_pay76 (k0_pay80 x0 x1 x2 x3 x4 x5 x6 x7 x8 x9 x10 x11 x12 x13 x14) (k0_pay88 x0 x1 x2 x3 x4 x5 x6 x7 x8 x9 x10 x11 x12 x13 x14) (k0_pay89 x0 x1 x2 x3 x4 x5 x6 x7 x8 x9 x10 x11 x12 x13 x14) (k0_pay90 x0 x1 x2 x3 x4 x5 x6 x7 x8 x9 x10 x11 x12 x13 x14))⟩,
    ⟨r0_12, k0_pay77 (k0_pay80 x0 x1 x2 x3 x4 x5 x6 x7 x8 x9 x10 x11 x12 x13 x14) (k0_pay88 x0 x1 x2 x3 x4 x5 x6 x7 x8 x9 x10 x11 x12 x13 x14) (k0_pay89 x0 x1 x2 x3 x4 x5 x6 x7 x8 x9 x10 x11 x12 x13 x14) (k0_pay90 x0 x1 x2 x3 x4 x5 x6 x7 x8 x9 x10 x11 x12 x13 x14)⟩]

/-- Its stores tile the buffer (checked by evaluation), so they cover it. -/
theorem cover0_22 (p0 : Vec F S256x128 .bf16) (p1 : Vec F S256x128 .bf16) (y : S256x256.Idx) :
    ∃ pc ∈ ([⟨r0_13, p0⟩, ⟨r0_12, p1⟩] : List (View.Piece (Elt F) S256x256 .bf16)), y ∈ pc.1.set :=
  View.cover_of_tiled [⟨r0_13, p0⟩, ⟨r0_12, p1⟩] S256x128.size (by rfl) y

/-- Window 23's staging buffer after the body, from the input windows' blocks: its 1 store as pieces, LAST
    FIRST (Lib/Pipeline/FrameBody.lean `View.canon`; the payloads are the skeleton's and the values stated above). -/
def out0_23 (x0 : Vec F S32x8x1024 .f32) (x1 : Vec F S32x1x1024 .f32) (x2 : Vec F S32x1x1024 .f32) (x3 : Vec F S1x1024 .f32) (x4 : Vec F S1024x1024 .bf16) (x5 : Vec F S1024x1280 .bf16) (x6 : Vec F S1024x1280 .bf16) (x7 : Vec F S1024x2048 .bf16) (x8 : Vec F S1x128 .f32) (x9 : Vec F S1x128 .f32) (x10 : Vec F S256x128 .f32) (x11 : Vec F S256x128 .f32) (x12 : Vec F S256x128 .f32) (x13 : Vec F S256x128 .f32) (x14 : Vec F S256x128 .f32) : Vec F S256x128 .f32 :=
  View.canon [⟨r0_6, k0_pay2 (k0_pay80 x0 x1 x2 x3 x4 x5 x6 x7 x8 x9 x10 x11 x12 x13 x14)⟩]

/-- Its stores tile the buffer (checked by evaluation), so they cover it. -/
theorem cover0_23 (p0 : Vec F S256x128 .f32) (y : S256x128.Idx) :
    ∃ pc ∈ ([⟨r0_6, p0⟩] : List (View.Piece (Elt F) S256x128 .f32)), y ∈ pc.1.set :=
  View.cover_of_tiled [⟨r0_6, p0⟩] S256x128.size (by rfl) y

/-- Window 24's staging buffer after the body, from the input windows' blocks: its 1 store as pieces, LAST
    FIRST (Lib/Pipeline/FrameBody.lean `View.canon`; the payloads are the skeleton's and the values stated above). -/
def out0_24 (x0 : Vec F S32x8x1024 .f32) (x1 : Vec F S32x1x1024 .f32) (x2 : Vec F S32x1x1024 .f32) (x3 : Vec F S1x1024 .f32) (x4 : Vec F S1024x1024 .bf16) (x5 : Vec F S1024x1280 .bf16) (x6 : Vec F S1024x1280 .bf16) (x7 : Vec F S1024x2048 .bf16) (x8 : Vec F S1x128 .f32) (x9 : Vec F S1x128 .f32) (x10 : Vec F S256x128 .f32) (x11 : Vec F S256x128 .f32) (x12 : Vec F S256x128 .f32) (x13 : Vec F S256x128 .f32) (x14 : Vec F S256x128 .f32) : Vec F S256x1536 .f32 :=
  View.canon [⟨r0_32, k0_pay3 (k0_pay81 x0 x1 x2 x3 x4 x5 x6 x7 x8 x9 x10 x11 x12 x13 x14)⟩]

/-- Its stores tile the buffer (checked by evaluation), so they cover it. -/
theorem cover0_24 (p0 : Vec F S256x1536 .f32) (y : S256x1536.Idx) :
    ∃ pc ∈ ([⟨r0_32, p0⟩] : List (View.Piece (Elt F) S256x1536 .f32)), y ∈ pc.1.set :=
  View.cover_of_tiled [⟨r0_32, p0⟩] S256x1536.size (by rfl) y

/-- Window 25's staging buffer after the body, from the input windows' blocks: its 1 store as pieces, LAST
    FIRST (Lib/Pipeline/FrameBody.lean `View.canon`; the payloads are the skeleton's and the values stated above). -/
def out0_25 (x0 : Vec F S32x8x1024 .f32) (x1 : Vec F S32x1x1024 .f32) (x2 : Vec F S32x1x1024 .f32) (x3 : Vec F S1x1024 .f32) (x4 : Vec F S1024x1024 .bf16) (x5 : Vec F S1024x1280 .bf16) (x6 : Vec F S1024x1280 .bf16) (x7 : Vec F S1024x2048 .bf16) (x8 : Vec F S1x128 .f32) (x9 : Vec F S1x128 .f32) (x10 : Vec F S256x128 .f32) (x11 : Vec F S256x128 .f32) (x12 : Vec F S256x128 .f32) (x13 : Vec F S256x128 .f32) (x14 : Vec F S256x128 .f32) : Vec F S256x512 .f32 :=
  View.canon [⟨r0_33, k0_pay4 (k0_pay81 x0 x1 x2 x3 x4 x5 x6 x7 x8 x9 x10 x11 x12 x13 x14)⟩]

/-- Its stores tile the buffer (checked by evaluation), so they cover it. -/
theorem cover0_25 (p0 : Vec F S256x512 .f32) (y : S256x512.Idx) :
    ∃ pc ∈ ([⟨r0_33, p0⟩] : List (View.Piece (Elt F) S256x512 .f32)), y ∈ pc.1.set :=
  View.cover_of_tiled [⟨r0_33, p0⟩] S256x512.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S32x8x1024 .f32) (harg1 : arg1.IsWhole) (arg2 : Memref sig .tc .vmem S32x1x1024 .f32) (harg2 : arg2.IsWhole) (arg3 : Memref sig .tc .vmem S32x1x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1280 .bf16) (harg6 : arg6.IsWhole) (arg7 : Memref sig .tc .vmem S1024x1280 .bf16) (harg7 : arg7.IsWhole) (arg8 : Memref sig .tc .vmem S1024x2048 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x512 .bf16) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .bf16) (harg19 : arg19.IsWhole) (arg20 : Memref sig .tc .vmem S256x256 .bf16) (harg20 : arg20.IsWhole) (arg21 : Memref sig .tc .vmem S8x256x256 .bf16) (harg21 : arg21.IsWhole) (arg22 : Memref sig .tc .vmem S256x64 .f32) (harg22 : arg22.IsWhole) (arg23 : Memref sig .tc .vmem S256x256 .bf16) (harg23 : arg23.IsWhole) (arg24 : Memref sig .tc .vmem S256x128 .f32) (harg24 : arg24.IsWhole) (arg25 : Memref sig .tc .vmem S256x1536 .f32) (harg25 : arg25.IsWhole) (arg26 : Memref sig .tc .vmem S256x512 .f32) (harg26 : arg26.IsWhole)
    (x0 : Vec F S32x8x1024 .f32) (x1 : Vec F S32x1x1024 .f32) (x2 : Vec F S32x1x1024 .f32) (x3 : Vec F S1x1024 .f32) (x4 : Vec F S1024x1024 .bf16) (x5 : Vec F S1024x1280 .bf16) (x6 : Vec F S1024x1280 .bf16) (x7 : Vec F S1024x2048 .bf16) (x8 : Vec F S1x128 .f32) (x9 : Vec F S1x128 .f32) (x10 : Vec F S256x128 .f32) (x11 : Vec F S256x128 .f32) (x12 : Vec F S256x128 .f32) (x13 : Vec F S256x128 .f32) (x14 : Vec F S256x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (out0_15 x0 x1 x2 x3 x4 x5 x6 x7 x8 x9 x10 x11 x12 x13 x14) ∗ owns (c : Thread nD τ) arg17 fullShare (out0_16 x0 x1 x2 x3 x4 x5 x6 x7 x8 x9 x10 x11 x12 x13 x14) ∗ owns (c : Thread nD τ) arg18 fullShare (out0_17 x0 x1 x2 x3 x4 x5 x6 x7 x8 x9 x10 x11 x12 x13 x14) ∗ owns (c : Thread nD τ) arg19 fullShare (out0_18 x0 x1 x2 x3 x4 x5 x6 x7 x8 x9 x10 x11 x12 x13 x14) ∗ owns (c : Thread nD τ) arg20 fullShare (out0_19 x0 x1 x2 x3 x4 x5 x6 x7 x8 x9 x10 x11 x12 x13 x14) ∗ owns (c : Thread nD τ) arg21 fullShare (out0_20 x0 x1 x2 x3 x4 x5 x6 x7 x8 x9 x10 x11 x12 x13 x14) ∗ owns (c : Thread nD τ) arg22 fullShare (out0_21 x0 x1 x2 x3 x4 x5 x6 x7 x8 x9 x10 x11 x12 x13 x14) ∗ owns (c : Thread nD τ) arg23 fullShare (out0_22 x0 x1 x2 x3 x4 x5 x6 x7 x8 x9 x10 x11 x12 x13 x14) ∗ owns (c : Thread nD τ) arg24 fullShare (out0_23 x0 x1 x2 x3 x4 x5 x6 x7 x8 x9 x10 x11 x12 x13 x14) ∗ owns (c : Thread nD τ) arg25 fullShare (out0_24 x0 x1 x2 x3 x4 x5 x6 x7 x8 x9 x10 x11 x12 x13 x14) ∗ owns (c : Thread nD τ) arg26 fullShare (out0_25 x0 x1 x2 x3 x4 x5 x6 x7 x8 x9 x10 x11 x12 x13 x14)) -∗ K ⟨⟩))
      ⊢ wp frame (wpE (defs₀ (F := F)) Variants.none c none) E (cc0_in_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0_in_proj_eq_skeleton]; unfold cc0_in_proj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    refine (View.read_writes_eq_canon _ _ _ (cover0_15 _ _ _ _)).trans ?_
    rfl
  isplitl [H16]
  · iexists _; isplitr
    swap; · iexact H16
    ipureintro
    refine (View.read_writes_eq_canon _ _ _ (cover0_16 _ _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _ _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _ _ _ _ _ _ _ _ _ _ _ _ _ _ _ _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _ _)).trans ?_
    rfl
  isplitl [H23]
  · iexists _; isplitr
    swap; · iexact H23
    ipureintro
    refine (View.read_writes_eq_canon _ _ _ (cover0_23 _)).trans ?_
    rfl
  isplitl [H24]
  · iexists _; isplitr
    swap; · iexact H24
    ipureintro
    refine (View.read_writes_eq_canon _ _ _ (cover0_24 _)).trans ?_
    rfl
  iexists _; isplitr
  swap; · iexact H25
  ipureintro
  refine (View.read_writes_eq_canon _ _ _ (cover0_25 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨_ + 26, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t))

set_option maxHeartbeats 4000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  iintro ⟨H0, H1, H2, H3, H4, H5, H6, H7, H8, H9, H10, H11, H12, H13, H14, H15, H16, H17, H18, H19, H20, H21, H22, H23, H24, H25⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  iexact H25

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- THE FRAME: `Cert.quiescent_Kernel4Ideal`'s statement (Defs.lean) at any `F` — Proof.lean cites it at `Bits`:
    `theorem Cert.Proof.claim : Cert.Claim := ⟨Cert.Kernel4Ideal.Gen.facts, fun m ρ _ => Cert.Kernel4Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel4Ideal.Gen

end
-- ==== Proof.InpRef.lean ====
module

public import proofs.«01_k».proof.Proof.Gen.Reference4Ideal.Run
public import Idealize.ShloMosaic.Lib.Pipeline.ValueKit
public import Idealize.ShloMosaic.Lib.IdealHost

@[expose] public section

set_option maxRecDepth 16384

noncomputable section

namespace Cert.Proof.Inp

open Cert.Reference4Ideal Cert.Reference4Ideal.Gen Idealize.ShloMosaic Idealize.ShloMosaic.TcCoe Idealize.SL.Sem

/-- The row of a modulation that row `r` of the activations reads: its prompt's, or its sample's. -/
def grow (r : Nat) : Nat := if r < 16384 then r / 8192 else 2 + (r - 16384) / 8

theorem grow_lt {r : Nat} (h : r < 17408) : grow r < 130 := by
  unfold grow; split <;> omega

/-- A modulation, a row for each row of the activations. -/
def MODS (X : FVec Ideal S130x1024 .f32) : FVec Ideal S17408x1024 .f32 :=
  concatenate S17408x1024 0 [⟨S16384x1024, (shapeCast _ (broadcastInDim S2x8192x1024 ![0, 1, 2] bcast_S2x1x1024_S2x8192x1024_0_1_2 (broadcastInDim S2x1x1024 ![0, 2] bcast_S2x1024_S2x1x1024_0_2 (extractStridedSlice S2x1024 ![0, 0] X slices_S130x1024_S2x1024_0_0))) shapeCasts_S2x8192x1024_S16384x1024)⟩, ⟨S1024x1024, (shapeCast _ (broadcastInDim S128x8x1024 ![0, 1, 2] bcast_S128x1x1024_S128x8x1024_0_1_2 (broadcastInDim S128x1x1024 ![0, 2] bcast_S128x1024_S128x1x1024_0_2 (extractStridedSlice S128x1024 ![2, 0] X slices_S130x1024_S128x1024_2_0))) shapeCasts_S128x8x1024_S1024x1024)⟩] concatenates_S16384x1024_S1024x1024_S17408x1024_d0

/-- The normalized and modulated activations. -/
def NORM (X0 : FVec Ideal S2176x8x1024 .f32) (X1 X2 : FVec Ideal S130x1024 .f32) (X3 : FVec Ideal S1024 .f32) : FVec Ideal S17408x1024 .f32 :=
  addf (mulf (mulf (mulf (shapeCast _ X0 shapeCasts_S2176x8x1024_S17408x1024) (broadcastInDim S17408x1024 ![0, 1] bcast_S17408x1_S17408x1024_0_1 (Host.rsqrt (addf (Host.divf (broadcastInDim S17408x1 ![0] bcast_S17408_S17408x1_0 (Host.reduceAdd (mulf (shapeCast _ X0 shapeCasts_S2176x8x1024_S17408x1024) (shapeCast _ X0 shapeCasts_S2176x8x1024_S17408x1024)) (constant S_ .f32 0x00000000#32) reducesTo_S17408x1024_S17408_d1 h_S_)) (broadcastInDim S17408x1 ![] bcast_S_S17408x1 (constant S_ .f32 0x44800000#32))) (broadcastInDim S17408x1 ![] bcast_S_S17408x1 (constant S_ .f32 0x358637BD#32)))))) (broadcastInDim S17408x1024 ![0, 1] bcast_S1x1024_S17408x1024_0_1 (broadcastInDim S1x1024 ![1] bcast_S1024_S1x1024_1 X3))) (addf (broadcastInDim S17408x1024 ![] bcast_S_S17408x1024 (constant S_ .f32 0x3F800000#32)) (MODS X2))) (MODS X1)

/-- All columns of the projection. -/
def PROJ (X0 : FVec Ideal S2176x8x1024 .f32) (X1 X2 : FVec Ideal S130x1024 .f32) (X3 : FVec Ideal S1024 .f32) (X4 : FVec Ideal S1024x3664 .f32) : FVec Ideal S17408x3664 .f32 :=
  Host.dotGeneral dot_S17408x1024_S1024x3664_S17408x3664_1_0_0_1_n_n none (NORM X0 X1 X2 X3) X4

/-- The positions of the rows. -/
def POS : IVec S17408 32 :=
  concatenate S17408 0 [⟨S16384, (shapeCast _ (broadcastInDim S2x8192 ![0, 1] bcast_S1x8192_S2x8192_0_1 (broadcastInDim S1x8192 ![1] bcast_S8192_S1x8192_1 (iotaInDim S8192 32 0))) shapeCasts_S2x8192_S16384)⟩, ⟨S1024, (shapeCast _ (broadcastInDim S128x8 ![0, 1] bcast_S1x8_S128x8_0_1 (addi (broadcastInDim S1x8 ![] bcast_S_S1x8 (constantI S_ 32 2048#32)) (broadcastInDim S1x8 ![1] bcast_S8_S1x8_1 (iotaInDim S8 32 0)))) shapeCasts_S128x8_S1024)⟩] concatenates_S16384_S1024_S17408_d0

/-- The angles of the rotary embedding. -/
def ANG : FVec Ideal S17408x64 .f32 :=
  mulf (broadcastInDim S17408x64 ![0, 1] bcast_S17408x1_S17408x64_0_1 (broadcastInDim S17408x1 ![0] bcast_S17408_S17408x1_0 (sitofp .f32 POS))) (broadcastInDim S17408x64 ![0, 1] bcast_S1x64_S17408x64_0_1 (broadcastInDim S1x64 ![1] bcast_S64_S1x64_1 (Host.powf (broadcastInDim S64 ![] bcast_S_S64 (constant S_ .f32 0x461C4000#32)) (Host.divf (Host.negf (sitofp .f32 (iotaInDim S64 32 0))) (broadcastInDim S64 ![] bcast_S_S64 (constant S_ .f32 0x42800000#32))))))

/-- The normalized keys, a head for each second coordinate. -/
def KEYS (Z : FVec Ideal S17408x3664 .f32) (X6 : FVec Ideal S128 .f32) : FVec Ideal S17408x2x128 .f32 :=
  mulf (mulf (shapeCast _ (extractStridedSlice S17408x256 ![0, 512] Z slices_S17408x3664_S17408x256_0_512) shapeCasts_S17408x256_S17408x2x128) (broadcastInDim S17408x2x128 ![0, 1, 2] bcast_S17408x2x1_S17408x2x128_0_1_2 (Host.rsqrt (addf (Host.divf (broadcastInDim S17408x2x1 ![0, 1] bcast_S17408x2_S17408x2x1_0_1 (Host.reduceAdd (mulf (shapeCast _ (extractStridedSlice S17408x256 ![0, 512] Z slices_S17408x3664_S17408x256_0_512) shapeCasts_S17408x256_S17408x2x128) (shapeCast _ (extractStridedSlice S17408x256 ![0, 512] Z slices_S17408x3664_S17408x256_0_512) shapeCasts_S17408x256_S17408x2x128)) (constant S_ .f32 0x00000000#32) reducesTo_S17408x2x128_S17408x2_d2 h_S_)) (broadcastInDim S17408x2x1 ![] bcast_S_S17408x2x1 (constant S_ .f32 0x43000000#32))) (broadcastInDim S17408x2x1 ![] bcast_S_S17408x2x1 (constant S_ .f32 0x358637BD#32)))))) (broadcastInDim S17408x2x128 ![0, 1, 2] bcast_S1x1x128_S17408x2x128_0_1_2 (broadcastInDim S1x1x128 ![2] bcast_S128_S1x1x128_2 X6))

/-- The rotary embedding of the keys at angles. -/
def ROPE (Z : FVec Ideal S17408x2x128 .f32) (A : FVec Ideal S17408x64 .f32) : FVec Ideal S17408x256 .f32 :=
  shapeCast _ (concatenate S17408x2x128 2 [⟨S17408x2x64, (subf (mulf (extractStridedSlice S17408x2x64 ![0, 0, 0] Z slices_S17408x2x128_S17408x2x64_0_0_0) (broadcastInDim S17408x2x64 ![0, 1, 2] bcast_S17408x1x64_S17408x2x64_0_1_2 (broadcastInDim S17408x1x64 ![0, 2] bcast_S17408x64_S17408x1x64_0_2 (Host.cos A)))) (mulf (extractStridedSlice S17408x2x64 ![0, 0, 64] Z slices_S17408x2x128_S17408x2x64_0_0_64) (broadcastInDim S17408x2x64 ![0, 1, 2] bcast_S17408x1x64_S17408x2x64_0_1_2 (broadcastInDim S17408x1x64 ![0, 2] bcast_S17408x64_S17408x1x64_0_2 (Host.sin A)))))⟩, ⟨S17408x2x64, (addf (mulf (extractStridedSlice S17408x2x64 ![0, 0, 64] Z slices_S17408x2x128_S17408x2x64_0_0_64) (broadcastInDim S17408x2x64 ![0, 1, 2] bcast_S17408x1x64_S17408x2x64_0_1_2 (broadcastInDim S17408x1x64 ![0, 2] bcast_S17408x64_S17408x1x64_0_2 (Host.cos A)))) (mulf (extractStridedSlice S17408x2x64 ![0, 0, 0] Z slices_S17408x2x128_S17408x2x64_0_0_0) (broadcastInDim S17408x2x64 ![0, 1, 2] bcast_S17408x1x64_S17408x2x64_0_1_2 (broadcastInDim S17408x1x64 ![0, 2] bcast_S17408x64_S17408x1x64_0_2 (Host.sin A)))))⟩] concatenates_S17408x2x64_S17408x2x64_S17408x2x128_d2) shapeCasts_S17408x2x128_S17408x256

theorem mods_at (X : FVec Ideal S130x1024 .f32) (r : Fin 17408) (j : Fin 1024) :
    (MODS X (ix2 r j) : EReal) = X (ix2 ⟨grow r.val, grow_lt r.isLt⟩ j) := by
  pointwise [ MODS]
  split
  · rename_i h; refine congrArg X (congrArg (ix2 · j) (Fin.ext ?_)); show _ = grow _; unfold grow; rw [if_pos h]
  · rename_i h; refine congrArg X (congrArg (ix2 · j) (Fin.ext ?_)); show _ = grow _; unfold grow; rw [if_neg h]

/-- An entry of a row that is divided by its root mean square, scaled and modulated. -/
def hrow (x g sc sh : Fin 1024 → EReal) (j : Fin 1024) : EReal :=
  x j * Ideal.rsqrt (Ideal.div (∑ i, x i * x i) (Ideal.ofBits .f32 0x44800000#32) + Ideal.ofBits .f32 0x358637BD#32) * g j * (1 + sc j) + sh j

/-- An entry of a head's row that is divided by its root mean square and scaled. -/
def krow (z g : Fin 128 → EReal) (d : Fin 128) : EReal :=
  z d * Ideal.rsqrt (Ideal.div (∑ i, z i * z i) (Ideal.ofBits .f32 0x43000000#32) + Ideal.ofBits .f32 0x358637BD#32) * g d

/-- The angle of pair `d` at a position. -/
def angle (p : BitVec 32) (d : Fin 64) : EReal :=
  FloatOps.sitofp (F := Ideal) .f32 p * Ideal.pow (Ideal.ofBits .f32 0x461C4000#32)
    (Ideal.div (-(FloatOps.sitofp (F := Ideal) .f32 (BitVec.ofNat 32 d.val) : EReal)) (Ideal.ofBits .f32 0x42800000#32))

/-- The position of row `r`. -/
def posn (r : Nat) : BitVec 32 := if r < 16384 then BitVec.ofNat 32 (r % 8192) else 2048#32 + BitVec.ofNat 32 ((r - 16384) % 8)

/-- The rotation of the pairs of a row, pair `d` the entries `d` and `64 + d`. -/
def rot (z : Fin 128 → EReal) (a : Fin 64 → EReal) (d : Fin 128) : EReal :=
  if h : d.val < 64 then z d * Ideal.cos (a ⟨d.val, h⟩) - z ⟨64 + d.val, by omega⟩ * Ideal.sin (a ⟨d.val, h⟩)
  else z d * Ideal.cos (a ⟨d.val - 64, by omega⟩) + z ⟨d.val - 64, by omega⟩ * Ideal.sin (a ⟨d.val - 64, by omega⟩)

theorem norm_at (X0 : FVec Ideal S2176x8x1024 .f32) (X1 X2 : FVec Ideal S130x1024 .f32) (X3 : FVec Ideal S1024 .f32) (g : Fin 2176) (s : Fin 8) (j : Fin 1024)
    (h : g.val * 8 + s.val < 17408) :
    (NORM X0 X1 X2 X3 (ix2 ⟨g.val * 8 + s.val, h⟩ j) : EReal) = hrow (fun i => X0 (ix3 g s i)) (fun i => X3 (ix1 i))
      (fun i => X2 (ix2 ⟨grow (g.val * 8 + s.val), grow_lt h⟩ i)) (fun i => X1 (ix2 ⟨grow (g.val * 8 + s.val), grow_lt h⟩ i)) j := by
  pointwise [NORM, mods_at, hrow]

theorem proj_at (X0 : FVec Ideal S2176x8x1024 .f32) (X1 X2 : FVec Ideal S130x1024 .f32) (X3 : FVec Ideal S1024 .f32) (X4 : FVec Ideal S1024x3664 .f32) (r : Fin 17408) (n : Fin 3664) :
    (PROJ X0 X1 X2 X3 X4 (ix2 r n) : EReal) = ∑ j : Fin 1024, NORM X0 X1 X2 X3 (ix2 r j) * X4 (ix2 j n) := by
  pointwise [PROJ]

theorem keys_at (Z : FVec Ideal S17408x3664 .f32) (X6 : FVec Ideal S128 .f32) (r : Fin 17408) (h : Fin 2) (d : Fin 128) :
    (KEYS Z X6 (ix3 r h d) : EReal) = krow (fun i => Z (ix2 r ⟨512 + (h.val * 128 + i.val), by omega⟩)) (fun i => X6 (ix1 i)) d := by
  pointwise [KEYS, krow]

theorem ang_at (r : Fin 17408) (d : Fin 64) :
    (ANG (ix2 r d) : EReal) = angle (POS (ix1 r)) d := by
  pointwise [ANG, angle]

set_option maxRecDepth 200000 in
theorem pos_at (r : Fin 17408) : POS (ix1 r) = posn r.val := by
  pointwise [ POS, posn]
  split <;> rfl

theorem rope_at (Z : FVec Ideal S17408x2x128 .f32) (A : FVec Ideal S17408x64 .f32) (r : Fin 17408) (h : Fin 2) (d : Fin 128) (n : Fin 256) (hn : n.val = h.val * 128 + d.val) :
    (ROPE Z A (ix2 r n) : EReal) = rot (fun i => Z (ix3 r h i)) (fun i => A (ix2 r i)) d := by
  have h1 : n.val / 128 = h.val := by omega
  have h2 : n.val % 128 = d.val := by omega
  pointwise [ROPE]
  simp only [h1, h2, rot]
  split
  · rfl
  · rename_i hd
    have e : (⟨64 + (d.val - 64), by omega⟩ : Fin 128) = d := Fin.ext (by dsimp only; omega)
    rw [e]

end Cert.Proof.Inp

end
-- ==== Proof.InpValue.lean ====
module

public import proofs.«01_k».proof.Proof.InpFrame
public import proofs.«01_k».proof.Proof.InpRef
public import Idealize.ShloMosaic.Lib.Pipeline.ValueKit
public import Idealize.ShloMosaic.Lib.IdealHost

@[expose] public section

set_option maxRecDepth 16384

noncomputable section

namespace Cert.Proof.Inp

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

theorem pay6_at (v0 : FVec Ideal S32x8x1024 .f32) (v11 : FVec Ideal S1x1024 .f32) (v16 v22 : FVec Ideal S32x1x1024 .f32)
    (g : Fin 32) (s : Fin 8) (j : Fin 1024) (h : g.val * 8 + s.val < 256) :
    (k0_pay6 (F := Ideal) v0 v11 v16 v22 (ix2 ⟨g.val * 8 + s.val, h⟩ j) : EReal) =
      hrow (fun i => v0 (ix3 g s i)) (fun i => v11 (ix2 0 i)) (fun i => v16 (ix3 g 0 i)) (fun i => v22 (ix3 g 0 i)) j := by
  pointwise [k0_pay6, k0_pay5, hrow]

theorem pay8_at (v0 : FVec Ideal S32x8x1024 .f32) (v11 : FVec Ideal S1x1024 .f32) (v16 v22 : FVec Ideal S32x1x1024 .f32) (v31 : FVec Ideal S1024x1024 .bf16)
    (r : Fin 256) (n : Fin 1024) :
    (k0_pay8 (F := Ideal) v0 v11 v16 v22 v31 (ix2 r n) : EReal) = ∑ j : Fin 1024, k0_pay6 (F := Ideal) v0 v11 v16 v22 (ix2 r j) * v31 (ix2 j n) := by
  pointwise [k0_pay8]

theorem pay12_at (v27 : FVec Ideal S256x1024 .bf16) (v43 : FVec Ideal S1024x2048 .bf16) (r : Fin 256) (n : Fin 2048) :
    (k0_pay12 (F := Ideal) v27 v43 (ix2 r n) : EReal) = ∑ j : Fin 1024, v27 (ix2 r j) * v43 (ix2 j n) := by
  pointwise [k0_pay12]

theorem pay3_at (v : FVec Ideal S256x2048 .f32) (r : Fin 256) (n : Fin 1536) :
    (k0_pay3 (F := Ideal) v (ix2 r n) : EReal) = v (ix2 r ⟨n.val, by omega⟩) := by
  pointwise [k0_pay3]

theorem pay4_at (v : FVec Ideal S256x2048 .f32) (r : Fin 256) (n : Fin 512) :
    (k0_pay4 (F := Ideal) v (ix2 r n) : EReal) = v (ix2 r ⟨1536 + n.val, by omega⟩) := by
  pointwise [k0_pay4]

theorem pay29_at (v : FVec Ideal S256x1024 .f32) (r : Fin 256) (n : Fin 256) :
    (k0_pay29 (F := Ideal) v (ix2 r n) : EReal) = v (ix2 r ⟨768 + n.val, by omega⟩) := by
  pointwise [k0_pay29]

/-- The rotation of a row by a table of cosines and a table of signed sines. -/
def roll (z cq sq : Fin 128 → EReal) (d : Fin 128) : EReal :=
  z d * cq d + z ⟨(d.val + 128 - 64) % 128, by omega⟩ * sq d

theorem pay23_at (v33 : FVec Ideal S256x1024 .f32) (v47 v49 : FVec Ideal S256x128 .f32) (v53 : FVec Ideal S1x128 .f32) (r : Fin 256) (d : Fin 128) :
    (k0_pay23 (F := Ideal) v33 v47 v49 v53 (ix2 r d) : EReal) =
      roll (krow (fun i => v33 (ix2 r ⟨512 + i.val, by omega⟩)) (fun i => v53 (ix2 0 i))) (fun i => v47 (ix2 r i)) (fun i => v49 (ix2 r i)) d := by
  pointwise [k0_pay23, roll, krow]

theorem pay27_at (v33 : FVec Ideal S256x1024 .f32) (v47 v49 : FVec Ideal S256x128 .f32) (v53 : FVec Ideal S1x128 .f32) (r : Fin 256) (d : Fin 128) :
    (k0_pay27 (F := Ideal) v47 v49 v53 (k0_pay25 v33) (k0_pay26 v33) (ix2 r d) : EReal) =
      roll (krow (fun i => v33 (ix2 r ⟨640 + i.val, by omega⟩)) (fun i => v53 (ix2 0 i))) (fun i => v47 (ix2 r i)) (fun i => v49 (ix2 r i)) d := by
  pointwise [k0_pay27, k0_pay26, k0_pay25, roll, krow]

theorem pick (X : FVec Ideal S130x1024 .f32) (g : Fin 192) (d : Fin 1024) (n : Fin 130) (hn : n.val = if g.val < 64 then g.val / 32 else 2 + (g.val - 64)) :
    ((if h : g.val < 64 then X (ix2 ⟨g.val / 32, by omega⟩ d) else X (ix2 ⟨2 + (g.val - 64), by omega⟩ d)) : EReal) = X (ix2 n d) := by
  split
  · rename_i h
    exact congrArg (fun n => X (ix2 n d)) (Fin.ext (by rw [hn, if_pos h]))
  · rename_i h
    exact congrArg (fun n => X (ix2 n d)) (Fin.ext (by rw [hn, if_neg h]))

theorem V30 (c : Dev nD) (g : Fin 192) (d : Fin 1024) (n : Fin 130) (hn : n.val = if g.val < 64 then g.val / 32 else 2 + (g.val - 64)) :
    (V m c main_v30 : FVec Ideal S192x1x1024 .f32) (ix3 g 0 d) = (m (c, Proc.tc.devRef main_arg1) : FVec Ideal S130x1024 .f32) (ix2 n d) := by
  simp only [V, hostOps0, hostOps0_1, hostOps0_2, List.flatten_cons, List.flatten_nil, List.append_nil, List.cons_append, List.nil_append]
  entry_read
  pointwise
  exact pick _ g d n hn

theorem V36 (c : Dev nD) (g : Fin 192) (d : Fin 1024) (n : Fin 130) (hn : n.val = if g.val < 64 then g.val / 32 else 2 + (g.val - 64)) :
    (V m c main_v36 : FVec Ideal S192x1x1024 .f32) (ix3 g 0 d) = (m (c, Proc.tc.devRef main_arg2) : FVec Ideal S130x1024 .f32) (ix2 n d) := by
  simp only [V, hostOps0, hostOps0_1, hostOps0_2, List.flatten_cons, List.flatten_nil, List.append_nil, List.cons_append, List.nil_append]
  entry_read
  pointwise
  exact pick _ g d n hn

theorem V37 (c : Dev nD) (d : Fin 1024) :
    (V m c main_v37 : FVec Ideal S1x1024 .f32) (ix2 0 d) = (m (c, Proc.tc.devRef main_arg3) : FVec Ideal S1024 .f32) (ix1 d) := by
  simp only [V, hostOps0, hostOps0_1, hostOps0_2, List.flatten_cons, List.flatten_nil, List.append_nil, List.cons_append, List.nil_append]
  entry_read
  pointwise

theorem V39 (c : Dev nD) (d : Fin 128) :
    (V m c main_v39 : FVec Ideal S1x128 .f32) (ix2 0 d) = (m (c, Proc.tc.devRef main_arg6) : FVec Ideal S128 .f32) (ix1 d) := by
  simp only [V, hostOps0, hostOps0_1, hostOps0_2, List.flatten_cons, List.flatten_nil, List.append_nil, List.cons_append, List.nil_append]
  entry_read
  pointwise

theorem V1 (c : Dev nD) (j n : Fin 1024) :
    (V m c main_v1 : FVec Ideal S1024x1024 .bf16) (ix2 j n) = (m (c, Proc.tc.devRef main_arg4) : FVec Ideal S1024x3664 .f32) (ix2 j ⟨n.val, by omega⟩) := by
  simp only [V, hostOps0, hostOps0_1, hostOps0_2, List.flatten_cons, List.flatten_nil, List.append_nil, List.cons_append, List.nil_append]
  entry_read
  pointwise

theorem V18 (c : Dev nD) (j : Fin 1024) (n : Fin 2048) :
    (V m c main_v18 : FVec Ideal S1024x2048 .bf16) (ix2 j n) = (m (c, Proc.tc.devRef main_arg4) : FVec Ideal S1024x3664 .f32) (ix2 j ⟨1608 + n.val, by omega⟩) := by
  simp only [V, hostOps0, hostOps0_1, hostOps0_2, List.flatten_cons, List.flatten_nil, List.append_nil, List.cons_append, List.nil_append]
  entry_read
  pointwise

/-- The divisor, with one for a zero. -/
def EIGHT : IVec S_ 32 :=
  select (cmpi .eq (constantI S_ 32 8#32) (constantI S_ 32 0#32)) (constantI S_ 32 1#32) (constantI S_ 32 8#32)

/-- The remainders of the numbers of the rows by it. -/
def REMS : IVec S256 32 := Host.remsi (iotaInDim S256 32 0) (broadcastInDim S256 ![] bcast_S_S256 EIGHT)

/-- The remainders, of the sign of the divisor. -/
def REM8 : IVec S256 32 :=
  select (andi (cmpi .ne (cmpi .slt REMS (broadcastInDim S256 ![] bcast_S_S256 (constantI S_ 32 0#32)))
      (broadcastInDim S256 ![] bcast_S_S256 (cmpi .slt EIGHT (constantI S_ 32 0#32))))
      (cmpi .ne REMS (broadcastInDim S256 ![] bcast_S_S256 (constantI S_ 32 0#32))))
    (addi REMS (broadcastInDim S256 ![] bcast_S_S256 EIGHT)) REMS

/-- The positions of the table's rows. -/
def KPOS : IVec S8448 32 :=
  concatenate S8448 0 [⟨S8192, iotaInDim S8192 32 0⟩, ⟨S256, addi (broadcastInDim S256 ![] bcast_S_S256 (constantI S_ 32 2048#32)) REM8⟩] concatenates_S8192_S256_S8448_d0

/-- The angles of the table. -/
def KANG : FVec Ideal S8448x64 .f32 :=
  mulf (broadcastInDim S8448x64 ![0, 1] bcast_S8448x1_S8448x64_0_1 (broadcastInDim S8448x1 ![0] bcast_S8448_S8448x1_0 (sitofp .f32 KPOS)))
    (broadcastInDim S8448x64 ![0, 1] bcast_S1x64_S8448x64_0_1 (broadcastInDim S1x64 ![1] bcast_S64_S1x64_1 (Host.powf (broadcastInDim S64 ![] bcast_S_S64 (constant S_ .f32 0x461C4000#32)) (Host.divf (Host.negf (sitofp .f32 (iotaInDim S64 32 0))) (broadcastInDim S64 ![] bcast_S_S64 (constant S_ .f32 0x42800000#32))))))

theorem rem8_at : ∀ r : Fin 256, REM8 (ix1 r) = BitVec.ofNat 32 (r.val % 8) := by decide +kernel

/-- The position of row `R` of the table. -/
def kposn (R : Nat) : BitVec 32 := if R < 8192 then BitVec.ofNat 32 R else 2048#32 + BitVec.ofNat 32 ((R - 8192) % 8)

set_option maxRecDepth 200000 in
theorem kpos_at (R : Fin 8448) : KPOS (ix1 R) = kposn R.val := by
  pointwise [ KPOS, kposn, rem8_at]
  split <;> rfl

theorem kang_at (R : Fin 8448) (d : Fin 64) : (KANG (ix2 R d) : EReal) = angle (KPOS (ix1 R)) d := by
  pointwise [KANG, angle]

set_option maxHeartbeats 1600000 in
theorem V54_eq (c : Dev nD) : (V m c main_v54 : FVec Ideal S8448x128 .f32)
    = concatenate S8448x128 1 [⟨S8448x64, Host.cos KANG⟩, ⟨S8448x64, Host.cos KANG⟩] concatenates_S8448x64_S8448x64_S8448x128_d1 := by
  simp only [V, hostOps0, hostOps0_1, hostOps0_2, List.flatten_cons, List.flatten_nil, List.append_nil, List.cons_append, List.nil_append]
  entry_read
  rfl

set_option maxHeartbeats 1600000 in
theorem V56_eq (c : Dev nD) : (V m c main_v56 : FVec Ideal S8448x128 .f32)
    = concatenate S8448x128 1 [⟨S8448x64, Host.negf (Host.sin KANG)⟩, ⟨S8448x64, Host.sin KANG⟩] concatenates_S8448x64_S8448x64_S8448x128_d1 := by
  simp only [V, hostOps0, hostOps0_1, hostOps0_2, List.flatten_cons, List.flatten_nil, List.append_nil, List.cons_append, List.nil_append]
  entry_read
  rfl

/-- The tables: the cosine of the angle at both halves, and the sine, negated at the first. -/
theorem V54 (c : Dev nD) (R : Fin 8448) (d : Fin 128) :
    (V m c main_v54 : FVec Ideal S8448x128 .f32) (ix2 R d) = Ideal.cos (KANG (ix2 R ⟨d.val % 64, by omega⟩)) := by
  rw [V54_eq]
  pointwise
  split
  · exact congrArg (fun i => Ideal.cos (KANG (ix2 R i))) (Fin.ext (by dsimp only; omega))
  · exact congrArg (fun i => Ideal.cos (KANG (ix2 R i))) (Fin.ext (by dsimp only; omega))

theorem V56 (c : Dev nD) (R : Fin 8448) (d : Fin 128) :
    (V m c main_v56 : FVec Ideal S8448x128 .f32) (ix2 R d) =
      if d.val < 64 then -Ideal.sin (KANG (ix2 R ⟨d.val % 64, by omega⟩)) else Ideal.sin (KANG (ix2 R ⟨d.val % 64, by omega⟩)) := by
  rw [V56_eq]
  pointwise
  split
  · exact congrArg (fun i => -Ideal.sin (KANG (ix2 R i))) (Fin.ext (by dsimp only; omega))
  · exact congrArg (fun i => Ideal.sin (KANG (ix2 R i))) (Fin.ext (by dsimp only; omega))

/-- The rotation by the tables is the rotation of the pairs. -/
theorem roll_eq (z : Fin 128 → EReal) (a : Fin 64 → EReal) (cq sq : Fin 128 → EReal) (d : Fin 128)
    (hc : ∀ d : Fin 128, cq d = Ideal.cos (a ⟨d.val % 64, by omega⟩))
    (hs : ∀ d : Fin 128, sq d = if d.val < 64 then -Ideal.sin (a ⟨d.val % 64, by omega⟩) else Ideal.sin (a ⟨d.val % 64, by omega⟩)) :
    roll z cq sq d = rot z a d := by
  unfold roll rot
  rw [hc, hs]
  have hd := d.isLt
  split
  · rename_i h
    have e1 : (⟨d.val % 64, by omega⟩ : Fin 64) = ⟨d.val, h⟩ := Fin.ext (by dsimp only; omega)
    have e2 : (⟨(d.val + 128 - 64) % 128, by omega⟩ : Fin 128) = ⟨64 + d.val, by omega⟩ := Fin.ext (by dsimp only; omega)
    rw [e1, e2, mul_neg, sub_eq_add_neg]
  · rename_i h
    have e1 : (⟨d.val % 64, by omega⟩ : Fin 64) = ⟨d.val - 64, by omega⟩ := Fin.ext (by dsimp only; omega)
    have e2 : (⟨(d.val + 128 - 64) % 128, by omega⟩ : Fin 128) = ⟨d.val - 64, by omega⟩ := Fin.ext (by dsimp only; omega)
    rw [e1, e2]

/-- What a point leaves in the four results' buffers, over its blocks. -/
theorem out17_at (x0 : FVec Ideal S32x8x1024 .f32) (x1 : FVec Ideal S32x1x1024 .f32) (x2 : FVec Ideal S32x1x1024 .f32) (x3 : FVec Ideal S1x1024 .f32) (x4 : FVec Ideal S1024x1024 .bf16) (x5 : FVec Ideal S1024x1280 .bf16) (x6 : FVec Ideal S1024x1280 .bf16) (x7 : FVec Ideal S1024x2048 .bf16) (x8 : FVec Ideal S1x128 .f32) (x9 : FVec Ideal S1x128 .f32) (x10 : FVec Ideal S256x128 .f32) (x11 : FVec Ideal S256x128 .f32) (x12 : FVec Ideal S256x128 .f32) (x13 : FVec Ideal S256x128 .f32) (x14 : FVec Ideal S256x128 .f32) (r n : Fin 256) :
    (out0_17 (F := Ideal) x0 x1 x2 x3 x4 x5 x6 x7 x8 x9 x10 x11 x12 x13 x14 (ix2 r n) : EReal) = k0_pay8 (F := Ideal) x0 x3 x2 x1 x4 (ix2 r ⟨768 + n.val, by omega⟩) := by
  unfold out0_17 k0_pay79
  simp (disch := decide) only [View.canon_cons_unit_lit', View.ld_unit_lit']
  exact pay29_at _ r n

theorem out24_at (x0 : FVec Ideal S32x8x1024 .f32) (x1 : FVec Ideal S32x1x1024 .f32) (x2 : FVec Ideal S32x1x1024 .f32) (x3 : FVec Ideal S1x1024 .f32) (x4 : FVec Ideal S1024x1024 .bf16) (x5 : FVec Ideal S1024x1280 .bf16) (x6 : FVec Ideal S1024x1280 .bf16) (x7 : FVec Ideal S1024x2048 .bf16) (x8 : FVec Ideal S1x128 .f32) (x9 : FVec Ideal S1x128 .f32) (x10 : FVec Ideal S256x128 .f32) (x11 : FVec Ideal S256x128 .f32) (x12 : FVec Ideal S256x128 .f32) (x13 : FVec Ideal S256x128 .f32) (x14 : FVec Ideal S256x128 .f32) (r : Fin 256) (n : Fin 1536) :
    (out0_24 (F := Ideal) x0 x1 x2 x3 x4 x5 x6 x7 x8 x9 x10 x11 x12 x13 x14 (ix2 r n) : EReal) = k0_pay12 (F := Ideal) (k0_pay6 x0 x3 x2 x1) x7 (ix2 r ⟨n.val, by omega⟩) := by
  unfold out0_24 k0_pay81 k0_pay78
  simp (disch := decide) only [View.canon_cons_unit_lit', View.ld_unit_lit']
  exact pay3_at _ r n

theorem out25_at (x0 : FVec Ideal S32x8x1024 .f32) (x1 : FVec Ideal S32x1x1024 .f32) (x2 : FVec Ideal S32x1x1024 .f32) (x3 : FVec Ideal S1x1024 .f32) (x4 : FVec Ideal S1024x1024 .bf16) (x5 : FVec Ideal S1024x1280 .bf16) (x6 : FVec Ideal S1024x1280 .bf16) (x7 : FVec Ideal S1024x2048 .bf16) (x8 : FVec Ideal S1x128 .f32) (x9 : FVec Ideal S1x128 .f32) (x10 : FVec Ideal S256x128 .f32) (x11 : FVec Ideal S256x128 .f32) (x12 : FVec Ideal S256x128 .f32) (x13 : FVec Ideal S256x128 .f32) (x14 : FVec Ideal S256x128 .f32) (r : Fin 256) (n : Fin 512) :
    (out0_25 (F := Ideal) x0 x1 x2 x3 x4 x5 x6 x7 x8 x9 x10 x11 x12 x13 x14 (ix2 r n) : EReal) = k0_pay12 (F := Ideal) (k0_pay6 x0 x3 x2 x1) x7 (ix2 r ⟨1536 + n.val, by omega⟩) := by
  unfold out0_25 k0_pay81 k0_pay78
  simp (disch := decide) only [View.canon_cons_unit_lit', View.ld_unit_lit']
  exact pay4_at _ r n

/-- A row of the two rotated heads. -/
def heads (z : FVec Ideal S256x1024 .f32) (kg : FVec Ideal S1x128 .f32) (cq sq : FVec Ideal S256x128 .f32) (r n : Fin 256) : EReal :=
  roll (krow (fun i => z (ix2 r ⟨512 + (n.val / 128 * 128 + i.val), by omega⟩)) (fun i => kg (ix2 0 i))) (fun i => cq (ix2 r i)) (fun i => sq (ix2 r i))
    ⟨n.val % 128, by omega⟩

theorem heads_first (z : FVec Ideal S256x1024 .f32) (kg : FVec Ideal S1x128 .f32) (cq sq : FVec Ideal S256x128 .f32) (r : Fin 256) (d : Fin 128)
    (n : Fin 256) (hn : n.val = d.val) : k0_pay23 (F := Ideal) z cq sq kg (ix2 r d) = heads z kg cq sq r n := by
  have hd := d.isLt
  have e : (⟨n.val % 128, by omega⟩ : Fin 128) = d := Fin.ext (by dsimp only; omega)
  have f : ∀ i : Fin 128, (⟨512 + (n.val / 128 * 128 + i.val), by omega⟩ : Fin 1024) = ⟨512 + i.val, by omega⟩ := fun i => Fin.ext (by dsimp only; omega)
  rw [pay23_at]
  simp only [heads, e, f]

theorem heads_second (z : FVec Ideal S256x1024 .f32) (kg : FVec Ideal S1x128 .f32) (cq sq : FVec Ideal S256x128 .f32) (r : Fin 256) (d : Fin 128)
    (n : Fin 256) (hn : n.val = 128 + d.val) : k0_pay27 (F := Ideal) cq sq kg (k0_pay25 z) (k0_pay26 z) (ix2 r d) = heads z kg cq sq r n := by
  have hd := d.isLt
  have e : (⟨n.val % 128, by omega⟩ : Fin 128) = d := Fin.ext (by dsimp only; omega)
  have f : ∀ i : Fin 128, (⟨512 + (n.val / 128 * 128 + i.val), by omega⟩ : Fin 1024) = ⟨640 + i.val, by omega⟩ := fun i => Fin.ext (by dsimp only; omega)
  rw [pay27_at]
  simp only [heads, e, f]

theorem pay13_eq (v : FVec Ideal S256x128 .f32) : k0_pay13 (F := Ideal) v = v := by
  funext y; rw [eq_ix2 y]; pointwise [k0_pay13]

theorem pay14_eq (v : FVec Ideal S256x128 .f32) : k0_pay14 (F := Ideal) v = v := by
  funext y; rw [eq_ix2 y]; pointwise [k0_pay14]

theorem pay16_eq (v : FVec Ideal S1x128 .f32) : k0_pay16 (F := Ideal) v = v := by
  funext y; rw [eq_ix2 y]; pointwise [k0_pay16]

theorem emb_first (r : Fin 256) (d : Fin 128) : r0_12.emb (ix2 r d) = (ix2 r ⟨d.val, by omega⟩ : S256x256.Idx) := by
  blk_ext

theorem emb_second (r : Fin 256) (d : Fin 128) : r0_13.emb (ix2 r d) = (ix2 r ⟨128 + d.val, by omega⟩ : S256x256.Idx) := by
  blk_ext

theorem out16_at (x0 : FVec Ideal S32x8x1024 .f32) (x1 : FVec Ideal S32x1x1024 .f32) (x2 : FVec Ideal S32x1x1024 .f32) (x3 : FVec Ideal S1x1024 .f32) (x4 : FVec Ideal S1024x1024 .bf16) (x5 : FVec Ideal S1024x1280 .bf16) (x6 : FVec Ideal S1024x1280 .bf16) (x7 : FVec Ideal S1024x2048 .bf16) (x8 : FVec Ideal S1x128 .f32) (x9 : FVec Ideal S1x128 .f32) (x10 : FVec Ideal S256x128 .f32) (x11 : FVec Ideal S256x128 .f32) (x12 : FVec Ideal S256x128 .f32) (x13 : FVec Ideal S256x128 .f32) (x14 : FVec Ideal S256x128 .f32) (r n : Fin 256) :
    (out0_16 (F := Ideal) x0 x1 x2 x3 x4 x5 x6 x7 x8 x9 x10 x11 x12 x13 x14 (ix2 r n) : EReal) = heads (k0_pay8 (F := Ideal) x0 x3 x2 x1 x4) x9 x10 x11 r n := by
  unfold out0_16
  refine View.canon_apply_of_pieces (Val := Elt Ideal) (e := .f32) (fun y : S256x256.Idx => heads (k0_pay8 (F := Ideal) x0 x3 x2 x1 x4) x9 x10 x11 (y 0) (y 1)) _ ?_ _ (cover0_16 _ _ _)
  unfold k0_pay87 k0_pay86 k0_pay85 k0_pay83 k0_pay82 k0_pay79
  simp (disch := decide) only [View.ld_unit_lit', pay13_eq, pay14_eq, pay16_eq]
  intro p hp x
  simp only [List.mem_cons, List.not_mem_nil, or_false] at hp
  rcases hp with rfl | rfl
  · obtain ⟨r, d, rfl⟩ : ∃ (r : Fin 256) (d : Fin 128), x = ix2 r d := ⟨x 0, x 1, eq_ix2 x⟩
    refine (heads_second _ _ _ _ r d ⟨128 + d.val, by omega⟩ rfl).trans ?_
    dsimp only
    rw [emb_second]
    rfl
  · obtain ⟨r, d, rfl⟩ : ∃ (r : Fin 256) (d : Fin 128), x = ix2 r d := ⟨x 0, x 1, eq_ix2 x⟩
    refine (heads_first _ _ _ _ r d ⟨d.val, by omega⟩ rfl).trans ?_
    dsimp only
    rw [emb_first]
    rfl

theorem idx : ∀ t : Fin cfg0.N, win0_0.index t = ![t.val, 0, 0] ∧
    win0_1.index t = ![if t.val < 64 then t.val / 32 else t.val - 62, 0, 0] ∧ win0_2.index t = ![if t.val < 64 then t.val / 32 else t.val - 62, 0, 0] ∧
    win0_3.index t = ![0, 0] ∧ win0_4.index t = ![0, 0] ∧ win0_7.index t = ![0, 0] ∧ win0_9.index t = ![0, 0] ∧
    win0_10.index t = ![if t.val < 64 then t.val % 32 else 32, 0] ∧ win0_11.index t = ![if t.val < 64 then t.val % 32 else 32, 0] ∧
    win0_16.index t = ![t.val, 0] ∧ win0_17.index t = ![t.val, 0] ∧ win0_24.index t = ![t.val, 0] ∧ win0_25.index t = ![t.val, 0] ∧ t.val < 68 :=
  (by decide +kernel : ∀ t : Fin grid0.N, _)

theorem t_lt (t : Fin cfg0.N) : t.val < 68 := (idx t).2.2.2.2.2.2.2.2.2.2.2.2.2

theorem blk0 (c : Dev nD) (t : Fin cfg0.N) (g : Fin 32) (s : Fin 8) (d : Fin 1024) (G : Fin 2176) (hG : G.val = t.val * 32 + g.val) :
    (iblk m c 0 t : FVec Ideal S32x8x1024 .f32) (ix3 g s d) = (m ((c : Thread nD τ).loc main_arg0) : FVec Ideal S2176x8x1024 .f32) (ix3 G s d) := by
  have e : (iblk m c 0 t : FVec Ideal S32x8x1024 .f32) (ix3 g s d) = (V m c main_arg0 : FVec Ideal S2176x8x1024 .f32) (ix3 G s d) := by
    blk_ext [iblk, idx t]
  rw [e, V_main_arg0]

/-- The row of a modulation's groups that a point's group reads. -/
def grp (t : Fin cfg0.N) (g : Fin 32) : Fin 192 :=
  ⟨if t.val < 64 then t.val / 32 * 32 + g.val else (t.val - 62) * 32 + g.val, by have := t_lt t; split <;> omega⟩

theorem grp_row (t : Fin cfg0.N) (g : Fin 32) (s : Nat) (hs : s < 8) (n : Fin 130) (hn : n.val = grow ((t.val * 32 + g.val) * 8 + s)) :
    n.val = if (grp t g).val < 64 then (grp t g).val / 32 else 2 + ((grp t g).val - 64) := by
  have ht := t_lt t
  have hg := g.isLt
  rw [hn]; unfold grow grp; dsimp only
  split <;> split <;> split <;> omega

theorem blk1 (c : Dev nD) (t : Fin cfg0.N) (g : Fin 32) (d : Fin 1024) (s : Nat) (hs : s < 8) (n : Fin 130) (hn : n.val = grow ((t.val * 32 + g.val) * 8 + s)) :
    (iblk m c 1 t : FVec Ideal S32x1x1024 .f32) (ix3 g 0 d) = (m (c, Proc.tc.devRef main_arg1) : FVec Ideal S130x1024 .f32) (ix2 n d) := by
  have e : (iblk m c 1 t : FVec Ideal S32x1x1024 .f32) (ix3 g 0 d) = (V m c main_v30 : FVec Ideal S192x1x1024 .f32) (ix3 (grp t g) 0 d) := by
    blk_ext [iblk, idx t, grp]
    split <;> omega
  rw [e]
  exact V30 m c _ d n (grp_row t g s hs n hn)

theorem blk2 (c : Dev nD) (t : Fin cfg0.N) (g : Fin 32) (d : Fin 1024) (s : Nat) (hs : s < 8) (n : Fin 130) (hn : n.val = grow ((t.val * 32 + g.val) * 8 + s)) :
    (iblk m c 2 t : FVec Ideal S32x1x1024 .f32) (ix3 g 0 d) = (m (c, Proc.tc.devRef main_arg2) : FVec Ideal S130x1024 .f32) (ix2 n d) := by
  have e : (iblk m c 2 t : FVec Ideal S32x1x1024 .f32) (ix3 g 0 d) = (V m c main_v36 : FVec Ideal S192x1x1024 .f32) (ix3 (grp t g) 0 d) := by
    blk_ext [iblk, idx t, grp]
    split <;> omega
  rw [e]
  exact V36 m c _ d n (grp_row t g s hs n hn)

theorem blk3 (c : Dev nD) (t : Fin cfg0.N) (d : Fin 1024) :
    (iblk m c 3 t : FVec Ideal S1x1024 .f32) (ix2 0 d) = (m (c, Proc.tc.devRef main_arg3) : FVec Ideal S1024 .f32) (ix1 d) := by
  have e : (iblk m c 3 t : FVec Ideal S1x1024 .f32) (ix2 0 d) = (V m c main_v37 : FVec Ideal S1x1024 .f32) (ix2 0 d) := by
    blk_ext [iblk, idx t]
  rw [e, V37]

theorem blk4 (c : Dev nD) (t : Fin cfg0.N) (j n : Fin 1024) :
    (iblk m c 4 t : FVec Ideal S1024x1024 .bf16) (ix2 j n) = (m (c, Proc.tc.devRef main_arg4) : FVec Ideal S1024x3664 .f32) (ix2 j ⟨n.val, by omega⟩) := by
  have e : (iblk m c 4 t : FVec Ideal S1024x1024 .bf16) (ix2 j n) = (V m c main_v1 : FVec Ideal S1024x1024 .bf16) (ix2 j n) := by
    blk_ext [iblk, idx t]
  rw [e, V1]

theorem blk7 (c : Dev nD) (t : Fin cfg0.N) (j : Fin 1024) (n : Fin 2048) :
    (iblk m c 7 t : FVec Ideal S1024x2048 .bf16) (ix2 j n) = (m (c, Proc.tc.devRef main_arg4) : FVec Ideal S1024x3664 .f32) (ix2 j ⟨1608 + n.val, by omega⟩) := by
  have e : (iblk m c 7 t : FVec Ideal S1024x2048 .bf16) (ix2 j n) = (V m c main_v18 : FVec Ideal S1024x2048 .bf16) (ix2 j n) := by
    blk_ext [iblk, idx t]
  rw [e, V18]

theorem blk9 (c : Dev nD) (t : Fin cfg0.N) (d : Fin 128) :
    (iblk m c 9 t : FVec Ideal S1x128 .f32) (ix2 0 d) = (m (c, Proc.tc.devRef main_arg6) : FVec Ideal S128 .f32) (ix1 d) := by
  have e : (iblk m c 9 t : FVec Ideal S1x128 .f32) (ix2 0 d) = (V m c main_v39 : FVec Ideal S1x128 .f32) (ix2 0 d) := by
    blk_ext [iblk, idx t]
  rw [e, V39]

/-- The row of the tables that a point's row reads. -/
def tab (t : Fin cfg0.N) (r : Fin 256) : Fin 8448 :=
  ⟨(if t.val < 64 then t.val % 32 else 32) * 256 + r.val, by have := t_lt t; split <;> omega⟩

theorem blk10 (c : Dev nD) (t : Fin cfg0.N) (r : Fin 256) (d : Fin 128) :
    (iblk m c 10 t : FVec Ideal S256x128 .f32) (ix2 r d) = Ideal.cos (KANG (ix2 (tab t r) ⟨d.val % 64, by omega⟩)) := by
  have e : (iblk m c 10 t : FVec Ideal S256x128 .f32) (ix2 r d) = (V m c main_v54 : FVec Ideal S8448x128 .f32) (ix2 (tab t r) d) := by
    blk_ext [iblk, idx t, tab]
  rw [e, V54]

theorem blk11 (c : Dev nD) (t : Fin cfg0.N) (r : Fin 256) (d : Fin 128) :
    (iblk m c 11 t : FVec Ideal S256x128 .f32) (ix2 r d) =
      if d.val < 64 then -Ideal.sin (KANG (ix2 (tab t r) ⟨d.val % 64, by omega⟩)) else Ideal.sin (KANG (ix2 (tab t r) ⟨d.val % 64, by omega⟩)) := by
  have e : (iblk m c 11 t : FVec Ideal S256x128 .f32) (ix2 r d) = (V m c main_v56 : FVec Ideal S8448x128 .f32) (ix2 (tab t r) d) := by
    blk_ext [iblk, idx t, tab]
  rw [e, V56]

/-- The table holds the angles of the rows' positions. -/
theorem ang_tab (t : Fin cfg0.N) (r : Fin 256) (R : Fin 17408) (hR : R.val = t.val * 256 + r.val) (i : Fin 64) :
    (KANG (ix2 (tab t r) i) : EReal) = ANG (ix2 R i) := by
  rw [kang_at, kpos_at, ang_at, pos_at]
  refine congrArg (angle · i) ?_
  have ht := t_lt t
  have hr := r.isLt
  unfold kposn posn tab; dsimp only
  by_cases h : t.val < 64
  · simp only [if_pos h]
    rw [if_pos (by omega), if_pos (by omega)]
    exact congrArg (BitVec.ofNat 32) (by omega)
  · simp only [if_neg h]
    rw [if_neg (by omega), if_neg (by omega)]
    exact congrArg (fun n => 2048#32 + BitVec.ofNat 32 n) (by omega)

/-- A normalized row depends on its arguments at the entries only. -/
theorem hrow_congr {x x' g g' sc sc' sh sh' : Fin 1024 → EReal} (ex : ∀ i, x i = x' i) (eg : ∀ i, g i = g' i) (ec : ∀ i, sc i = sc' i)
    (eh : ∀ i, sh i = sh' i) (j : Fin 1024) : hrow x g sc sh j = hrow x' g' sc' sh' j := by
  rw [funext ex, funext eg, funext ec, funext eh]

/-- The normalized row of a point. -/
theorem hid (c : Dev nD) (t : Fin cfg0.N) (r : Fin 256) (R : Fin 17408) (hR : R.val = t.val * 256 + r.val) (j : Fin 1024) :
    (k0_pay6 (F := Ideal) (iblk m c 0 t) (iblk m c 3 t) (iblk m c 2 t) (iblk m c 1 t) (ix2 r j) : EReal)
      = NORM (m ((c : Thread nD τ).loc main_arg0)) (m ((c : Thread nD τ).loc main_arg1)) (m ((c : Thread nD τ).loc main_arg2)) (m ((c : Thread nD τ).loc main_arg3)) (ix2 R j) := by
  have ht := t_lt t
  obtain ⟨g, s, hr, rfl⟩ : ∃ (g : Fin 32) (s : Fin 8) (h : g.val * 8 + s.val < 256), r = ⟨g.val * 8 + s.val, h⟩ :=
    ⟨⟨r.val / 8, by omega⟩, ⟨r.val % 8, by omega⟩, by dsimp only; omega, Fin.ext (by dsimp only; omega)⟩
  have hG : (t.val * 32 + g.val) * 8 + s.val < 17408 := by omega
  obtain rfl : R = ⟨(t.val * 32 + g.val) * 8 + s.val, hG⟩ := Fin.ext (by rw [hR]; dsimp only; omega)
  refine (pay6_at _ _ _ _ g s j hr).trans (Eq.trans ?_ (norm_at _ _ _ _ ⟨t.val * 32 + g.val, by omega⟩ s j hG).symm)
  exact hrow_congr (fun i => blk0 m c t g s i _ rfl) (fun i => blk3 m c t i) (fun i => blk2 m c t g i s.val s.isLt _ rfl) (fun i => blk1 m c t g i s.val s.isLt _ rfl) j

/-- The columns of the projection that a point computes. -/
theorem za (c : Dev nD) (t : Fin cfg0.N) (r : Fin 256) (R : Fin 17408) (hR : R.val = t.val * 256 + r.val) (n : Fin 1024) (N : Fin 3664) (hN : N.val = n.val) :
    (k0_pay8 (F := Ideal) (iblk m c 0 t) (iblk m c 3 t) (iblk m c 2 t) (iblk m c 1 t) (iblk m c 4 t) (ix2 r n) : EReal)
      = PROJ (m ((c : Thread nD τ).loc main_arg0)) (m ((c : Thread nD τ).loc main_arg1)) (m ((c : Thread nD τ).loc main_arg2)) (m ((c : Thread nD τ).loc main_arg3)) (m ((c : Thread nD τ).loc main_arg4)) (ix2 R N) := by
  have e : N = ⟨n.val, by omega⟩ := Fin.ext hN
  rw [e]
  refine (pay8_at _ _ _ _ _ r n).trans (Eq.trans ?_ (proj_at _ _ _ _ _ R _).symm)
  exact Finset.sum_congr rfl fun j _ => congrArg₂ (· * · : EReal → EReal → EReal) (hid m c t r R hR j) (blk4 m c t j n)

theorem zg (c : Dev nD) (t : Fin cfg0.N) (r : Fin 256) (R : Fin 17408) (hR : R.val = t.val * 256 + r.val) (n : Fin 2048) (N : Fin 3664) (hN : N.val = 1608 + n.val) :
    (k0_pay12 (F := Ideal) (k0_pay6 (F := Ideal) (iblk m c 0 t) (iblk m c 3 t) (iblk m c 2 t) (iblk m c 1 t)) (iblk m c 7 t) (ix2 r n) : EReal)
      = PROJ (m ((c : Thread nD τ).loc main_arg0)) (m ((c : Thread nD τ).loc main_arg1)) (m ((c : Thread nD τ).loc main_arg2)) (m ((c : Thread nD τ).loc main_arg3)) (m ((c : Thread nD τ).loc main_arg4)) (ix2 R N) := by
  have e : N = ⟨1608 + n.val, by omega⟩ := Fin.ext hN
  rw [e]
  refine (pay12_at _ _ r n).trans (Eq.trans ?_ (proj_at _ _ _ _ _ R _).symm)
  exact Finset.sum_congr rfl fun j _ => congrArg₂ (· * · : EReal → EReal → EReal) (hid m c t r R hR j) (blk7 m c t j n)

/-- The projection's columns from a first one on. -/
theorem cols_at (Z : FVec Ideal Cert.Reference4Ideal.S17408x3664 .f32) (R : Fin 17408) :
    (∀ n : Fin 256, (extractStridedSlice S17408x256 ![0, 768] Z Cert.Reference4Ideal.Gen.slices_S17408x3664_S17408x256_0_768 (ix2 R n) : EReal) = Z (ix2 R ⟨768 + n.val, by omega⟩))
    ∧ (∀ n : Fin 1536, (extractStridedSlice S17408x1536 ![0, 1608] Z Cert.Reference4Ideal.Gen.slices_S17408x3664_S17408x1536_0_1608 (ix2 R n) : EReal) = Z (ix2 R ⟨1608 + n.val, by omega⟩))
    ∧ (∀ n : Fin 512, (extractStridedSlice S17408x512 ![0, 3144] Z Cert.Reference4Ideal.Gen.slices_S17408x3664_S17408x512_0_3144 (ix2 R n) : EReal) = Z (ix2 R ⟨3144 + n.val, by omega⟩)) := by
  refine ⟨fun n => ?_, fun n => ?_, fun n => ?_⟩ <;> pointwise

set_option maxHeartbeats 1600000 in
theorem final17 (c : Dev nD) : (dats m 0 c).arrAt 17 (cfgs 0).N
    = (extractStridedSlice S17408x256 ![0, 768] (PROJ (m ((c : Thread nD τ).loc main_arg0)) (m ((c : Thread nD τ).loc main_arg1)) (m ((c : Thread nD τ).loc main_arg2)) (m ((c : Thread nD τ).loc main_arg3)) (m ((c : Thread nD τ).loc main_arg4))) Cert.Reference4Ideal.Gen.slices_S17408x3664_S17408x256_0_768 : FVec Ideal S17408x256 .f32) := by
  refine (dats m 0 c).arrAt_eq_of_covers 17 _ (by decide +kernel) fun t _ y => ?_
  blk_simp
  rw [after0_17]
  have ht := t_lt t
  obtain ⟨r, n, rfl⟩ : ∃ (r : Fin 256) (n : Fin 256), y = ix2 r n := ⟨y 0, y 1, eq_ix2 y⟩
  have he : ((View.whole main_v75_2).slice (win0_17.rect t)).emb (ix2 r n) = (ix2 (⟨t.val * 256 + r.val, by omega⟩ : Fin 17408) n : S17408x256.Idx) := by
    blk_ext [idx t]
  rw [he]
  refine (out17_at _ _ _ _ _ _ _ _ _ _ _ _ _ _ _ r n).trans (Eq.trans ?_ ((cols_at _ _).1 n).symm)
  exact za m c t r _ rfl _ _ rfl

set_option maxHeartbeats 1600000 in
theorem final24 (c : Dev nD) : (dats m 0 c).arrAt 24 (cfgs 0).N
    = (extractStridedSlice S17408x1536 ![0, 1608] (PROJ (m ((c : Thread nD τ).loc main_arg0)) (m ((c : Thread nD τ).loc main_arg1)) (m ((c : Thread nD τ).loc main_arg2)) (m ((c : Thread nD τ).loc main_arg3)) (m ((c : Thread nD τ).loc main_arg4))) Cert.Reference4Ideal.Gen.slices_S17408x3664_S17408x1536_0_1608 : FVec Ideal S17408x1536 .f32) := by
  refine (dats m 0 c).arrAt_eq_of_covers 24 _ (by decide +kernel) fun t _ y => ?_
  blk_simp
  rw [after0_24]
  have ht := t_lt t
  obtain ⟨r, n, rfl⟩ : ∃ (r : Fin 256) (n : Fin 1536), y = ix2 r n := ⟨y 0, y 1, eq_ix2 y⟩
  have he : ((View.whole main_v75_9).slice (win0_24.rect t)).emb (ix2 r n) = (ix2 (⟨t.val * 256 + r.val, by omega⟩ : Fin 17408) n : S17408x1536.Idx) := by
    blk_ext [idx t]
  rw [he]
  refine (out24_at _ _ _ _ _ _ _ _ _ _ _ _ _ _ _ r n).trans (Eq.trans ?_ ((cols_at _ _).2.1 n).symm)
  exact zg m c t r _ rfl _ _ rfl

set_option maxHeartbeats 1600000 in
theorem final25 (c : Dev nD) : (dats m 0 c).arrAt 25 (cfgs 0).N
    = (extractStridedSlice S17408x512 ![0, 3144] (PROJ (m ((c : Thread nD τ).loc main_arg0)) (m ((c : Thread nD τ).loc main_arg1)) (m ((c : Thread nD τ).loc main_arg2)) (m ((c : Thread nD τ).loc main_arg3)) (m ((c : Thread nD τ).loc main_arg4))) Cert.Reference4Ideal.Gen.slices_S17408x3664_S17408x512_0_3144 : FVec Ideal S17408x512 .f32) := by
  refine (dats m 0 c).arrAt_eq_of_covers 25 _ (by decide +kernel) fun t _ y => ?_
  blk_simp
  rw [after0_25]
  have ht := t_lt t
  obtain ⟨r, n, rfl⟩ : ∃ (r : Fin 256) (n : Fin 512), y = ix2 r n := ⟨y 0, y 1, eq_ix2 y⟩
  have he : ((View.whole main_v75_10).slice (win0_25.rect t)).emb (ix2 r n) = (ix2 (⟨t.val * 256 + r.val, by omega⟩ : Fin 17408) n : S17408x512.Idx) := by
    blk_ext [idx t]
  rw [he]
  refine (out25_at _ _ _ _ _ _ _ _ _ _ _ _ _ _ _ r n).trans (Eq.trans ?_ ((cols_at _ _).2.2 n).symm)
  exact zg m c t r _ rfl _ _ (by dsimp only; omega)

set_option maxHeartbeats 1600000 in
theorem final16 (c : Dev nD) : (dats m 0 c).arrAt 16 (cfgs 0).N
    = (ROPE (KEYS (PROJ (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg6))) ANG : FVec Ideal S17408x256 .f32) := by
  refine (dats m 0 c).arrAt_eq_of_covers 16 _ (by decide +kernel) fun t _ y => ?_
  blk_simp
  rw [after0_16]
  have ht := t_lt t
  obtain ⟨r, n, rfl⟩ : ∃ (r : Fin 256) (n : Fin 256), y = ix2 r n := ⟨y 0, y 1, eq_ix2 y⟩
  have he : ((View.whole main_v75_1).slice (win0_16.rect t)).emb (ix2 r n) = (ix2 (⟨t.val * 256 + r.val, by omega⟩ : Fin 17408) n : S17408x256.Idx) := by
    blk_ext [idx t]
  rw [he]
  refine (out16_at _ _ _ _ _ _ _ _ _ _ _ _ _ _ _ r n).trans (Eq.trans ?_ (rope_at _ _ _ ⟨n.val / 128, by omega⟩ ⟨n.val % 128, by omega⟩ n (by dsimp only; omega)).symm)
  refine (roll_eq _ (fun i => KANG (ix2 (tab t r) i)) _ _ _ (fun d => blk10 m c t r d) (fun d => blk11 m c t r d)).trans ?_
  refine congrArg₂ (fun z a => rot z a _) (funext fun d => ?_) (funext fun i => ang_tab t r _ rfl i)
  refine Eq.trans ?_ (keys_at _ _ _ _ _).symm
  refine congrArg₂ (fun z g => krow z g d) (funext fun i => ?_) (funext fun i => blk9 m c t i)
  exact za m c t r _ rfl _ _ rfl

/-- The four results of the arrays of a memory. -/
def RK (c : Dev nD) : FVec Ideal S17408x256 .f32 := ROPE (KEYS (PROJ (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg6))) ANG
def RV (c : Dev nD) : FVec Ideal S17408x256 .f32 := extractStridedSlice S17408x256 ![0, 768] (PROJ (m ((c : Thread nD τ).loc main_arg0)) (m ((c : Thread nD τ).loc main_arg1)) (m ((c : Thread nD τ).loc main_arg2)) (m ((c : Thread nD τ).loc main_arg3)) (m ((c : Thread nD τ).loc main_arg4))) Cert.Reference4Ideal.Gen.slices_S17408x3664_S17408x256_0_768
def RG (c : Dev nD) : FVec Ideal S17408x1536 .f32 := extractStridedSlice S17408x1536 ![0, 1608] (PROJ (m ((c : Thread nD τ).loc main_arg0)) (m ((c : Thread nD τ).loc main_arg1)) (m ((c : Thread nD τ).loc main_arg2)) (m ((c : Thread nD τ).loc main_arg3)) (m ((c : Thread nD τ).loc main_arg4))) Cert.Reference4Ideal.Gen.slices_S17408x3664_S17408x1536_0_1608
def RZ (c : Dev nD) : FVec Ideal S17408x512 .f32 := extractStridedSlice S17408x512 ![0, 3144] (PROJ (m ((c : Thread nD τ).loc main_arg0)) (m ((c : Thread nD τ).loc main_arg1)) (m ((c : Thread nD τ).loc main_arg2)) (m ((c : Thread nD τ).loc main_arg3)) (m ((c : Thread nD τ).loc main_arg4))) Cert.Reference4Ideal.Gen.slices_S17408x3664_S17408x512_0_3144

theorem post16 (r : PUnit × MemSt nD τ sig (Elt Ideal)) (h : Pipeline.FramePost cfgs (dats m) 0 (V m) r) (c : Dev nD) :
    r.2.mem ((c : Thread nD τ).loc main_v75_1) = (dats m 0 c).arrAt 16 (cfgs 0).N :=
  (h c).1 16

theorem post17 (r : PUnit × MemSt nD τ sig (Elt Ideal)) (h : Pipeline.FramePost cfgs (dats m) 0 (V m) r) (c : Dev nD) :
    r.2.mem ((c : Thread nD τ).loc main_v75_2) = (dats m 0 c).arrAt 17 (cfgs 0).N :=
  (h c).1 17

theorem post24 (r : PUnit × MemSt nD τ sig (Elt Ideal)) (h : Pipeline.FramePost cfgs (dats m) 0 (V m) r) (c : Dev nD) :
    r.2.mem ((c : Thread nD τ).loc main_v75_9) = (dats m 0 c).arrAt 24 (cfgs 0).N :=
  (h c).1 24

theorem post25 (r : PUnit × MemSt nD τ sig (Elt Ideal)) (h : Pipeline.FramePost cfgs (dats m) 0 (V m) r) (c : Dev nD) :
    r.2.mem ((c : Thread nD τ).loc main_v75_10) = (dats m 0 c).arrAt 25 (cfgs 0).N :=
  (h c).1 25

theorem kept0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

set_option maxHeartbeats 4000000 in
/-- The call ends with them, and with its arguments as launched. -/
theorem run (ρ : Dev nD → PrngReg) : θ_run defs (onTc (τ := τ) (main (F := Ideal))) ⟨m, fun _ => 0, ρ⟩ fun r => ∀ c : Dev nD,
    r.2.mem ((c : Thread nD τ).loc main_v75_1) = RK m c
    ∧ r.2.mem ((c : Thread nD τ).loc main_v75_2) = RV m c
    ∧ r.2.mem ((c : Thread nD τ).loc main_v75_9) = RG m c
    ∧ r.2.mem ((c : Thread nD τ).loc main_v75_10) = RZ m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6) :=
  (θ_run defs _ _).mono (fun r h c => ⟨(post16 m r h c).trans (final16 m c), (post17 m r h c).trans (final17 m c),
    (post24 m r h c).trans (final24 m c), (post25 m r h c).trans (final25 m c),
    kept0 m r h c,
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c)⟩)
    (run_main m ρ)

end Cert.Proof.Inp

end
-- ==== Proof.InpClaims.lean ====
module

public import proofs.«01_k».proof.Defs
public import proofs.«01_k».proof.Proof.InpValue
public import proofs.«01_k».proof.Proof.InpFrameBits
public import Idealize.ShloMosaic.Lib.Claim

@[expose] public section

set_option maxRecDepth 16384

noncomputable section

namespace Cert.Proof.Inp

open Idealize.ShloMosaic Idealize.ShloMosaic.TcCoe Idealize.SL.Sem

theorem frame_kernel : Cert.quiescent_Kernel4 := fun m ρ _ => Cert.Kernel4.Gen.frame m ρ

theorem frame_ideal : Cert.quiescent_Kernel4Ideal := fun m ρ _ => Cert.Kernel4Ideal.Gen.frame m ρ

theorem frame_reference : Cert.quiescent_Reference4Ideal := by
  intro m g _
  refine (θ_run _ _ _).mono (fun r h => ?_) (Cert.Reference4Ideal.Value.run m g)
  exact ⟨fun c => (h c).2.2.2.2, sem_eq_zero_of_no_sems (by decide) r.2⟩

theorem algebraic : Cert.algebraic_Kernel4Ideal_Reference4Ideal := by
  intro m g m' g' hpre hagree
  refine ⟨RK m, RV m, RG m, RZ m, run m g, ?_⟩
  · refine (θ_run _ _ _).mono (fun r h c => ?_) (Cert.Reference4Ideal.Value.run m' g')
    obtain ⟨h0, h1, h2, h3, hf⟩ := h c
    obtain ⟨a0, a1, a2, a3, a4, a5, a6⟩ := hagree c
    refine ⟨h0.trans ?_, h1.trans ?_, h2.trans ?_, h3.trans ?_, hf⟩
    · show ROPE (KEYS (PROJ (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4))) (m' ((c.tc : Thread Cert.Reference4Ideal.nD Cert.Reference4Ideal.τ).loc Cert.Reference4Ideal.main_arg6))) ANG = _
      rw [RK, a0, a1, a2, a3, a4, a6]
    · show extractStridedSlice _ _ (PROJ (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4))) _ = _
      rw [RV, a0, a1, a2, a3, a4]
    · show extractStridedSlice _ _ (PROJ (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4))) _ = _
      rw [RG, a0, a1, a2, a3, a4]
    · show extractStridedSlice _ _ (PROJ (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4))) _ = _
      rw [RZ, a0, a1, a2, a3, a4]

end Cert.Proof.Inp

end
-- ==== Proof.IdxRef.lean ====
module

public import proofs.«01_k».proof.Defs
public import proofs.«01_k».proof.Proof.InpRef
public import proofs.«01_k».proof.Proof.Gen.Reference5Ideal.Run

@[expose] public section

set_option maxRecDepth 16384

noncomputable section

namespace Cert.Proof.Inp

open Cert.Reference5Ideal Cert.Reference5Ideal.Gen Idealize.ShloMosaic Idealize.ShloMosaic.TcCoe Idealize.SL.Sem

/-- The angles of the rotary embedding of the indexer's keys. -/
def IANG : FVec Ideal S17408x32 .f32 :=
  mulf (broadcastInDim S17408x32 ![0, 1] bcast_S17408x1_S17408x32_0_1 (broadcastInDim S17408x1 ![0] bcast_S17408_S17408x1_0 (sitofp .f32 POS))) (broadcastInDim S17408x32 ![0, 1] bcast_S1x32_S17408x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- The projection's columns of the indexer's keys. -/
def IKEYS (Z : FVec Ideal S17408x3664 .f32) : FVec Ideal S17408x1x64 .f32 :=
  shapeCast _ (extractStridedSlice S17408x64 ![0, 1536] Z slices_S17408x3664_S17408x64_0_1536) shapeCasts_S17408x64_S17408x1x64

/-- The rotary embedding of the indexer's keys at angles. -/
def IROPE (K : FVec Ideal S17408x1x64 .f32) (A : FVec Ideal S17408x32 .f32) : FVec Ideal S17408x64 .f32 :=
  shapeCast _ (concatenate S17408x1x64 2 [⟨S17408x1x32, (subf (mulf (extractStridedSlice S17408x1x32 ![0, 0, 0] K slices_S17408x1x64_S17408x1x32_0_0_0) (broadcastInDim S17408x1x32 ![0, 2] bcast_S17408x32_S17408x1x32_0_2 (Host.cos A))) (mulf (extractStridedSlice S17408x1x32 ![0, 0, 32] K slices_S17408x1x64_S17408x1x32_0_0_32) (broadcastInDim S17408x1x32 ![0, 2] bcast_S17408x32_S17408x1x32_0_2 (Host.sin A))))⟩, ⟨S17408x1x32, (addf (mulf (extractStridedSlice S17408x1x32 ![0, 0, 32] K slices_S17408x1x64_S17408x1x32_0_0_32) (broadcastInDim S17408x1x32 ![0, 2] bcast_S17408x32_S17408x1x32_0_2 (Host.cos A))) (mulf (extractStridedSlice S17408x1x32 ![0, 0, 0] K slices_S17408x1x64_S17408x1x32_0_0_0) (broadcastInDim S17408x1x32 ![0, 2] bcast_S17408x32_S17408x1x32_0_2 (Host.sin A))))⟩] concatenates_S17408x1x32_S17408x1x32_S17408x1x64_d2) shapeCasts_S17408x1x64_S17408x64

/-- The angle of pair `d` of the indexer's keys at a position. -/
def iangle (p : BitVec 32) (d : Fin 32) : EReal :=
  FloatOps.sitofp (F := Ideal) .f32 p * Ideal.pow (Ideal.ofBits .f32 0x461C4000#32)
    (Ideal.div (-(FloatOps.sitofp (F := Ideal) .f32 (BitVec.ofNat 32 d.val) : EReal)) (Ideal.ofBits .f32 0x42000000#32))

/-- The rotation of the pairs of a row of the indexer's keys, pair `d` the entries `d` and `32 + d`. -/
def irot (z : Fin 64 → EReal) (a : Fin 32 → EReal) (d : Fin 64) : EReal :=
  if h : d.val < 32 then z d * Ideal.cos (a ⟨d.val, h⟩) - z ⟨32 + d.val, by omega⟩ * Ideal.sin (a ⟨d.val, h⟩)
  else z d * Ideal.cos (a ⟨d.val - 32, by omega⟩) + z ⟨d.val - 32, by omega⟩ * Ideal.sin (a ⟨d.val - 32, by omega⟩)

theorem iang_at (r : Fin 17408) (d : Fin 32) :
    (IANG (ix2 r d) : EReal) = iangle (POS (ix1 r)) d := by
  pointwise [IANG, iangle]

theorem ikeys_at (Z : FVec Ideal S17408x3664 .f32) (r : Fin 17408) (d : Fin 64) :
    (IKEYS Z (ix3 r 0 d) : EReal) = Z (ix2 r ⟨1536 + d.val, by omega⟩) := by
  pointwise [IKEYS]

theorem irope_at (K : FVec Ideal S17408x1x64 .f32) (A : FVec Ideal S17408x32 .f32) (r : Fin 17408) (d : Fin 64) :
    (IROPE K A (ix2 r d) : EReal) = irot (fun i => K (ix3 r 0 i)) (fun i => A (ix2 r i)) d := by
  pointwise [IROPE]
  simp only [irot]
  split
  · rfl
  · rename_i hd
    have e : (⟨32 + (d.val - 32), by omega⟩ : Fin 64) = d := Fin.ext (by dsimp only; omega)
    rw [e]

theorem frame_reference5 : Cert.quiescent_Reference5Ideal := by
  intro m g _
  refine (θ_run _ _ _).mono (fun r h => ?_) (Cert.Reference5Ideal.Value.run m g)
  exact ⟨fun c => (h c).2, sem_eq_zero_of_no_sems (by decide) r.2⟩

end Cert.Proof.Inp

end
-- ==== Proof.InpFinite.lean ====
module

public import proofs.«01_k».proof.Defs
public import proofs.«01_k».proof.Proof.InpRef
public import Idealize.ShloMosaic.Lib.Pipeline.ValueKit
public import Idealize.ShloMosaic.Lib.IdealHost

@[expose] public section

set_option maxRecDepth 16384

noncomputable section

namespace Cert.Proof.Inp

open Cert.Reference4Ideal Cert.Reference4Ideal.Gen Idealize.ShloMosaic Idealize.ShloMosaic.TcCoe Idealize.SL.Sem

/-- An extended real that is a real number. -/
def Fine (x : EReal) : Prop := ∃ r : ℝ, x = (r : EReal)

theorem Fine.mul {x y : EReal} (hx : Fine x) (hy : Fine y) : Fine (x * y) := by
  obtain ⟨a, rfl⟩ := hx; obtain ⟨b, rfl⟩ := hy; exact ⟨a * b, (EReal.coe_mul a b).symm⟩

theorem Fine.add {x y : EReal} (hx : Fine x) (hy : Fine y) : Fine (x + y) := by
  obtain ⟨a, rfl⟩ := hx; obtain ⟨b, rfl⟩ := hy; exact ⟨a + b, (EReal.coe_add a b).symm⟩

theorem Fine.sub_self {x : EReal} (hx : Fine x) : x - x = 0 := by
  obtain ⟨a, rfl⟩ := hx; rw [← EReal.coe_sub, _root_.sub_self]; rfl

theorem fine_of {x : EReal} (h : x ≠ ⊥ ∧ x ≠ ⊤) : Fine x := ⟨x.toReal, (EReal.coe_toReal h.2 h.1).symm⟩

theorem one_fine : Fine 1 := ⟨1, rfl⟩

/-- The sum of the squares of real numbers is a real number that is not negative. -/
theorem squares {n : Nat} (x : Fin n → EReal) (hx : ∀ i, Fine (x i)) : ∃ s : ℝ, 0 ≤ s ∧ ∑ i, x i * x i = (s : EReal) := by
  choose a ha using hx
  refine ⟨∑ i, a i * a i, Finset.sum_nonneg fun i _ => mul_self_nonneg _, ?_⟩
  simp only [ha, ← EReal.coe_mul]
  exact (map_sum (⟨⟨Real.toEReal, rfl⟩, EReal.coe_add⟩ : ℝ →+ EReal) _ _).symm

/-- The reciprocal of the root of a mean square is a real number. -/
theorem rms_fine (s : ℝ) (hs : 0 ≤ s) :
    Fine (Ideal.rsqrt (Ideal.div (s : EReal) (Ideal.ofBits .f32 0x44800000#32) + Ideal.ofBits .f32 0x358637BD#32)) := by
  obtain ⟨n, hn, en⟩ : ∃ n : ℝ, 0 < n ∧ Ideal.ofBits .f32 0x44800000#32 = (n : EReal) := ⟨1024, by norm_num, by simp [Ideal.ofBits, Ideal.ieee]; norm_num; rw [← EReal.coe_mul]; norm_num⟩
  obtain ⟨e, he, ee⟩ : ∃ e : ℝ, 0 < e ∧ Ideal.ofBits .f32 0x358637BD#32 = (e : EReal) := by
    refine ⟨_, ?_, by simp only [Ideal.ofBits, Ideal.ieee]; simp; rfl⟩
    positivity
  have hd : Ideal.div (s : EReal) (n : EReal) = ((s * n⁻¹ : ℝ) : EReal) := by
    unfold Ideal.div
    rw [if_neg (by exact_mod_cast hn.ne'), ← EReal.coe_inv, ← EReal.coe_mul]
  rw [en, ee, hd, ← EReal.coe_add, Ideal.rsqrt_coe]
  have hp : 0 < s * n⁻¹ + e := by positivity
  rw [if_neg (not_lt.2 hp.le), if_neg hp.ne']
  exact ⟨_, rfl⟩

theorem hrow_fine (x g sc sh : Fin 1024 → EReal) (hx : ∀ i, Fine (x i)) (hg : ∀ i, Fine (g i)) (hc : ∀ i, Fine (sc i)) (hh : ∀ i, Fine (sh i)) (j : Fin 1024) :
    Fine (hrow x g sc sh j) := by
  obtain ⟨s, hs, es⟩ := squares x hx
  unfold hrow
  rw [es]
  exact ((((hx j).mul (rms_fine s hs)).mul (hg j)).mul (one_fine.add (hc j))).add (hh j)

/-- The arrays that the claim about the indexer's keys takes to be finite. -/
structure FiniteInputs (X0 : FVec Ideal S2176x8x1024 .f32) (X1 X2 : FVec Ideal S130x1024 .f32) (X3 : FVec Ideal S1024 .f32) (X4 : FVec Ideal S1024x3664 .f32) : Prop where
  x : ∀ g s i, Fine (X0 (ix3 g s i))
  shift : ∀ r i, Fine (X1 (ix2 r i))
  scale : ∀ r i, Fine (X2 (ix2 r i))
  gain : ∀ i, Fine (X3 (ix1 i))
  w : ∀ (j : Fin 1024) (i : Fin 64), Fine (X4 (ix2 j ⟨1536 + i.val, by omega⟩))

/-- The normalized activations are real numbers. -/
theorem norm_fine (X0 : FVec Ideal S2176x8x1024 .f32) (X1 X2 : FVec Ideal S130x1024 .f32) (X3 : FVec Ideal S1024 .f32) (X4 : FVec Ideal S1024x3664 .f32)
    (h : FiniteInputs X0 X1 X2 X3 X4) (R : Fin 17408) (j : Fin 1024) : Fine (NORM X0 X1 X2 X3 (ix2 R j)) := by
  obtain ⟨g, s, hr, rfl⟩ : ∃ (g : Fin 2176) (s : Fin 8) (h : g.val * 8 + s.val < 17408), R = ⟨g.val * 8 + s.val, h⟩ :=
    ⟨⟨R.val / 8, by omega⟩, ⟨R.val % 8, by omega⟩, by dsimp only; omega, Fin.ext (by dsimp only; omega)⟩
  rw [norm_at]
  exact hrow_fine _ _ _ _ (fun i => h.x _ _ _) (fun i => h.gain _) (fun i => h.scale _ _) (fun i => h.shift _ _) j

end Cert.Proof.Inp

end
-- ==== Proof.IdxTables.lean ====
module

public import proofs.«01_k».proof.Proof.InpValue
public import proofs.«01_k».proof.Proof.IdxRef
public import proofs.«01_k».proof.Proof.InpFinite

@[expose] public section

set_option maxRecDepth 16384

noncomputable section

namespace Cert.Proof.Inp

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

/-- The angles of the table of the indexer. -/
def KIANG : FVec Ideal S8448x32 .f32 :=
  mulf (broadcastInDim S8448x32 ![0, 1] bcast_S8448x1_S8448x32_0_1 (broadcastInDim S8448x1 ![0] bcast_S8448_S8448x1_0 (sitofp .f32 KPOS)))
    (broadcastInDim S8448x32 ![0, 1] bcast_S1x32_S8448x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

theorem kiang_at (R : Fin 8448) (d : Fin 32) : (KIANG (ix2 R d) : EReal) = iangle (KPOS (ix1 R)) d := by
  pointwise [KIANG, iangle]

/-- A table of zeros. -/
def KZERO : FVec Ideal S8448x32 .f32 := broadcastInDim S8448x32 ![] bcast_S_S8448x32 (constant S_ .f32 0x00000000#32)

theorem kzero_at (R : Fin 8448) (d : Fin 32) : (KZERO (ix2 R d) : EReal) = 0 := by
  pointwise [KZERO]

/-- The host's operations in two parts. -/
theorem after_split (n : Nat) (σ : Valuation τ sig (Elt Ideal)) : StableHlo.after (List.flatten [hostOps0, hostOps0_1, hostOps0_2]) σ
    = StableHlo.after ((List.flatten [hostOps0, hostOps0_1, hostOps0_2]).drop n) (StableHlo.after ((List.flatten [hostOps0, hostOps0_1, hostOps0_2]).take n) σ) := by
  rw [← StableHlo.after_append, List.take_append_drop]

set_option maxHeartbeats 1600000 in
theorem V67_eq (c : Dev nD) : (V m c main_v67 : FVec Ideal S8448x32 .f32) = Host.cos KIANG := by
  simp only [V, hostOps0, hostOps0_1, hostOps0_2, List.flatten_cons, List.flatten_nil, List.append_nil, List.cons_append, List.nil_append]
  entry_read
  rfl

set_option maxHeartbeats 1600000 in
theorem V68_eq (c : Dev nD) : (V m c main_v68 : FVec Ideal S8448x32 .f32) = Host.sin KIANG := by
  simp only [V, hostOps0, hostOps0_1, hostOps0_2, List.flatten_cons, List.flatten_nil, List.append_nil, List.cons_append, List.nil_append]
  entry_read
  rfl

set_option maxHeartbeats 1600000 in
theorem V69_eq (c : Dev nD) : (V m c main_v69 : FVec Ideal S8448x32 .f32) = KZERO := by
  simp only [V, hostOps0, hostOps0_1, hostOps0_2, List.flatten_cons, List.flatten_nil, List.append_nil, List.cons_append, List.nil_append]
  entry_read
  rfl

set_option maxHeartbeats 1600000 in
theorem V70_of (c : Dev nD) : (V m c main_v70 : FVec Ideal S8448x128 .f32)
    = concatenate S8448x128 1 [⟨S8448x32, (V m c main_v67 : FVec Ideal S8448x32 .f32)⟩, ⟨S8448x32, (V m c main_v67 : FVec Ideal S8448x32 .f32)⟩, ⟨S8448x32, (V m c main_v67 : FVec Ideal S8448x32 .f32)⟩, ⟨S8448x32, (V m c main_v67 : FVec Ideal S8448x32 .f32)⟩] concatenates_S8448x32_S8448x32_S8448x32_S8448x32_S8448x128_d1 := by
  have h : ∀ σ : Valuation τ sig (Elt Ideal), ((StableHlo.after (List.drop 98 (List.flatten [hostOps0, hostOps0_1, hostOps0_2])) σ (Proc.tc.devRef main_v70)) : FVec Ideal S8448x128 .f32)
    = concatenate S8448x128 1 [⟨S8448x32, ((StableHlo.after (List.drop 98 (List.flatten [hostOps0, hostOps0_1, hostOps0_2])) σ (Proc.tc.devRef main_v67)) : FVec Ideal S8448x32 .f32)⟩, ⟨S8448x32, ((StableHlo.after (List.drop 98 (List.flatten [hostOps0, hostOps0_1, hostOps0_2])) σ (Proc.tc.devRef main_v67)) : FVec Ideal S8448x32 .f32)⟩, ⟨S8448x32, ((StableHlo.after (List.drop 98 (List.flatten [hostOps0, hostOps0_1, hostOps0_2])) σ (Proc.tc.devRef main_v67)) : FVec Ideal S8448x32 .f32)⟩, ⟨S8448x32, ((StableHlo.after (List.drop 98 (List.flatten [hostOps0, hostOps0_1, hostOps0_2])) σ (Proc.tc.devRef main_v67)) : FVec Ideal S8448x32 .f32)⟩] concatenates_S8448x32_S8448x32_S8448x32_S8448x32_S8448x128_d1 := by
    intro σ
    simp only [hostOps0, hostOps0_1, hostOps0_2, List.flatten_cons, List.flatten_nil, List.append_nil, List.cons_append, List.nil_append, List.drop_succ_cons, List.drop_zero]
    entry_read
    rfl
  refine (congrFun (after_split 98 _) _).trans ((h _).trans ?_)
  rw [← after_split 98]

set_option maxHeartbeats 1600000 in
theorem V71_eq (c : Dev nD) : (V m c main_v71 : FVec Ideal S8448x32 .f32) = Host.negf (Host.sin KIANG) := by
  simp only [V, hostOps0, hostOps0_1, hostOps0_2, List.flatten_cons, List.flatten_nil, List.append_nil, List.cons_append, List.nil_append]
  entry_read
  rfl

set_option maxHeartbeats 1600000 in
theorem V72_eq (c : Dev nD) : (V m c main_v72 : FVec Ideal S8448x32 .f32) = Host.negf (Host.sin KIANG) := by
  simp only [V, hostOps0, hostOps0_1, hostOps0_2, List.flatten_cons, List.flatten_nil, List.append_nil, List.cons_append, List.nil_append]
  entry_read
  rfl

set_option maxHeartbeats 1600000 in
theorem V73_of (c : Dev nD) : (V m c main_v73 : FVec Ideal S8448x128 .f32)
    = concatenate S8448x128 1 [⟨S8448x32, (V m c main_v71 : FVec Ideal S8448x32 .f32)⟩, ⟨S8448x32, (V m c main_v69 : FVec Ideal S8448x32 .f32)⟩, ⟨S8448x32, (V m c main_v72 : FVec Ideal S8448x32 .f32)⟩, ⟨S8448x32, (V m c main_v69 : FVec Ideal S8448x32 .f32)⟩] concatenates_S8448x32_S8448x32_S8448x32_S8448x32_S8448x128_d1 := by
  have h : ∀ σ : Valuation τ sig (Elt Ideal), ((StableHlo.after (List.drop 101 (List.flatten [hostOps0, hostOps0_1, hostOps0_2])) σ (Proc.tc.devRef main_v73)) : FVec Ideal S8448x128 .f32)
    = concatenate S8448x128 1 [⟨S8448x32, ((StableHlo.after (List.drop 101 (List.flatten [hostOps0, hostOps0_1, hostOps0_2])) σ (Proc.tc.devRef main_v71)) : FVec Ideal S8448x32 .f32)⟩, ⟨S8448x32, ((StableHlo.after (List.drop 101 (List.flatten [hostOps0, hostOps0_1, hostOps0_2])) σ (Proc.tc.devRef main_v69)) : FVec Ideal S8448x32 .f32)⟩, ⟨S8448x32, ((StableHlo.after (List.drop 101 (List.flatten [hostOps0, hostOps0_1, hostOps0_2])) σ (Proc.tc.devRef main_v72)) : FVec Ideal S8448x32 .f32)⟩, ⟨S8448x32, ((StableHlo.after (List.drop 101 (List.flatten [hostOps0, hostOps0_1, hostOps0_2])) σ (Proc.tc.devRef main_v69)) : FVec Ideal S8448x32 .f32)⟩] concatenates_S8448x32_S8448x32_S8448x32_S8448x32_S8448x128_d1 := by
    intro σ
    simp only [hostOps0, hostOps0_1, hostOps0_2, List.flatten_cons, List.flatten_nil, List.append_nil, List.cons_append, List.nil_append, List.drop_succ_cons, List.drop_zero]
    entry_read
    rfl
  refine (congrFun (after_split 101 _) _).trans ((h _).trans ?_)
  rw [← after_split 101]

set_option maxHeartbeats 1600000 in
theorem V74_of (c : Dev nD) : (V m c main_v74 : FVec Ideal S8448x128 .f32)
    = concatenate S8448x128 1 [⟨S8448x32, (V m c main_v69 : FVec Ideal S8448x32 .f32)⟩, ⟨S8448x32, (V m c main_v68 : FVec Ideal S8448x32 .f32)⟩, ⟨S8448x32, (V m c main_v69 : FVec Ideal S8448x32 .f32)⟩, ⟨S8448x32, (V m c main_v68 : FVec Ideal S8448x32 .f32)⟩] concatenates_S8448x32_S8448x32_S8448x32_S8448x32_S8448x128_d1 := by
  have h : ∀ σ : Valuation τ sig (Elt Ideal), ((StableHlo.after (List.drop 98 (List.flatten [hostOps0, hostOps0_1, hostOps0_2])) σ (Proc.tc.devRef main_v74)) : FVec Ideal S8448x128 .f32)
    = concatenate S8448x128 1 [⟨S8448x32, ((StableHlo.after (List.drop 98 (List.flatten [hostOps0, hostOps0_1, hostOps0_2])) σ (Proc.tc.devRef main_v69)) : FVec Ideal S8448x32 .f32)⟩, ⟨S8448x32, ((StableHlo.after (List.drop 98 (List.flatten [hostOps0, hostOps0_1, hostOps0_2])) σ (Proc.tc.devRef main_v68)) : FVec Ideal S8448x32 .f32)⟩, ⟨S8448x32, ((StableHlo.after (List.drop 98 (List.flatten [hostOps0, hostOps0_1, hostOps0_2])) σ (Proc.tc.devRef main_v69)) : FVec Ideal S8448x32 .f32)⟩, ⟨S8448x32, ((StableHlo.after (List.drop 98 (List.flatten [hostOps0, hostOps0_1, hostOps0_2])) σ (Proc.tc.devRef main_v68)) : FVec Ideal S8448x32 .f32)⟩] concatenates_S8448x32_S8448x32_S8448x32_S8448x32_S8448x128_d1 := by
    intro σ
    simp only [hostOps0, hostOps0_1, hostOps0_2, List.flatten_cons, List.flatten_nil, List.append_nil, List.cons_append, List.nil_append, List.drop_succ_cons, List.drop_zero]
    entry_read
    rfl
  refine (congrFun (after_split 98 _) _).trans ((h _).trans ?_)
  rw [← after_split 98]

theorem V70 (c : Dev nD) (R : Fin 8448) (d : Fin 64) :
    (V m c main_v70 : FVec Ideal S8448x128 .f32) (ix2 R ⟨d.val, by omega⟩) = Ideal.cos (KIANG (ix2 R ⟨d.val % 32, by omega⟩)) := by
  rw [V70_of, V67_eq]
  have hd := d.isLt
  pointwise
  split
  · exact congrArg (fun i => Ideal.cos (KIANG (ix2 R i))) (Fin.ext (by dsimp only; omega))
  · split
    · exact congrArg (fun i => Ideal.cos (KIANG (ix2 R i))) (Fin.ext (by dsimp only; omega))
    · exfalso; omega

theorem V73 (c : Dev nD) (R : Fin 8448) (d : Fin 64) :
    (V m c main_v73 : FVec Ideal S8448x128 .f32) (ix2 R ⟨d.val, by omega⟩) = if d.val < 32 then -Ideal.sin (KIANG (ix2 R ⟨d.val % 32, by omega⟩)) else 0 := by
  rw [V73_of, V71_eq, V72_eq, V69_eq]
  have hd := d.isLt
  pointwise
  split
  · exact congrArg (fun i => -Ideal.sin (KIANG (ix2 R i))) (Fin.ext (by dsimp only; omega))
  · split
    · exact kzero_at R _
    · exfalso; omega

theorem V74 (c : Dev nD) (R : Fin 8448) (d : Fin 64) :
    (V m c main_v74 : FVec Ideal S8448x128 .f32) (ix2 R ⟨d.val, by omega⟩) = if d.val < 32 then 0 else Ideal.sin (KIANG (ix2 R ⟨d.val % 32, by omega⟩)) := by
  rw [V74_of, V68_eq, V69_eq]
  have hd := d.isLt
  pointwise
  split
  · exact kzero_at R _
  · split
    · exact congrArg (fun i => Ideal.sin (KIANG (ix2 R i))) (Fin.ext (by dsimp only; omega))
    · exfalso; omega

end Cert.Proof.Inp

end
-- ==== Proof.IdxWeights.lean ====
module

public import proofs.«01_k».proof.Proof.InpValue
public import proofs.«01_k».proof.Proof.IdxRef
public import proofs.«01_k».proof.Proof.InpFinite
public import proofs.«01_k».proof.Proof.IdxTables

@[expose] public section

set_option maxRecDepth 16384

noncomputable section

namespace Cert.Proof.Inp

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

set_option maxHeartbeats 1600000 in
theorem V6 (c : Dev nD) (j : Fin 1024) (i : Fin 64) :
    ((V m c main_v6 : FVec Ideal S1024x64 .f32) (ix2 j i) : EReal) = (m (c, Proc.tc.devRef main_arg4) : FVec Ideal S1024x3664 .f32) (ix2 j ⟨1536 + i.val, by omega⟩) := by
  simp only [V, hostOps0, hostOps0_1, hostOps0_2, List.flatten_cons, List.flatten_nil, List.append_nil, List.cons_append, List.nil_append]
  entry_read
  pointwise

set_option maxRecDepth 100000 in
set_option maxHeartbeats 1600000 in
theorem V12_of (c : Dev nD) : (V m c main_v12 : FVec Ideal S1024x1280 .f32)
    = concatenate S1024x1280 1 [⟨S1024x1024, (V m c main_v5 : FVec Ideal S1024x1024 .f32)⟩, ⟨S1024x64, (V m c main_v6 : FVec Ideal S1024x64 .f32)⟩, ⟨S1024x64, (V m c main_v6 : FVec Ideal S1024x64 .f32)⟩, ⟨S1024x128, (V m c main_v11 : FVec Ideal S1024x128 .f32)⟩] concatenates_S1024x1024_S1024x64_S1024x64_S1024x128_S1024x1280_d1 := by
  have h : ∀ σ : Valuation τ sig (Elt Ideal), ((StableHlo.after (List.drop 13 (List.flatten [hostOps0, hostOps0_1, hostOps0_2])) σ (Proc.tc.devRef main_v12)) : FVec Ideal S1024x1280 .f32)
    = concatenate S1024x1280 1 [⟨S1024x1024, ((StableHlo.after (List.drop 13 (List.flatten [hostOps0, hostOps0_1, hostOps0_2])) σ (Proc.tc.devRef main_v5)) : FVec Ideal S1024x1024 .f32)⟩, ⟨S1024x64, ((StableHlo.after (List.drop 13 (List.flatten [hostOps0, hostOps0_1, hostOps0_2])) σ (Proc.tc.devRef main_v6)) : FVec Ideal S1024x64 .f32)⟩, ⟨S1024x64, ((StableHlo.after (List.drop 13 (List.flatten [hostOps0, hostOps0_1, hostOps0_2])) σ (Proc.tc.devRef main_v6)) : FVec Ideal S1024x64 .f32)⟩, ⟨S1024x128, ((StableHlo.after (List.drop 13 (List.flatten [hostOps0, hostOps0_1, hostOps0_2])) σ (Proc.tc.devRef main_v11)) : FVec Ideal S1024x128 .f32)⟩] concatenates_S1024x1024_S1024x64_S1024x64_S1024x128_S1024x1280_d1 := by
    intro σ
    simp only [hostOps0, hostOps0_1, hostOps0_2, List.flatten_cons, List.flatten_nil, List.append_nil, List.cons_append, List.nil_append, List.drop_succ_cons, List.drop_zero]
    entry_read
    rfl
  refine (congrFun (after_split 13 _) _).trans ((h _).trans ?_)
  rw [← after_split 13]

set_option maxRecDepth 100000 in
set_option maxHeartbeats 1600000 in
theorem V13_of (c : Dev nD) : (V m c main_v13 : FVec Ideal S1024x1280 .bf16) = (V m c main_v12 : FVec Ideal S1024x1280 .f32) := by
  have h : ∀ σ : Valuation τ sig (Elt Ideal), ((StableHlo.after (List.drop 14 (List.flatten [hostOps0, hostOps0_1, hostOps0_2])) σ (Proc.tc.devRef main_v13)) : FVec Ideal S1024x1280 .bf16) = ((StableHlo.after (List.drop 14 (List.flatten [hostOps0, hostOps0_1, hostOps0_2])) σ (Proc.tc.devRef main_v12)) : FVec Ideal S1024x1280 .f32) := by
    intro σ
    simp only [hostOps0, hostOps0_1, hostOps0_2, List.flatten_cons, List.flatten_nil, List.append_nil, List.cons_append, List.nil_append, List.drop_succ_cons, List.drop_zero]
    entry_read
    rfl
  refine (congrFun (after_split 14 _) _).trans ((h _).trans ?_)
  rw [← after_split 14]

set_option maxRecDepth 100000 in
set_option maxHeartbeats 1600000 in
theorem V16_of (c : Dev nD) : (V m c main_v16 : FVec Ideal S1024x1280 .bf16) = subf (F := Ideal) (φ := .f32) (V m c main_v12 : FVec Ideal S1024x1280 .f32) (V m c main_v12 : FVec Ideal S1024x1280 .f32) := by
  have h : ∀ σ : Valuation τ sig (Elt Ideal), ((StableHlo.after (List.drop 14 (List.flatten [hostOps0, hostOps0_1, hostOps0_2])) σ (Proc.tc.devRef main_v16)) : FVec Ideal S1024x1280 .bf16) = subf (F := Ideal) (φ := .f32) ((StableHlo.after (List.drop 14 (List.flatten [hostOps0, hostOps0_1, hostOps0_2])) σ (Proc.tc.devRef main_v12)) : FVec Ideal S1024x1280 .f32) ((StableHlo.after (List.drop 14 (List.flatten [hostOps0, hostOps0_1, hostOps0_2])) σ (Proc.tc.devRef main_v12)) : FVec Ideal S1024x1280 .f32) := by
    intro σ
    simp only [hostOps0, hostOps0_1, hostOps0_2, List.flatten_cons, List.flatten_nil, List.append_nil, List.cons_append, List.nil_append, List.drop_succ_cons, List.drop_zero]
    entry_read
    rfl
  refine (congrFun (after_split 14 _) _).trans ((h _).trans ?_)
  rw [← after_split 14]

theorem V12 (c : Dev nD) (j : Fin 1024) (i : Fin 64) :
    ((V m c main_v12 : FVec Ideal S1024x1280 .f32) (ix2 j ⟨1024 + i.val, by omega⟩) : EReal) = (m (c, Proc.tc.devRef main_arg4) : FVec Ideal S1024x3664 .f32) (ix2 j ⟨1536 + i.val, by omega⟩) := by
  rw [V12_of]
  have hi := i.isLt
  pointwise
  exact V6 m c j i

theorem V13 (c : Dev nD) (j : Fin 1024) (i : Fin 64) :
    ((V m c main_v13 : FVec Ideal S1024x1280 .bf16) (ix2 j ⟨1024 + i.val, by omega⟩) : EReal) = (m (c, Proc.tc.devRef main_arg4) : FVec Ideal S1024x3664 .f32) (ix2 j ⟨1536 + i.val, by omega⟩) :=
  (congrFun (V13_of m c) _).trans (V12 m c j i)

theorem V16 (c : Dev nD) (j : Fin 1024) (i : Fin 64) (h : Fine ((m (c, Proc.tc.devRef main_arg4) : FVec Ideal S1024x3664 .f32) (ix2 j ⟨1536 + i.val, by omega⟩))) :
    @Eq EReal ((V m c main_v16 : FVec Ideal S1024x1280 .bf16) (ix2 j ⟨1024 + i.val, by omega⟩)) 0 := by
  refine (congrFun (V16_of m c) _).trans ?_
  refine (congrArg (fun x : EReal => x - x) (V12 m c j i)).trans ?_
  exact h.sub_self

end Cert.Proof.Inp

end
-- ==== Proof.IdxValue.lean ====
module

public import proofs.«01_k».proof.Proof.InpValue
public import proofs.«01_k».proof.Proof.IdxRef
public import proofs.«01_k».proof.Proof.InpFinite
public import proofs.«01_k».proof.Proof.IdxWeights

@[expose] public section

set_option maxRecDepth 16384

noncomputable section

namespace Cert.Proof.Inp

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

theorem pay7_at (v0 : FVec Ideal S32x8x1024 .f32) (v11 : FVec Ideal S1x1024 .f32) (v16 v22 : FVec Ideal S32x1x1024 .f32) (r : Fin 256) (j : Fin 1024) :
    (k0_pay7 (F := Ideal) v0 v11 v16 v22 (ix2 r j) : EReal) = k0_pay6 (F := Ideal) v0 v11 v16 v22 (ix2 r j) - k0_pay6 (F := Ideal) v0 v11 v16 v22 (ix2 r j) := rfl

theorem pay10_at (v0 : FVec Ideal S32x8x1024 .f32) (v11 : FVec Ideal S1x1024 .f32) (v16 v22 : FVec Ideal S32x1x1024 .f32) (v34 : FVec Ideal S1024x1280 .bf16)
    (r : Fin 256) (n : Fin 1280) :
    (k0_pay10 (F := Ideal) v0 v11 v16 v22 v34 (ix2 r n) : EReal) = ∑ j : Fin 1024, k0_pay6 (F := Ideal) v0 v11 v16 v22 (ix2 r j) * v34 (ix2 j n) := by
  pointwise [k0_pay10, k0_pay9]

theorem pay11_at (v27 v30 : FVec Ideal S256x1024 .bf16) (v35 v37 : FVec Ideal S1024x1280 .bf16) (v36 : FVec Ideal S256x1280 .f32) (r : Fin 256) (n : Fin 1280) :
    (k0_pay11 (F := Ideal) v27 v30 v35 v36 v37 (ix2 r n) : EReal) =
      v36 (ix2 r n) + ((∑ j : Fin 1024, v27 (ix2 r j) * v37 (ix2 j n)) + ∑ j : Fin 1024, v30 (ix2 r j) * v35 (ix2 j n)) := by
  pointwise [k0_pay11]

theorem pay9_eq (v : FVec Ideal S1024x1280 .bf16) : k0_pay9 (F := Ideal) v = v := by
  funext y; rw [eq_ix2 y]; pointwise [k0_pay9]

/-- The rotation of a row of two heads by a table of cosines and two of signed sines. -/
def iroll (z ci sa sb : Fin 128 → EReal) (d : Fin 128) : EReal :=
  z d * ci d + z ⟨(d.val + 128 - 96) % 128, by omega⟩ * sa d + z ⟨(d.val + 128 - 32) % 128, by omega⟩ * sb d

theorem pay75_at (v42 : FVec Ideal S256x1280 .f32) (v183 v185 v187 : FVec Ideal S256x128 .f32) (r : Fin 256) (d : Fin 64) :
    (k0_pay75 (F := Ideal) v42 v183 v185 v187 (ix2 r d) : EReal) =
      iroll (fun i => v42 (ix2 r ⟨1024 + i.val, by omega⟩)) (fun i => v183 (ix2 r i)) (fun i => v185 (ix2 r i)) (fun i => v187 (ix2 r i)) ⟨d.val, by omega⟩ := by
  pointwise [k0_pay75, k0_pay74, iroll]

theorem pay31_eq (v : FVec Ideal S256x128 .f32) : k0_pay31 (F := Ideal) v = v := by
  funext y; rw [eq_ix2 y]; pointwise [k0_pay31]

theorem pay32_eq (v : FVec Ideal S256x128 .f32) : k0_pay32 (F := Ideal) v = v := by
  funext y; rw [eq_ix2 y]; pointwise [k0_pay32]

theorem pay33_eq (v : FVec Ideal S256x128 .f32) : k0_pay33 (F := Ideal) v = v := by
  funext y; rw [eq_ix2 y]; pointwise [k0_pay33]

/-- The rotation by the tables is the rotation of the pairs. -/
theorem iroll_eq (z ci sa sb : Fin 128 → EReal) (a : Fin 32 → EReal) (d : Fin 64)
    (hc : ci ⟨d.val, by omega⟩ = Ideal.cos (a ⟨d.val % 32, by omega⟩))
    (ha : sa ⟨d.val, by omega⟩ = if d.val < 32 then -Ideal.sin (a ⟨d.val % 32, by omega⟩) else 0)
    (hb : sb ⟨d.val, by omega⟩ = if d.val < 32 then 0 else Ideal.sin (a ⟨d.val % 32, by omega⟩)) :
    iroll z ci sa sb ⟨d.val, by omega⟩ = irot (fun i => z ⟨i.val, by omega⟩) a d := by
  unfold iroll irot
  rw [hc, ha, hb]
  have hd := d.isLt
  split
  · rename_i h
    have e1 : (⟨d.val % 32, by omega⟩ : Fin 32) = ⟨d.val, h⟩ := Fin.ext (by dsimp only; omega)
    have e2 : (⟨(d.val + 128 - 96) % 128, by omega⟩ : Fin 128) = ⟨32 + d.val, by omega⟩ := Fin.ext (by dsimp only; omega)
    rw [e1, e2, mul_zero, add_zero, mul_neg, sub_eq_add_neg]
  · rename_i h
    have e1 : (⟨d.val % 32, by omega⟩ : Fin 32) = ⟨d.val - 32, by omega⟩ := Fin.ext (by dsimp only; omega)
    have e2 : (⟨(d.val + 128 - 32) % 128, by omega⟩ : Fin 128) = ⟨d.val - 32, by omega⟩ := Fin.ext (by dsimp only; omega)
    rw [e1, e2, mul_zero, add_zero]

theorem irot_congr {z z' : Fin 64 → EReal} {a a' : Fin 32 → EReal} (ez : ∀ i, z i = z' i) (ea : ∀ i, a i = a' i) (d : Fin 64) : irot z a d = irot z' a' d := by
  rw [funext ez, funext ea]

theorem out21_at (x0 : FVec Ideal S32x8x1024 .f32) (x1 : FVec Ideal S32x1x1024 .f32) (x2 : FVec Ideal S32x1x1024 .f32) (x3 : FVec Ideal S1x1024 .f32) (x4 : FVec Ideal S1024x1024 .bf16) (x5 : FVec Ideal S1024x1280 .bf16) (x6 : FVec Ideal S1024x1280 .bf16) (x7 : FVec Ideal S1024x2048 .bf16) (x8 : FVec Ideal S1x128 .f32) (x9 : FVec Ideal S1x128 .f32) (x10 : FVec Ideal S256x128 .f32) (x11 : FVec Ideal S256x128 .f32) (x12 : FVec Ideal S256x128 .f32) (x13 : FVec Ideal S256x128 .f32) (x14 : FVec Ideal S256x128 .f32) (r : Fin 256) (d : Fin 64) :
    (out0_21 (F := Ideal) x0 x1 x2 x3 x4 x5 x6 x7 x8 x9 x10 x11 x12 x13 x14 (ix2 r d) : EReal) =
      iroll (fun i => k0_pay11 (F := Ideal) (k0_pay6 x0 x3 x2 x1) (k0_pay7 x0 x3 x2 x1) x5 (k0_pay10 x0 x3 x2 x1 x5) x6 (ix2 r ⟨1024 + i.val, by omega⟩)) (fun i => x12 (ix2 r i)) (fun i => x13 (ix2 r i)) (fun i => x14 (ix2 r i)) ⟨d.val, by omega⟩ := by
  unfold out0_21 k0_pay80 k0_pay78 k0_pay88 k0_pay89 k0_pay90
  simp (disch := decide) only [View.canon_cons_unit_lit', View.ld_unit_lit', pay9_eq, pay31_eq, pay32_eq, pay33_eq]
  exact pay75_at _ _ _ _ r d

theorem idx5 : ∀ t : Fin cfg0.N, win0_5.index t = ![0, 0] ∧ win0_6.index t = ![0, 0] ∧
    win0_12.index t = ![if t.val < 64 then t.val % 32 else 32, 0] ∧ win0_13.index t = ![if t.val < 64 then t.val % 32 else 32, 0] ∧
    win0_14.index t = ![if t.val < 64 then t.val % 32 else 32, 0] ∧ win0_21.index t = ![t.val, 0] :=
  (by decide +kernel : ∀ t : Fin grid0.N, _)

theorem blk5 (c : Dev nD) (t : Fin cfg0.N) (j : Fin 1024) (i : Fin 64) :
    ((iblk m c 5 t : FVec Ideal S1024x1280 .bf16) (ix2 j ⟨1024 + i.val, by omega⟩) : EReal) = (m (c, Proc.tc.devRef main_arg4) : FVec Ideal S1024x3664 .f32) (ix2 j ⟨1536 + i.val, by omega⟩) := by
  have e : (iblk m c 5 t : FVec Ideal S1024x1280 .bf16) (ix2 j ⟨1024 + i.val, by omega⟩) = (V m c main_v13 : FVec Ideal S1024x1280 .bf16) (ix2 j ⟨1024 + i.val, by omega⟩) := by
    blk_ext [iblk, idx5 t]
  rw [e, V13]

theorem blk6 (c : Dev nD) (t : Fin cfg0.N) (j : Fin 1024) (i : Fin 64) (h : Fine ((m (c, Proc.tc.devRef main_arg4) : FVec Ideal S1024x3664 .f32) (ix2 j ⟨1536 + i.val, by omega⟩))) :
    @Eq EReal ((iblk m c 6 t : FVec Ideal S1024x1280 .bf16) (ix2 j ⟨1024 + i.val, by omega⟩)) 0 := by
  have e : (iblk m c 6 t : FVec Ideal S1024x1280 .bf16) (ix2 j ⟨1024 + i.val, by omega⟩) = (V m c main_v16 : FVec Ideal S1024x1280 .bf16) (ix2 j ⟨1024 + i.val, by omega⟩) := by
    blk_ext [iblk, idx5 t]
  exact e.trans (V16 m c j i h)

theorem blk12 (c : Dev nD) (t : Fin cfg0.N) (r : Fin 256) (d : Fin 64) :
    (iblk m c 12 t : FVec Ideal S256x128 .f32) (ix2 r ⟨d.val, by omega⟩) = Ideal.cos (KIANG (ix2 (tab t r) ⟨d.val % 32, by omega⟩)) := by
  have e : (iblk m c 12 t : FVec Ideal S256x128 .f32) (ix2 r ⟨d.val, by omega⟩) = (V m c main_v70 : FVec Ideal S8448x128 .f32) (ix2 (tab t r) ⟨d.val, by omega⟩) := by
    blk_ext [iblk, idx5 t, tab]
  rw [e, V70]

theorem blk13 (c : Dev nD) (t : Fin cfg0.N) (r : Fin 256) (d : Fin 64) :
    (iblk m c 13 t : FVec Ideal S256x128 .f32) (ix2 r ⟨d.val, by omega⟩) = if d.val < 32 then -Ideal.sin (KIANG (ix2 (tab t r) ⟨d.val % 32, by omega⟩)) else 0 := by
  have e : (iblk m c 13 t : FVec Ideal S256x128 .f32) (ix2 r ⟨d.val, by omega⟩) = (V m c main_v73 : FVec Ideal S8448x128 .f32) (ix2 (tab t r) ⟨d.val, by omega⟩) := by
    blk_ext [iblk, idx5 t, tab]
  rw [e, V73]

theorem blk14 (c : Dev nD) (t : Fin cfg0.N) (r : Fin 256) (d : Fin 64) :
    (iblk m c 14 t : FVec Ideal S256x128 .f32) (ix2 r ⟨d.val, by omega⟩) = if d.val < 32 then 0 else Ideal.sin (KIANG (ix2 (tab t r) ⟨d.val % 32, by omega⟩)) := by
  have e : (iblk m c 14 t : FVec Ideal S256x128 .f32) (ix2 r ⟨d.val, by omega⟩) = (V m c main_v74 : FVec Ideal S8448x128 .f32) (ix2 (tab t r) ⟨d.val, by omega⟩) := by
    blk_ext [iblk, idx5 t, tab]
  rw [e, V74]

/-- The table holds the angles of the rows' positions. -/
theorem iang_tab (t : Fin cfg0.N) (r : Fin 256) (R : Fin 17408) (hR : R.val = t.val * 256 + r.val) (i : Fin 32) :
    (KIANG (ix2 (tab t r) i) : EReal) = IANG (ix2 R i) := by
  rw [kiang_at, kpos_at, iang_at, pos_at]
  refine congrArg (iangle · i) ?_
  have ht := t_lt t
  have hr := r.isLt
  unfold kposn posn tab; dsimp only
  by_cases h : t.val < 64
  · simp only [if_pos h]
    rw [if_pos (by omega), if_pos (by omega)]
    exact congrArg (BitVec.ofNat 32) (by omega)
  · simp only [if_neg h]
    rw [if_neg (by omega), if_neg (by omega)]
    exact congrArg (fun n => 2048#32 + BitVec.ofNat 32 n) (by omega)

/-- A product in which each factor is split into a first part and the rest is the product of the first parts, when the rests are zero. -/
theorem split_sum (h l : Fin 1024 → EReal) (w u : Fin 1024 → EReal) (hl : ∀ j, l j = 0) (hu : ∀ j, u j = 0) :
    (∑ j, h j * w j) + ((∑ j, h j * u j) + ∑ j, l j * w j) = ∑ j, h j * w j := by
  simp only [hl, hu, mul_zero, zero_mul, Finset.sum_const_zero, add_zero]

/-- The arrays of a memory that the claim takes to be finite are. -/
abbrev Fin5 (c : Dev nD) : Prop :=
  FiniteInputs (m ((c : Thread nD τ).loc main_arg0)) (m ((c : Thread nD τ).loc main_arg1)) (m ((c : Thread nD τ).loc main_arg2)) (m ((c : Thread nD τ).loc main_arg3)) (m ((c : Thread nD τ).loc main_arg4))

theorem zi (c : Dev nD) (hf : Fin5 m c) (t : Fin cfg0.N) (r : Fin 256) (R : Fin 17408) (hR : R.val = t.val * 256 + r.val) (i : Fin 64) :
    (k0_pay11 (F := Ideal) (k0_pay6 (iblk m c 0 t) (iblk m c 3 t) (iblk m c 2 t) (iblk m c 1 t)) (k0_pay7 (iblk m c 0 t) (iblk m c 3 t) (iblk m c 2 t) (iblk m c 1 t)) (iblk m c 5 t)
        (k0_pay10 (iblk m c 0 t) (iblk m c 3 t) (iblk m c 2 t) (iblk m c 1 t) (iblk m c 5 t)) (iblk m c 6 t) (ix2 r ⟨1024 + i.val, by omega⟩) : EReal)
      = PROJ (m ((c : Thread nD τ).loc main_arg0)) (m ((c : Thread nD τ).loc main_arg1)) (m ((c : Thread nD τ).loc main_arg2)) (m ((c : Thread nD τ).loc main_arg3)) (m ((c : Thread nD τ).loc main_arg4)) (ix2 R ⟨1536 + i.val, by omega⟩) := by
  rw [pay11_at, pay10_at]
  refine (split_sum _ _ _ _ (fun j => ?_) (fun j => blk6 m c t j i (hf.w j i))).trans (Eq.trans ?_ (proj_at _ _ _ _ _ R _).symm)
  · refine (pay7_at _ _ _ _ r j).trans ?_
    rw [hid m c t r R hR j]
    exact (norm_fine _ _ _ _ _ hf R j).sub_self
  · exact Finset.sum_congr rfl fun j _ => congrArg₂ (· * · : EReal → EReal → EReal) (hid m c t r R hR j) (blk5 m c t j i)

/-- The rotated keys of the indexer, of the arrays of a memory. -/
def RI (c : Dev nD) : FVec Ideal S17408x64 .f32 := IROPE (IKEYS (PROJ (m ((c : Thread nD τ).loc main_arg0)) (m ((c : Thread nD τ).loc main_arg1)) (m ((c : Thread nD τ).loc main_arg2)) (m ((c : Thread nD τ).loc main_arg3)) (m ((c : Thread nD τ).loc main_arg4)))) IANG

set_option maxHeartbeats 1600000 in
theorem final21 (c : Dev nD) (hf : Fin5 m c) : (dats m 0 c).arrAt 21 (cfgs 0).N = RI m c := by
  refine (dats m 0 c).arrAt_eq_of_covers 21 _ (by decide +kernel) fun t _ y => ?_
  blk_simp
  rw [after0_21]
  have ht := t_lt t
  obtain ⟨r, d, rfl⟩ : ∃ (r : Fin 256) (d : Fin 64), y = ix2 r d := ⟨y 0, y 1, eq_ix2 y⟩
  have he : ((View.whole main_v75_6).slice (win0_21.rect t)).emb (ix2 r d) = (ix2 (⟨t.val * 256 + r.val, by omega⟩ : Fin 17408) d : S17408x64.Idx) := by
    blk_ext [idx5 t]
  rw [he]
  refine (out21_at _ _ _ _ _ _ _ _ _ _ _ _ _ _ _ r d).trans (Eq.trans ?_ (irope_at _ _ _ d).symm)
  refine (iroll_eq _ _ _ _ (fun i => KIANG (ix2 (tab t r) i)) d (blk12 m c t r d) (blk13 m c t r d) (blk14 m c t r d)).trans ?_
  refine irot_congr (fun i => ?_) (fun i => iang_tab t r _ rfl i) d
  exact (zi m c hf t r _ rfl i).trans (ikeys_at _ _ i).symm

theorem post21 (r : PUnit × MemSt nD τ sig (Elt Ideal)) (h : Pipeline.FramePost cfgs (dats m) 0 (V m) r) (c : Dev nD) :
    r.2.mem ((c : Thread nD τ).loc main_v75_6) = (dats m 0 c).arrAt 21 (cfgs 0).N :=
  (h c).1 21

set_option maxHeartbeats 4000000 in
/-- The call ends with them, and with its arguments as launched. -/
theorem run21 (ρ : Dev nD → PrngReg) (hf : ∀ c, Fin5 m c) : θ_run defs (onTc (τ := τ) (main (F := Ideal))) ⟨m, fun _ => 0, ρ⟩ fun r => ∀ c : Dev nD,
    r.2.mem ((c : Thread nD τ).loc main_v75_6) = RI m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6) :=
  (θ_run defs _ _).mono (fun r h c => ⟨(post21 m r h c).trans (final21 m c (hf c)),
    kept0 m r h c,
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c)⟩)
    (run_main m ρ)

end Cert.Proof.Inp

end
-- ==== Proof.IdxPre.lean ====
module

public import proofs.«01_k».proof.Defs
public import proofs.«01_k».proof.Proof.InpFinite
public import Idealize.ShloMosaic.Lib.Pipeline.ValueKit
public import Idealize.ShloMosaic.Lib.Claim

@[expose] public section

set_option maxRecDepth 16384

noncomputable section

namespace Cert.Proof.Inp

open Idealize.ShloMosaic Idealize.ShloMosaic.TcCoe Idealize.SL.Sem Cert.Pre_finite_inputs

theorem pre_facts5 : Cert.Pre_finite_inputs.Facts := ⟨by decide, by decide, by decide, by decide, by decide, by decide, by decide, by decide, by decide⟩

/-- The predicate's flag of a number: it lies between the infinities. -/
def flag (x : EReal) : BitVec 1 := IntOp.andi (Ideal.cmp .ogt x (Ideal.ofBits FTy.f32 4286578688#32)) (Ideal.cmp .olt x (Ideal.ofBits FTy.f32 2139095040#32))

theorem flag_fine (x : EReal) (hx : flag x = 1#1) : Fine x := by
  have top : Ideal.ofBits FTy.f32 2139095040#32 = ⊤ := by simp [Ideal.ofBits, Ideal.ieee]
  have bot : Ideal.ofBits FTy.f32 4286578688#32 = ⊥ := by simp [Ideal.ofBits, Ideal.ieee]
  unfold flag at hx
  rw [bot, top] at hx
  refine fine_of ⟨?_, ?_⟩
  · rintro rfl; simp [Ideal.cmp, IntOp.andi] at hx
  · rintro rfl; simp [Ideal.cmp, IntOp.andi] at hx

theorem fn_x [Cert.Pre_finite_inputs.Facts] (A0 : FVec Ideal S2176x8x1024 .f32) (A1 A2 : FVec Ideal S130x1024 .f32) (A3 : FVec Ideal S1024 .f32) (A4 : FVec Ideal S1024x3664 .f32) (A5 A6 : FVec Ideal S128 .f32)
    (g : Fin 2176) (s : Fin 8) (i : Fin 1024) :
    Cert.Pre_finite_inputs.fn (F := Ideal) A0 A1 A2 A3 A4 A5 A6 (ix1 ⟨(g.val * 8 + s.val) * 1024 + i.val, by omega⟩) = flag (A0 (ix3 g s i)) := by
  pointwise [Cert.Pre_finite_inputs.fn, Cert.Pre_finite_inputs.fn_part1]
  rw [dif_pos (by omega)]
  rfl

theorem fn_shift [Cert.Pre_finite_inputs.Facts] (A0 : FVec Ideal S2176x8x1024 .f32) (A1 A2 : FVec Ideal S130x1024 .f32) (A3 : FVec Ideal S1024 .f32) (A4 : FVec Ideal S1024x3664 .f32) (A5 A6 : FVec Ideal S128 .f32)
    (r : Fin 130) (i : Fin 1024) :
    Cert.Pre_finite_inputs.fn (F := Ideal) A0 A1 A2 A3 A4 A5 A6 (ix1 ⟨17825792 + (r.val * 1024 + i.val), by omega⟩) = flag (A1 (ix2 r i)) := by
  pointwise [Cert.Pre_finite_inputs.fn, Cert.Pre_finite_inputs.fn_part1]
  rw [dif_pos (by omega)]
  exact congrArg₂ (fun r i => flag (A1 (ix2 r i))) (Fin.ext (by dsimp only <;> omega)) (Fin.ext (by dsimp only <;> omega))

theorem fn_scale [Cert.Pre_finite_inputs.Facts] (A0 : FVec Ideal S2176x8x1024 .f32) (A1 A2 : FVec Ideal S130x1024 .f32) (A3 : FVec Ideal S1024 .f32) (A4 : FVec Ideal S1024x3664 .f32) (A5 A6 : FVec Ideal S128 .f32)
    (r : Fin 130) (i : Fin 1024) :
    Cert.Pre_finite_inputs.fn (F := Ideal) A0 A1 A2 A3 A4 A5 A6 (ix1 ⟨17958912 + (r.val * 1024 + i.val), by omega⟩) = flag (A2 (ix2 r i)) := by
  pointwise [Cert.Pre_finite_inputs.fn, Cert.Pre_finite_inputs.fn_part1]
  rw [dif_neg (by omega)]
  rw [dif_neg (by omega)]
  rw [dif_pos (by omega)]
  exact congrArg₂ (fun r i => flag (A2 (ix2 r i))) (Fin.ext (by dsimp only; omega)) (Fin.ext (by dsimp only; omega))

theorem fn_gain [Cert.Pre_finite_inputs.Facts] (A0 : FVec Ideal S2176x8x1024 .f32) (A1 A2 : FVec Ideal S130x1024 .f32) (A3 : FVec Ideal S1024 .f32) (A4 : FVec Ideal S1024x3664 .f32) (A5 A6 : FVec Ideal S128 .f32)
    (i : Fin 1024) :
    Cert.Pre_finite_inputs.fn (F := Ideal) A0 A1 A2 A3 A4 A5 A6 (ix1 ⟨18092032 + i.val, by omega⟩) = flag (A3 (ix1 i)) := by
  pointwise [Cert.Pre_finite_inputs.fn, Cert.Pre_finite_inputs.fn_part1]
  rw [dif_neg (by omega)]
  rw [dif_neg (by omega)]
  rw [dif_neg (by omega)]
  rw [dif_pos (by omega)]
  exact congrArg (fun i => flag (A3 (ix1 i))) (Fin.ext (by dsimp only; omega))

theorem fn_w [Cert.Pre_finite_inputs.Facts] (A0 : FVec Ideal S2176x8x1024 .f32) (A1 A2 : FVec Ideal S130x1024 .f32) (A3 : FVec Ideal S1024 .f32) (A4 : FVec Ideal S1024x3664 .f32) (A5 A6 : FVec Ideal S128 .f32)
    (j : Fin 1024) (i : Fin 64) :
    Cert.Pre_finite_inputs.fn (F := Ideal) A0 A1 A2 A3 A4 A5 A6 (ix1 ⟨18093056 + (j.val * 64 + i.val), by omega⟩) = flag (A4 (ix2 j ⟨1536 + i.val, by omega⟩)) := by
  pointwise [Cert.Pre_finite_inputs.fn, Cert.Pre_finite_inputs.fn_part1]
  rw [dif_neg (by omega)]
  rw [dif_neg (by omega)]
  rw [dif_neg (by omega)]
  rw [dif_neg (by omega)]
  exact congrArg₂ (fun j i => flag (A4 (ix2 j i))) (Fin.ext (by dsimp only; omega)) (Fin.ext (by dsimp only; omega))

/-- The precondition's predicate says of the arrays that each of their numbers is finite. -/
theorem inputs_of_pre [Cert.Pre_finite_inputs.Facts] (A0 : FVec Ideal S2176x8x1024 .f32) (A1 A2 : FVec Ideal S130x1024 .f32) (A3 : FVec Ideal S1024 .f32) (A4 : FVec Ideal S1024x3664 .f32) (A5 A6 : FVec Ideal S128 .f32)
    (h : Cert.Pre_finite_inputs.fn (F := Ideal) A0 A1 A2 A3 A4 A5 A6 = fun _ => 1#1) : FiniteInputs A0 A1 A2 A3 A4 where
  x g s i := flag_fine _ ((fn_x A0 A1 A2 A3 A4 A5 A6 g s i).symm.trans (congrFun h _))
  shift r i := flag_fine _ ((fn_shift A0 A1 A2 A3 A4 A5 A6 r i).symm.trans (congrFun h _))
  scale r i := flag_fine _ ((fn_scale A0 A1 A2 A3 A4 A5 A6 r i).symm.trans (congrFun h _))
  gain i := flag_fine _ ((fn_gain A0 A1 A2 A3 A4 A5 A6 i).symm.trans (congrFun h _))
  w j i := flag_fine _ ((fn_w A0 A1 A2 A3 A4 A5 A6 j i).symm.trans (congrFun h _))

end Cert.Proof.Inp

end
-- ==== Proof.InpSame.lean ====
module

public import proofs.«01_k».proof.Defs
public import proofs.«01_k».proof.Proof.InpFrame
public import proofs.«01_k».proof.Proof.Gen.Kernel5Ideal
public import Idealize.ShloMosaic.Lib.Claim

@[expose] public section

set_option maxRecDepth 65536
set_option maxHeartbeats 8000000

noncomputable section

namespace Cert.Proof.Inp

open Idealize.ShloMosaic Idealize.ShloMosaic.TcCoe Idealize.SL.Sem

/-- The two programs of the input projection name other results of the same call: their bodies, host operations and windows are equal. -/
theorem body_eq : Cert.Kernel5Ideal.defs₀ (F := Ideal) = Cert.Kernel4Ideal.defs₀ (F := Ideal) := by
  refine congrArg Defs.onTc (funext fun l => funext fun x => ?_)
  match l, x with
  | 0, (t, s) => rfl

theorem defs_eq : Cert.Kernel5Ideal.defs (F := Ideal) = Cert.Kernel4Ideal.defs (F := Ideal) :=
  congrArg (Pipeline.defs (Cert.Kernel4Ideal.pcfgs (F := Ideal))) body_eq

theorem main_eq : Cert.Kernel5Ideal.main (F := Ideal) = Cert.Kernel4Ideal.main (F := Ideal) := rfl

/-- What a run of the one leaves, a run of the other leaves. -/
theorem same (s : _) (post : _) (h : θ_run (Cert.Kernel4Ideal.defs (F := Ideal)) (onTc (τ := Cert.Kernel4Ideal.τ) (Cert.Kernel4Ideal.main (F := Ideal))) s post) :
    θ_run (Cert.Kernel5Ideal.defs (F := Ideal)) (onTc (τ := Cert.Kernel5Ideal.τ) (Cert.Kernel5Ideal.main (F := Ideal))) s post := by
  rw [defs_eq, main_eq]
  exact h

theorem frame_same : Cert.quiescent_Kernel5Ideal := fun m ρ _ => same _ _ (Cert.Kernel4Ideal.Gen.frame m ρ)

end Cert.Proof.Inp

end
-- ==== Proof.InpSameBits.lean ====
module

public import proofs.«01_k».proof.Defs
public import proofs.«01_k».proof.Proof.InpFrameBits
public import proofs.«01_k».proof.Proof.Gen.Kernel5
public import Idealize.ShloMosaic.Lib.Claim

@[expose] public section

set_option maxRecDepth 65536
set_option maxHeartbeats 8000000

noncomputable section

namespace Cert.Proof.Inp.Bits

open Idealize.ShloMosaic Idealize.ShloMosaic.TcCoe Idealize.SL.Sem

/-- The two programs of the input projection name other results of the same call: their bodies, host operations and windows are equal. -/
theorem body_eq : Cert.Kernel5.defs₀ (F := Bits) = Cert.Kernel4.defs₀ (F := Bits) := by
  refine congrArg Defs.onTc (funext fun l => funext fun x => ?_)
  match l, x with
  | 0, (t, s) => rfl

theorem defs_eq : Cert.Kernel5.defs (F := Bits) = Cert.Kernel4.defs (F := Bits) :=
  congrArg (Pipeline.defs (Cert.Kernel4.pcfgs (F := Bits))) body_eq

theorem main_eq : Cert.Kernel5.main (F := Bits) = Cert.Kernel4.main (F := Bits) := rfl

/-- What a run of the one leaves, a run of the other leaves. -/
theorem same (s : _) (post : _) (h : θ_run (Cert.Kernel4.defs (F := Bits)) (onTc (τ := Cert.Kernel4.τ) (Cert.Kernel4.main (F := Bits))) s post) :
    θ_run (Cert.Kernel5.defs (F := Bits)) (onTc (τ := Cert.Kernel5.τ) (Cert.Kernel5.main (F := Bits))) s post := by
  rw [defs_eq, main_eq]
  exact h

theorem frame_same : Cert.quiescent_Kernel5 := fun m ρ _ => same _ _ (Cert.Kernel4.Gen.frame m ρ)

end Cert.Proof.Inp.Bits

end
-- ==== Proof.IdxClaims.lean ====
module

public import proofs.«01_k».proof.Defs
public import proofs.«01_k».proof.Proof.IdxValue
public import proofs.«01_k».proof.Proof.IdxPre
public import proofs.«01_k».proof.Proof.InpSame
public import proofs.«01_k».proof.Proof.InpSameBits
public import Idealize.ShloMosaic.Lib.Claim

@[expose] public section

set_option maxRecDepth 16384

noncomputable section

namespace Cert.Proof.Inp

open Idealize.ShloMosaic Idealize.ShloMosaic.TcCoe Idealize.SL.Sem

theorem frame_ideal5_pre [Cert.Pre_finite_inputs.Facts] : Cert.quiescent_Kernel5Ideal_pre_finite_inputs := fun m ρ _ => frame_same m ρ trivial

theorem frame_reference5_pre [Cert.Pre_finite_inputs.Facts] : Cert.quiescent_Reference5Ideal_pre_finite_inputs := fun m ρ _ => frame_reference5 m ρ trivial

theorem algebraic5 [Cert.Pre_finite_inputs.Facts] : Cert.algebraic_Kernel5Ideal_Reference5Ideal_pre_finite_inputs := by
  intro m g m' g' hpre hagree
  refine ⟨RI m, same _ _ (run21 m g fun c => inputs_of_pre _ _ _ _ _ _ _ (hpre c)), ?_⟩
  refine (θ_run _ _ _).mono (fun r h c => ?_) (Cert.Reference5Ideal.Value.run m' g')
  obtain ⟨h0, hf⟩ := h c
  obtain ⟨a0, a1, a2, a3, a4, a5, a6⟩ := hagree c
  refine ⟨h0.trans ?_, hf⟩
  show IROPE (IKEYS (PROJ (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)))) IANG = _
  rw [RI, a0, a1, a2, a3, a4]

end Cert.Proof.Inp

end
-- ==== Proof.DsaLoops.lean ====
/- The two loops of `Kernel`'s body that hold loops themselves. -/
module

public import proofs.«01_k».proof.Proof.Gen.Kernel.Loops
public import proofs.«01_k».proof.Proof.Gen.Kernel.Frame
public import proofs.«01_k».proof.Proof.Gen.Kernel.Skeleton

@[expose] public section

set_option maxRecDepth 16384

noncomputable section

namespace Cert.Proof.Dsa

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-- The search for a row's threshold, in the first selection: a trip of the outer loop (over the bits of the word) reads the scores scratch `arg9` by its two inner loops and writes nothing. -/
@[sl_loop] def loopInv_t5 (c : Dev nD) (i : grid0.Coords) (arg2 : Memref sig .tc .vmem S8x128x256 .bf16) (harg2 : arg2.IsWhole) (arg3 : Memref sig .tc .vmem S128x128 .f32) (harg3 : arg3.IsWhole) (arg4 : Memref sig .tc .vmem S128x512 .bf16) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S8192x256 .bf16) (harg7 : arg7.IsWhole) (arg8 : Memref sig .tc .vmem S128x512 .bf16) (harg8 : arg8.IsWhole) (arg9 : Memref sig .tc .vmem S128x8192 .f32) (harg9 : arg9.IsWhole) (arg10 : Memref sig .tc .vmem S8x128x128 .f32) (harg10 : arg10.IsWhole) (arg11 : Memref sig .tc .vmem S128x1536 .f32) (harg11 : arg11.IsWhole) (arg12 : Memref sig .tc .vmem S1536x128 .f32) (harg12 : arg12.IsWhole) (arg13 : Memref sig .tc .vmem S4x256x128 .f32) (harg13 : arg13.IsWhole) (arg14 : Memref sig .tc .vmem S4x256x256 .f32) (harg14 : arg14.IsWhole) (v20 : BitVec 32) (X9 : BufTy.Contents (Elt F) arg9.view.ty) (init : IVec S128x1 32) :
    LoopInvTy_k0_t5 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 v20 init where
  inv := fun _ _ => arg9.view.loc (c : Thread nD τ) ↦[arg9.view.set]{fullShare} X9
  step := fun k acc => by
    unfold k0_t5_body
    iintro H9
    sl_exec
    sl_step
    sl_close

/-- The search for a row's last kept position, in the tie-breaking selection: a trip of the outer loop reads the scores scratch `arg9` by its two inner loops and writes nothing. -/
@[sl_loop] def loopInv_t10 (c : Dev nD) (i : grid0.Coords) (arg2 : Memref sig .tc .vmem S8x128x256 .bf16) (harg2 : arg2.IsWhole) (arg3 : Memref sig .tc .vmem S128x128 .f32) (harg3 : arg3.IsWhole) (arg4 : Memref sig .tc .vmem S128x512 .bf16) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S8192x256 .bf16) (harg7 : arg7.IsWhole) (arg8 : Memref sig .tc .vmem S128x512 .bf16) (harg8 : arg8.IsWhole) (arg9 : Memref sig .tc .vmem S128x8192 .f32) (harg9 : arg9.IsWhole) (arg10 : Memref sig .tc .vmem S8x128x128 .f32) (harg10 : arg10.IsWhole) (arg11 : Memref sig .tc .vmem S128x1536 .f32) (harg11 : arg11.IsWhole) (arg12 : Memref sig .tc .vmem S1536x128 .f32) (harg12 : arg12.IsWhole) (arg13 : Memref sig .tc .vmem S4x256x128 .f32) (harg13 : arg13.IsWhole) (arg14 : Memref sig .tc .vmem S4x256x256 .f32) (harg14 : arg14.IsWhole) (v20 : BitVec 32) (v77 : BitVec 1) (v215 : FVec F S1x128 .f32) (v2380 : IVec S1x128 1) (v2383 : FVec F S1x128 .f32) (v2522 : FVec F S128x128 .f32) (v2537 : FVec F S128x1 .f32) (v2550 : IVec S128x128 32) (X9 : BufTy.Contents (Elt F) arg9.view.ty) (init : IVec S128x1 32) :
    LoopInvTy_k0_t10 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 v20 v77 v215 v2380 v2383 v2522 v2537 v2550 init where
  inv := fun _ _ => arg9.view.loc (c : Thread nD τ) ↦[arg9.view.set]{fullShare} X9
  step := fun k acc => by
    unfold k0_t10_body
    iintro H9
    sl_exec
    sl_step
    sl_close

end Cert.Proof.Dsa

end
-- ==== Proof.DsaSelect.lean ====
module

public import proofs.«01_k».proof.Proof.Gen.Kernel.Loops
public import proofs.«01_k».proof.Proof.Gen.Kernel.Frame
public import proofs.«01_k».proof.Proof.Gen.Kernel.Skeleton
public import proofs.«01_k».proof.Proof.DsaLoops

@[expose] public section

set_option maxRecDepth 16384

noncomputable section

namespace Cert.Proof.Dsa

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-- The part that holds the two conditionals of the selection, run with the outer one taken or not and, inside, the
    inner one taken or not: it leaves the scores and the two running sums at some contents, the query block as it was. -/
theorem part170 (c : Dev nD) (i : grid0.Coords) (arg2 : Memref sig .tc .vmem S8x128x256 .bf16) (harg2 : arg2.IsWhole) (arg3 : Memref sig .tc .vmem S128x128 .f32) (harg3 : arg3.IsWhole) (arg4 : Memref sig .tc .vmem S128x512 .bf16) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S8192x256 .bf16) (harg7 : arg7.IsWhole) (arg8 : Memref sig .tc .vmem S128x512 .bf16) (harg8 : arg8.IsWhole) (arg9 : Memref sig .tc .vmem S128x8192 .f32) (harg9 : arg9.IsWhole) (arg10 : Memref sig .tc .vmem S8x128x128 .f32) (harg10 : arg10.IsWhole) (arg11 : Memref sig .tc .vmem S128x1536 .f32) (harg11 : arg11.IsWhole) (arg12 : Memref sig .tc .vmem S1536x128 .f32) (harg12 : arg12.IsWhole) (arg13 : Memref sig .tc .vmem S4x256x128 .f32) (harg13 : arg13.IsWhole) (arg14 : Memref sig .tc .vmem S4x256x256 .f32) (harg14 : arg14.IsWhole) (v20 : BitVec 32) (v77 : BitVec 1) (v215 : FVec F S1x128 .f32) (v2380 : IVec S1x128 1) (v2383 : FVec F S1x128 .f32) (f9 : BufTy.Contents (Elt F) arg9.view.ty) (f4 : BufTy.Contents (Elt F) arg4.view.ty) (f13 : BufTy.Contents (Elt F) arg13.view.ty) (f14 : BufTy.Contents (Elt F) arg14.view.ty) :
    (iprop((arg9.view.loc (c : Thread nD τ) ↦[arg9.view.set]{fullShare} f9) ∗ (arg4.view.loc (c : Thread nD τ) ↦[arg4.view.set]{fullShare} f4) ∗ (arg13.view.loc (c : Thread nD τ) ↦[arg13.view.set]{fullShare} f13) ∗ (arg14.view.loc (c : Thread nD τ) ↦[arg14.view.set]{fullShare} f14)) : sProp 𝕄)
    ⊢ wp frame (wpE (defs₀ (F := F)) Variants.none (c : Thread nD τ) none) Set.univ
        (k0_part170 (F := F) i arg2 harg2 arg3 harg3 arg4 harg4 arg5 harg5 arg6 harg6 arg7 harg7 arg8 harg8 arg9 harg9 arg10 harg10 arg11 harg11 arg12 harg12 arg13 harg13 arg14 harg14 v20 v77 v215 v2380 v2383)
        (fun _ => iprop((∃ f, arg9.view.loc (c : Thread nD τ) ↦[arg9.view.set]{fullShare} f) ∗ (arg4.view.loc (c : Thread nD τ) ↦[arg4.view.set]{fullShare} f4) ∗ (∃ f, arg13.view.loc (c : Thread nD τ) ↦[arg13.view.set]{fullShare} f) ∗ (∃ f, arg14.view.loc (c : Thread nD τ) ↦[arg14.view.set]{fullShare} f))) := by
  simp only [k0_part170_eq_skeleton]; unfold k0_part170_skel
  iintro ⟨H9, H4, H13, H14⟩
  by_cases hc : Scalar.cmpi .ne (Scalar.extui (Scalar.ori (Scalar.cmpf .ogt (k0_pay1318 v2383) (Scalar.ofBits .f32 0x00000000#32)) (Scalar.andi (Scalar.cmpf .ogt (k0_pay1319 (F := F) v2380) (Scalar.ofBits .f32 0x00000000#32)) v77))) 0#32 = 1#1
  · sl_exec (disch := sl_exact hc)
    split
    · sl_exec
      sl_step
      sl_close
    · sl_exec
      sl_step
      sl_close
  · sl_exec (disch := sl_exact hc)
    sl_step
    sl_close

end Cert.Proof.Dsa

end
-- ==== Proof.DsaChk.lean ====
/- The side condition of `Kernel`'s body, at every word. -/
module

public import proofs.«01_k».proof.Proof.Gen.Kernel.Loops
public import proofs.«01_k».proof.Proof.Gen.Kernel.Frame
public import proofs.«01_k».proof.Proof.Gen.Kernel.Skeleton

@[expose] public section

set_option maxRecDepth 16384

noncomputable section

namespace Cert.Proof.Dsa

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-- The loops' common bound: the second starts where the first ends, at `32`. -/
theorem bound32 (w : BitVec 32) : Scalar.addi w (Scalar.muli (Scalar.divsi (Scalar.subi 32#32 w) 1#32) 1#32) = 32#32 := by
  have hdiv : ∀ x : BitVec 32, Scalar.divsi x 1#32 = x := fun x => by
    unfold Scalar.divsi IntOp.divsi
    rw [if_neg (fun h : IntOp.SDivCorner x 1#32 => by
      rcases h with h | h
      · exact absurd h (by decide)
      · exact absurd h.2 (by decide))]
    exact BitVec.sdiv_one
  rw [hdiv]
  simp only [Scalar.addi, Scalar.muli, Scalar.subi, IntOp.addi, IntOp.muli, IntOp.subi]
  rw [BitVec.mul_one]
  rw [BitVec.add_comm, BitVec.sub_add_cancel]

/-- A loop of step one to `32` from a bound at most `32`. -/
theorem loop_ok (lb : BitVec 32) (h : lb.toInt ≤ 32) : Scf.OK lb 32#32 1#32 := by
  have h1 : (1#32 : BitVec 32).toInt = 1 := by decide
  have h32 : (32#32 : BitVec 32).toInt = 32 := by decide
  refine ⟨by rw [h1]; decide, ?_⟩
  unfold Scf.trips
  rw [h1, h32]
  have : (((32 - lb.toInt + 1 - 1) / 1).toNat : ℤ) = 32 - lb.toInt := by
    rw [Int.ediv_one, Int.toNat_of_nonneg (by omega)]; omega
  rw [this, Int.mul_one]
  have hp : (2 : ℤ) ^ (32 - 1) = 2147483648 := by decide
  rw [hp]
  omega

/-- The side condition the attention part assumes of its two chunk loops holds at every word: the second loop starts
    where the first ends, at `32`, and the first starts at a word clamped to at most `31`. -/
theorem chk1_all (v : BitVec 32) : k0_chk1 v := by
  have hmin : (Scalar.minsi v 31#32).toInt ≤ 32 := by
    have h31 : (31#32 : BitVec 32).toInt = 31 := by decide
    unfold Scalar.minsi IntOp.minsi
    split
    · rename_i h; simp only [BitVec.slt, BitVec.sle, decide_eq_true_eq] at h; omega
    · rw [h31]; omega
  refine ⟨?_, ?_⟩
  · show Scf.OK (Scalar.minsi v 31#32) (Scalar.addi _ (Scalar.muli (Scalar.divsi (Scalar.subi 32#32 _) 1#32) 1#32)) 1#32
    rw [bound32]; exact loop_ok _ hmin
  · show Scf.OK (Scalar.addi _ (Scalar.muli (Scalar.divsi (Scalar.subi 32#32 _) 1#32) 1#32)) (Scalar.addi _ _) 1#32
    rw [bound32]
    rw [show Scalar.addi (Scalar.minsi v 31#32) (Scalar.subi 32#32 (Scalar.minsi v 31#32)) = 32#32 from by
      simp only [Scalar.addi, Scalar.subi, IntOp.addi, IntOp.subi]; rw [BitVec.add_comm, BitVec.sub_add_cancel]]
    exact loop_ok _ (by decide)

end Cert.Proof.Dsa

end
-- ==== Proof.DsaBody.lean ====
/- `Kernel`'s body at any point of its grid. -/
module

public import proofs.«01_k».proof.Proof.Gen.Kernel.Loops
public import proofs.«01_k».proof.Proof.Gen.Kernel.Frame
public import proofs.«01_k».proof.Proof.Gen.Kernel.Skeleton
public import proofs.«01_k».proof.Proof.DsaSelect
public import proofs.«01_k».proof.Proof.DsaChk

@[expose] public section

set_option maxRecDepth 16384

noncomputable section

namespace Cert.Proof.Dsa

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 40000000 in
/-- The body on whole staging and scratch buffers, each at some contents: it runs to the continuation with each at some
    contents again. -/
theorem body_run (c : Dev nD) (i : grid0.Coords) (arg2 : Memref sig .tc .vmem S8x128x256 .bf16) (harg2 : arg2.IsWhole) (arg3 : Memref sig .tc .vmem S128x128 .f32) (harg3 : arg3.IsWhole) (arg4 : Memref sig .tc .vmem S128x512 .bf16) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S8192x256 .bf16) (harg7 : arg7.IsWhole) (arg8 : Memref sig .tc .vmem S128x512 .bf16) (harg8 : arg8.IsWhole) (arg9 : Memref sig .tc .vmem S128x8192 .f32) (harg9 : arg9.IsWhole) (arg10 : Memref sig .tc .vmem S8x128x128 .f32) (harg10 : arg10.IsWhole) (arg11 : Memref sig .tc .vmem S128x1536 .f32) (harg11 : arg11.IsWhole) (arg12 : Memref sig .tc .vmem S1536x128 .f32) (harg12 : arg12.IsWhole) (arg13 : Memref sig .tc .vmem S4x256x128 .f32) (harg13 : arg13.IsWhole) (arg14 : Memref sig .tc .vmem S4x256x256 .f32) (harg14 : arg14.IsWhole) (K : PUnit → sProp 𝕄) :
    (iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩)) : sProp 𝕄)
    ⊢ wp frame (wpE (defs₀ (F := F)) Variants.none (c : Thread nD τ) none) Set.univ
        (cc0_dsa_prompt (F := F) i arg2 harg2 arg3 harg3 arg4 harg4 arg5 harg5 arg6 harg6 arg7 harg7 arg8 harg8 arg9 harg9 arg10 harg10 arg11 harg11 arg12 harg12 arg13 harg13 arg14 harg14) K := by
  have hcut : ∀  (v20 : BitVec 32) (v77 : BitVec 1) (v215 : FVec F S1x128 .f32) (v2380 : IVec S1x128 1) (v2383 : FVec F S1x128 .f32) (f9 : BufTy.Contents (Elt F) arg9.view.ty) (f4 : BufTy.Contents (Elt F) arg4.view.ty) (f13 : BufTy.Contents (Elt F) arg13.view.ty) (f14 : BufTy.Contents (Elt F) arg14.view.ty),
      (iprop((arg9.view.loc (c : Thread nD τ) ↦[arg9.view.set]{fullShare} f9) ∗ (arg4.view.loc (c : Thread nD τ) ↦[arg4.view.set]{fullShare} f4) ∗ (arg13.view.loc (c : Thread nD τ) ↦[arg13.view.set]{fullShare} f13) ∗ (arg14.view.loc (c : Thread nD τ) ↦[arg14.view.set]{fullShare} f14)) : sProp 𝕄)
      ⊢ wp frame (wpE (defs₀ (F := F)) Variants.none (c : Thread nD τ) none) Set.univ
        (k0_part170 (F := F) i arg2 harg2 arg3 harg3 arg4 harg4 arg5 harg5 arg6 harg6 arg7 harg7 arg8 harg8 arg9 harg9 arg10 harg10 arg11 harg11 arg12 harg12 arg13 harg13 arg14 harg14 v20 v77 v215 v2380 v2383)
        (fun _ => iprop((∃ f, arg9.view.loc (c : Thread nD τ) ↦[arg9.view.set]{fullShare} f) ∗ (arg4.view.loc (c : Thread nD τ) ↦[arg4.view.set]{fullShare} f4) ∗ (∃ f, arg13.view.loc (c : Thread nD τ) ↦[arg13.view.set]{fullShare} f) ∗ (∃ f, arg14.view.loc (c : Thread nD τ) ↦[arg14.view.set]{fullShare} f))) := fun v20 v77 v215 v2380 v2383 f9 f4 f13 f14 =>
    part170 c i arg2 harg2 arg3 harg3 arg4 harg4 arg5 harg5 arg6 harg6 arg7 harg7 arg8 harg8 arg9 harg9 arg10 harg10 arg11 harg11 arg12 harg12 arg13 harg13 arg14 harg14 v20 v77 v215 v2380 v2383 f9 f4 f13 f14
  simp only [cc0_dsa_prompt_eq_skeleton]; unfold cc0_dsa_prompt_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part171_eq_skeleton, k0_part172_eq_skeleton, k0_part173_eq_skeleton]
  unfold owns
  iintro ⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  sl_exec (disch := exact chk1_all _)
  sl_step
  iapply Hk
  isplitl [H2]
  · iexists _; iexists _; isplitr
    swap
    · iexact H2
    · ipureintro; rfl
  isplitl [H3]
  · iexists _; iexists _; isplitr
    swap
    · iexact H3
    · ipureintro; rfl
  isplitl [Hk0_part170_1]
  · iexists _; iexists _; isplitr
    swap
    · iexact Hk0_part170_1
    · ipureintro; rfl
  isplitl [H5]
  · iexists _; iexists _; isplitr
    swap
    · iexact H5
    · ipureintro; rfl
  isplitl [H6]
  · iexists _; iexists _; isplitr
    swap
    · iexact H6
    · ipureintro; rfl
  isplitl [H7]
  · iexists _; iexists _; isplitr
    swap
    · iexact H7
    · ipureintro; rfl
  isplitl [H8]
  · iexists _; iexists _; isplitr
    swap
    · iexact H8
    · ipureintro; rfl
  isplitl [Hk0_part170_0]
  · iexists _; iexists _; isplitr
    swap
    · iexact Hk0_part170_0
    · ipureintro; rfl
  isplitl [H10]
  · iexists _; iexists _; isplitr
    swap
    · iexact H10
    · ipureintro; rfl
  isplitl [H11]
  · iexists _; iexists _; isplitr
    swap
    · iexact H11
    · ipureintro; rfl
  isplitl [H12]
  · iexists _; iexists _; isplitr
    swap
    · iexact H12
    · ipureintro; rfl
  isplitl [Hk0_part170_2]
  · iexists _; iexists _; isplitr
    swap
    · iexact Hk0_part170_2
    · ipureintro; rfl
  iexists _; iexists _; isplitr
  swap
  · iexact Hk0_part170_3
  · ipureintro; rfl

end Cert.Proof.Dsa

end
-- ==== Proof.DsaFrame.lean ====
/- The frame of `Kernel`. -/
module

public import proofs.«01_k».proof.Proof.Gen.Kernel.Loops
public import proofs.«01_k».proof.Proof.Gen.Kernel.Frame
public import proofs.«01_k».proof.Proof.Gen.Kernel.Skeleton
public import proofs.«01_k».proof.Proof.DsaBody

@[expose] public section

set_option maxRecDepth 16384

noncomputable section

namespace Cert.Proof.Dsa

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-- What the launch hands the region, scratch by scratch. -/
theorem phi_eq (c : Dev nD) :
    (Pipeline.ΦA spec0 c : sProp 𝕄) = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ (∃ r, prngReg c r)) := by
  unfold Pipeline.ΦA; rw [scopedRest0_eq]; simp only [owns_whole]; try rfl

variable (m : (ℓ : Loc nD τ sig) → Buf (Elt F) ℓ) (ρ : Dev nD → PrngReg)

/-- No window's staging contents are named: the frame says only that the argument arrays end as launched. -/
def forgets : Fin 7 → Bool := fun _ => true

/-- The proof data: the arrays as the region finds them, nothing named of the staging buffers. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem sound (c : Dev nD) (t : Fin cfg0.N) :
    (iprop((dats m 0 c).Φ t.castSucc ∗ (dats m 0 c).owesAt () t.castSucc ∗ (∃ d, owns (c : Thread nD τ) ((cfg0.win 0).stage (cfg0.slots t 0)) fullShare d) ∗ (∃ d, owns (c : Thread nD τ) ((cfg0.win 1).stage (cfg0.slots t 1)) fullShare d) ∗ (∃ d, owns (c : Thread nD τ) ((cfg0.win 2).stage (cfg0.slots t 2)) fullShare d) ∗ (∃ d, owns (c : Thread nD τ) ((cfg0.win 3).stage (cfg0.slots t 3)) fullShare d) ∗ (∃ d, owns (c : Thread nD τ) ((cfg0.win 4).stage (cfg0.slots t 4)) fullShare d) ∗ (∃ d, owns (c : Thread nD τ) ((cfg0.win 5).stage (cfg0.slots t 5)) fullShare d) ∗ (∃ d, owns (c : Thread nD τ) ((cfg0.win 6).stage (cfg0.slots t 6)) fullShare d)) : sProp 𝕄)
    ⊢ wp frame (wpE (defs₀ (F := F)) Variants.none (c : Thread nD τ) none) Set.univ (bodyAt0 t)
        (fun _ => iprop((dats m 0 c).Φ t.succ ∗ (dats m 0 c).owesAt () t.succ ∗ (∃ d, owns (c : Thread nD τ) ((cfg0.win 0).stage (cfg0.slots t 0)) fullShare d) ∗ (∃ d, owns (c : Thread nD τ) ((cfg0.win 1).stage (cfg0.slots t 1)) fullShare d) ∗ (∃ d, owns (c : Thread nD τ) ((cfg0.win 2).stage (cfg0.slots t 2)) fullShare d) ∗ (∃ d, owns (c : Thread nD τ) ((cfg0.win 3).stage (cfg0.slots t 3)) fullShare d) ∗ (∃ d, owns (c : Thread nD τ) ((cfg0.win 4).stage (cfg0.slots t 4)) fullShare d) ∗ (∃ d, owns (c : Thread nD τ) ((cfg0.win 5).stage (cfg0.slots t 5)) fullShare d) ∗ (∃ d, owns (c : Thread nD τ) ((cfg0.win 6).stage (cfg0.slots t 6)) fullShare d))) := by
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, phi_eq]
  unfold bodyAt0
  iintro ⟨⟨⟨S0, S1, S2, S3, S4, S5⟩, Hg⟩, Ho, H0, H1, H2, H3, H4, H5, H6⟩
  iapply (body_run c (grid0.coords t) _ _ _ _ _ _ _ _ _ _ _ _ _ _ _ _ _ _ _ _ _ _ _ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, S0, S1, S2, S3, S4, S5⟩
  isplitl [S0 S1 S2 S3 S4 S5 Hg]
  · isplitl [S0 S1 S2 S3 S4 S5]
    · isplitl [S0]; · iexact S0
      isplitl [S1]; · iexact S1
      isplitl [S2]; · iexact S2
      isplitl [S3]; · iexact S3
      isplitl [S4]; · iexact S4
      iexact S5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets := fun t => by
  rw [bigSep_W0, bigSep_W0, defs₀_row]
  exact triple_restated (sound m c t) rfl .rfl fun _ => .rfl

set_option backward.isDefEq.respectTransparency.types false in
set_option maxHeartbeats 800000 in
/-- Every run of `@main` ends, the argument arrays unchanged and every counter at zero. -/
theorem run_main : θ_run defs (onTc (τ := τ) (main (F := F))) (s₀ m ρ)
    (fun r => (Pipeline.RDat.FramePost (cfgs 0) (fun c => (dats m 0 c).toRForget forgets) (V m)) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

/-- The frame of `Kernel`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨h.1.arr_in c 0 rfl, h.1.arr_in c 1 rfl, h.1.arr_in c 2 rfl, h.1.arr_in c 3 rfl, h.1.arr_in c 4 rfl, h.1.arr_in c 5 rfl⟩, h.2⟩)
    (run_main m ρ)

end Cert.Proof.Dsa

end
-- ==== Proof.MoeTop.lean ====
module

public import Idealize.ShloMosaic.PureOps
public import Idealize.ShloMosaic.PureOps.Ideal.Laws
public import Idealize.ShloMosaic.Lib.SortPrefix

@[expose] public section

noncomputable section

namespace Cert.Proof.Moe

open Idealize.ShloMosaic

/-- `i` and `j` are the positions of the greatest and of the second greatest of a row of eight, the lower position
    first among equals. -/
structure Top (L : Fin 8 → EReal) (i j : Fin 8) : Prop where
  ne : j ≠ i
  le_i : ∀ k, L k ≤ L i
  lt_i : ∀ k, k < i → L k < L i
  le_j : ∀ k, k ≠ i → L k ≤ L j
  lt_j : ∀ k, k ≠ i → k < j → L k < L j

/-- The softmax of the two greatest, at their positions: expert `e`'s gate. -/
def gate (L : Fin 8 → EReal) (i j e : Fin 8) : EReal :=
  (if e = i then Ideal.div 1 (1 + Ideal.exp (L j - L i)) else 0)
    + if e = j then Ideal.div (Ideal.exp (L j - L i)) (1 + Ideal.exp (L j - L i)) else 0

/-- A nonempty set of positions has a first greatest one. -/
theorem exists_first (L : Fin 8 → EReal) (S : Finset (Fin 8)) (hS : S.Nonempty) :
    ∃ i ∈ S, (∀ k ∈ S, L k ≤ L i) ∧ ∀ k ∈ S, k < i → L k < L i := by
  obtain ⟨a, ha, hmax⟩ := Finset.exists_max_image S L hS
  have hne : (S.filter fun k => L k = L a).Nonempty := ⟨a, Finset.mem_filter.mpr ⟨ha, rfl⟩⟩
  have hm := Finset.min'_mem _ hne
  rw [Finset.mem_filter] at hm
  refine ⟨_, hm.1, fun k hk => ?_, fun k hk hlt => ?_⟩
  · rw [hm.2]; exact hmax k hk
  · rw [hm.2]
    refine lt_of_le_of_ne (hmax k hk) fun e => ?_
    exact absurd (Finset.min'_le _ k (Finset.mem_filter.mpr ⟨hk, e⟩)) (not_le.mpr hlt)

/-- Every row has its two greatest. -/
theorem exists_top (L : Fin 8 → EReal) : ∃ i j, Top L i j := by
  obtain ⟨i, -, h1, h2⟩ := exists_first L Finset.univ ⟨0, Finset.mem_univ _⟩
  obtain ⟨j, hj, h3, h4⟩ := exists_first L (Finset.univ.erase i)
    (Finset.card_pos.mp (by rw [Finset.card_erase_of_mem (Finset.mem_univ _), Finset.card_univ, Fintype.card_fin]; decide))
  exact ⟨i, j, (Finset.mem_erase.mp hj).1, fun k => h1 k (Finset.mem_univ _), fun k => h2 k (Finset.mem_univ _),
    fun k hk => h3 k (Finset.mem_erase.mpr ⟨hk, Finset.mem_univ _⟩), fun k hk => h4 k (Finset.mem_erase.mpr ⟨hk, Finset.mem_univ _⟩)⟩

/-- A stable sort of positions in order asks of its comparator only whether a later position goes before an earlier one. -/
theorem stableSort_congr_of_lt {n : Nat} (R R' : Fin n → Fin n → Bool) (h : ∀ a b, a < b → R b a = R' b a) :
    ∀ l : List (Fin n), l.Pairwise (· < ·) → stableSort R l = stableSort R' l
  | [], _ => rfl
  | a :: l, hl => by
    rw [List.pairwise_cons] at hl
    unfold stableSort
    rw [stableSort_congr_of_lt R R' h l hl.2]
    exact insertBefore_congr R R' a _ fun b hb => h a b (hl.1 b ((perm_stableSort R' l).mem_iff.mp hb))

theorem sortedFrom_congr_of_lt {n : Nat} (R R' : Fin n → Fin n → Bool) (h : ∀ a b, a < b → R b a = R' b a) :
    sortedFrom R = sortedFrom R' := by
  funext k
  unfold sortedFrom
  rw [List.get_of_eq (show sortPositions n R = sortPositions n R' from stableSort_congr_of_lt R R' h _ (List.pairwise_lt_finRange n))]
  rfl

/-- The descending sort of a row puts the two greatest first. -/
theorem sorted_top (L : Fin 8 → EReal) (i j : Fin 8) (h : Top L i j) (k : Fin 2) :
    sortedFrom (fun k k' : Fin 8 => Ideal.cmpTotal .gt (L k) (L k') == 1#1) (k.castLE (by decide)) = (![i, j] : Fin 2 → Fin 8) k := by
  have e : sortedFrom (fun k k' : Fin 8 => Ideal.cmpTotal .gt (L k) (L k') == 1#1)
      = sortedFrom fun k k' : Fin 8 => (fun a b : EReal => decide (b < a)) (L k) (L k') || (decide (L k = L k') && decide (k < k')) := by
    refine sortedFrom_congr_of_lt _ _ fun a b hab => ?_
    have : ¬ b < a := not_lt.mpr hab.le
    by_cases hl : L a < L b <;> simp [Ideal.cmpTotal, Ideal.cmp, CmpDirection.ordered, hl, this]
  rw [e]
  refine (StrictTotalBefore.of_key_then_position (fun a b : EReal => decide (b < a)) L (fun a => by simp)
    (fun a b c hab hbc => ?_) (fun a b => ?_)).sortedFrom_eq_of_prefix (by decide) _ ?_ ?_ ?_ k
  · simp only [decide_eq_true_eq] at *; exact hbc.trans hab
  · simp only [decide_eq_true_eq]; rcases lt_trichotomy a b with h | h | h
    · exact Or.inr (Or.inr h)
    · exact Or.inr (Or.inl h)
    · exact Or.inl h
  · intro a b hab
    fin_cases a <;> fin_cases b <;> first | rfl | exact absurd hab h.ne | exact absurd hab.symm h.ne
  · intro a b hab
    fin_cases a <;> fin_cases b <;> first | exact absurd hab (by decide) | skip
    show (decide (L i < L j) || (decide (L j = L i) && decide (j < i))) = false
    have h1 := not_lt.mpr (h.le_i j)
    by_cases hji : j < i
    · have := (h.lt_i j hji).ne
      simp [h1, this]
    · simp [h1, hji]
  · intro a p hp
    have hpi : p ≠ i := fun e => hp 0 e.symm
    have hpj : p ≠ j := fun e => hp 1 e.symm
    fin_cases a
    · show (decide (L i < L p) || (decide (L p = L i) && decide (p < i))) = false
      have h1 := not_lt.mpr (h.le_i p)
      by_cases hpi : p < i
      · have := (h.lt_i p hpi).ne
        simp [h1, this]
      · simp [h1, hpi]
    · show (decide (L j < L p) || (decide (L p = L j) && decide (p < j))) = false
      have h1 := not_lt.mpr (h.le_j p hpi)
      by_cases hpj : p < j
      · have := (h.lt_j p hpi hpj).ne
        simp [h1, this]
      · simp [h1, hpj]

end Cert.Proof.Moe

end
-- ==== Proof.MoeGateRef.lean ====
module

public import proofs.«01_k».proof.Proof.Gen.Reference2Ideal.Run
public import proofs.«01_k».proof.Proof.MoeTop
public import Idealize.ShloMosaic.Lib.Pipeline.ValueKit
public import Idealize.ShloMosaic.Lib.IdealHost

@[expose] public section

set_option maxRecDepth 16384

noncomputable section

namespace Cert.Proof.Moe

open Cert.Reference2Ideal Cert.Reference2Ideal.Gen Idealize.ShloMosaic Idealize.ShloMosaic.TcCoe Idealize.SL.Sem

/-- The two greatest logits of each row. -/
def VALS (X2 : FVec Ideal S17408x8 .f32) : FVec Ideal S17408x2 .f32 :=
  (Host.topK S17408x2 1 (FloatOps.cmpfTotal .gt) X2 sliceFits_S17408x8_S17408x2).1

/-- Their positions. -/
def INDS (X2 : FVec Ideal S17408x8 .f32) : IVec S17408x2 32 :=
  (Host.topK S17408x2 1 (FloatOps.cmpfTotal .gt) X2 sliceFits_S17408x8_S17408x2).2

/-- The exponentials of the two logits less the greater. -/
def EXPS (X2 : FVec Ideal S17408x8 .f32) : FVec Ideal S17408x2 .f32 :=
  Host.exp (subf (VALS X2) (broadcastInDim S17408x2 ![0, 1] bcast_S17408x1_S17408x2_0_1 (broadcastInDim S17408x1 ![0] bcast_S17408_S17408x1_0 (maximumf (broadcastInDim S17408 ![] bcast_S_S17408 (constant S_ .f32 0xFF800000#32)) (Host.reduce FloatOps.maximumf (VALS X2) (constant S_ .f32 0xFF800000#32) reducesTo_S17408x2_S17408_d1 h_S_)))))

/-- Each row's gate of each expert. -/
def GATE (X2 : FVec Ideal S17408x8 .f32) : FVec Ideal S17408x8 .f32 :=
  Host.reduceAdd (mulf (uitofp .f32 (cmpi .eq (broadcastInDim S17408x2x8 ![0, 1, 2] bcast_S17408x2x1_S17408x2x8_0_1_2 (broadcastInDim S17408x2x1 ![0, 1] bcast_S17408x2_S17408x2x1_0_1 (INDS X2))) (broadcastInDim S17408x2x8 ![0, 1, 2] bcast_S1x1x8_S17408x2x8_0_1_2 (iotaInDim S1x1x8 32 2)))) (broadcastInDim S17408x2x8 ![0, 1, 2] bcast_S17408x2x1_S17408x2x8_0_1_2 (broadcastInDim S17408x2x1 ![0, 1] bcast_S17408x2_S17408x2x1_0_1 (Host.divf (EXPS X2) (broadcastInDim S17408x2 ![0, 1] bcast_S17408x1_S17408x2_0_1 (broadcastInDim S17408x1 ![0] bcast_S17408_S17408x1_0 (Host.reduceAdd (EXPS X2) (constant S_ .f32 0x00000000#32) reducesTo_S17408x2_S17408_d1 h_S_))))))) (constant S_ .f32 0x00000000#32) reducesTo_S17408x2x8_S17408x8_d1 h_S_

theorem along_ix2 (r : Fin 17408) (q k : Fin 8) :
    (ix2 r q : S17408x8.Idx).along (1 : Fin 2) k = ix2 r k := by
  funext x; fin_cases x <;> rfl

/-- The descending sort's first two columns, of the rows and of any array carried along. -/
theorem topK_at {α : Type} (X2 : FVec Ideal S17408x8 .f32) (y : S17408x8.Idx → α) (r : Fin 17408) (i j : Fin 8)
    (h : Top (fun e => X2 (ix2 r e)) i j) (k : Fin 2) (q : Fin 8) (hq : q.val = k.val) :
    (Host.sort2 S17408x8 1 (fun l r => FloatOps.cmpfTotal (F := Ideal) (φ := .f32) CmpDirection.gt l.1 r.1) X2 y).1 (ix2 r q)
        = X2 (ix2 r ((![i, j] : Fin 2 → Fin 8) k)) ∧
      (Host.sort2 S17408x8 1 (fun l r => FloatOps.cmpfTotal (F := Ideal) (φ := .f32) CmpDirection.gt l.1 r.1) X2 y).2 (ix2 r q)
        = y (ix2 r ((![i, j] : Fin 2 → Fin 8) k)) := by
  rw [← sorted_top _ i j h k]
  have e : q = k.castLE (by decide : 2 ≤ 8) := Fin.ext hq
  subst e
  unfold Host.sort2
  rw [dif_pos (show 1 < S17408x8.rank by decide)]
  refine ⟨?_, ?_⟩
  · show X2 ((ix2 r (k.castLE (by decide : 2 ≤ 8)) : S17408x8.Idx).along (1 : Fin 2) (sortedFrom (fun p p' : Fin 8 =>
      Ideal.cmpTotal .gt (X2 ((ix2 r (k.castLE (by decide : 2 ≤ 8)) : S17408x8.Idx).along (1 : Fin 2) p))
        (X2 ((ix2 r (k.castLE (by decide : 2 ≤ 8)) : S17408x8.Idx).along (1 : Fin 2) p')) == 1#1) (k.castLE (by decide : 2 ≤ 8)))) = _
    simp only [along_ix2]
    exact congrArg X2 (along_ix2 r _ _)
  · show y ((ix2 r (k.castLE (by decide : 2 ≤ 8)) : S17408x8.Idx).along (1 : Fin 2) (sortedFrom (fun p p' : Fin 8 =>
      Ideal.cmpTotal .gt (X2 ((ix2 r (k.castLE (by decide : 2 ≤ 8)) : S17408x8.Idx).along (1 : Fin 2) p))
        (X2 ((ix2 r (k.castLE (by decide : 2 ≤ 8)) : S17408x8.Idx).along (1 : Fin 2) p')) == 1#1) (k.castLE (by decide : 2 ≤ 8)))) = _
    simp only [along_ix2]
    exact congrArg y (along_ix2 r _ _)

theorem slice_idx (r : Fin 17408) (k : Fin 2) (x : Shape.Idx S17408x8) (h0 : (x 0).val = r.val) (h1 : (x 1).val = k.val) :
    x = ix2 r ⟨k.val, k.isLt.trans (by decide)⟩ := by
  funext a; fin_cases a <;> exact Fin.ext (by assumption)

theorem vals_at (X2 : FVec Ideal S17408x8 .f32) (r : Fin 17408) (i j : Fin 8) (h : Top (fun e => X2 (ix2 r e)) i j) (k : Fin 2) :
    (VALS X2 (ix2 r k) : EReal) = X2 (ix2 r ((![i, j] : Fin 2 → Fin 8) k)) := by
  unfold VALS
  simp only [Host.topK]
  pointwise []
  exact (topK_at X2 _ r i j h k _ rfl).1

theorem inds_at (X2 : FVec Ideal S17408x8 .f32) (r : Fin 17408) (i j : Fin 8) (h : Top (fun e => X2 (ix2 r e)) i j) (k : Fin 2) :
    INDS X2 (ix2 r k) = BitVec.ofNat 32 ((![i, j] : Fin 2 → Fin 8) k).val := by
  unfold INDS
  simp only [Host.topK]
  pointwise []
  exact (topK_at X2 _ r i j h k _ rfl).2

theorem bot_bits : Ideal.ofBits FTy.f32 4286578688#32 = ⊥ := by
  simp [Ideal.ofBits, Ideal.ieee]

theorem exps_at (X2 : FVec Ideal S17408x8 .f32) (r : Fin 17408) (k : Fin 2) (h : ((VALS X2 (ix2 r 1)) : EReal) ≤ VALS X2 (ix2 r 0)) :
    (EXPS X2 (ix2 r k) : EReal) = Ideal.exp (VALS X2 (ix2 r k) - VALS X2 (ix2 r 0)) := by
  pointwise [EXPS]
  rw [bot_bits, show (Finset.univ : Finset (Fin 2)) = {0, 1} from rfl, Finset.fold_insert (by decide), Finset.fold_singleton,
    max_eq_left (bot_le : (⊥ : EReal) ≤ _), max_eq_left h, max_eq_right (bot_le : (⊥ : EReal) ≤ _)]

/-- The reference's gate of expert `e`: the softmax of the two greatest logits, at their positions. -/
theorem gate_at (X2 : FVec Ideal S17408x8 .f32) (r : Fin 17408) (i j : Fin 8) (h : Top (fun e => X2 (ix2 r e)) i j)
    (hi : X2 (ix2 r i) - X2 (ix2 r i) = (0 : EReal)) (e : Fin 8) :
    (GATE X2 (ix2 r e) : EReal) = gate (fun e => X2 (ix2 r e)) i j e := by
  have hle : ((VALS X2 (ix2 r 1)) : EReal) ≤ VALS X2 (ix2 r 0) := by
    rw [vals_at X2 r i j h, vals_at X2 r i j h]; exact h.le_i j
  have e0 : (EXPS X2 (ix2 r 0) : EReal) = 1 := by
    rw [exps_at X2 r 0 hle, vals_at X2 r i j h]
    show Ideal.exp (X2 (ix2 r i) - X2 (ix2 r i) : EReal) = 1
    rw [hi]; show ((Real.exp 0 : ℝ) : EReal) = 1; simp
  have e1 : (EXPS X2 (ix2 r 1) : EReal) = Ideal.exp (X2 (ix2 r j) - X2 (ix2 r i)) := by
    rw [exps_at X2 r 1 hle, vals_at X2 r i j h, vals_at X2 r i j h]; rfl
  pointwise [GATE]
  rw [Fin.sum_univ_two, Fin.sum_univ_two, e0, e1, inds_at X2 r i j h, inds_at X2 r i j h]
  unfold gate
  have key : ∀ (a b : Fin 8) (z : EReal), FloatOps.uitofp (F := Ideal) FTy.f32 (IntOp.cmpi .eq (BitVec.ofNat 32 a.val) (BitVec.ofNat 32 b.val)) * z
      = if b = a then z else 0 := by
    intro a b z
    have : IntOp.cmpi .eq (BitVec.ofNat 32 a.val) (BitVec.ofNat 32 b.val) = if b = a then 1#1 else 0#1 := by
      revert a b; decide
    rw [this]
    split
    · show (((1#1 : BitVec 1).toNat : ℝ) : EReal) * z = z; simp
    · show (((0#1 : BitVec 1).toNat : ℝ) : EReal) * z = 0; simp
  exact congrArg₂ (· + ·) (key i e _) (key j e _)

end Cert.Proof.Moe

end
-- ==== Proof.FfnRef.lean ====
module

public import proofs.«01_k».proof.Proof.Gen.Reference3Ideal.Run
public import Idealize.ShloMosaic.Lib.Pipeline.ValueKit
public import Idealize.ShloMosaic.Lib.IdealHost

@[expose] public section

set_option maxRecDepth 16384

noncomputable section

namespace Cert.Proof.Ffn

open Cert.Reference3Ideal Cert.Reference3Ideal.Gen Idealize.ShloMosaic Idealize.ShloMosaic.TcCoe Idealize.SL.Sem

/-- Hidden unit `k` of a row `h`: the gate's product with its logistic, times the up product. -/
def unit {n : Nat} (h : Fin 1024 → EReal) (wg wu : Fin 1024 → Fin n → EReal) (k : Fin n) : EReal :=
  (∑ j, h j * wg j k) * Ideal.logistic (∑ j, h j * wg j k) * ∑ j, h j * wu j k

/-- The row of the gate array that row `r` of the activations reads: its prompt's, or its sample's. -/
def grow (r : Nat) : Nat := if r < 16384 then r / 8192 else 2 + (r - 16384) / 8

theorem grow_lt {r : Nat} (h : r < 17408) : grow r < 130 := by
  unfold grow; split <;> omega

/-- The reference's result over its argument arrays. -/
abbrev REF (X0 : FVec Ideal S2176x8x1024 .f32) (X1 : FVec Ideal S17408x1024 .f32) (X2 : FVec Ideal S130x1024 .f32) (X3 X4 : FVec Ideal S1024x2816 .f32) (X5 : FVec Ideal S2816x1024 .f32) : FVec Ideal S2176x8x1024 .f32 :=
  addf X0 (shapeCast _ (mulf (concatenate S17408x1024 0 [⟨S16384x1024, (shapeCast _ (broadcastInDim S2x8192x1024 ![0, 1, 2] bcast_S2x1x1024_S2x8192x1024_0_1_2 (broadcastInDim S2x1x1024 ![0, 2] bcast_S2x1024_S2x1x1024_0_2 (extractStridedSlice S2x1024 ![0, 0] X2 slices_S130x1024_S2x1024_0_0))) shapeCasts_S2x8192x1024_S16384x1024)⟩, ⟨S1024x1024, (shapeCast _ (broadcastInDim S128x8x1024 ![0, 1, 2] bcast_S128x1x1024_S128x8x1024_0_1_2 (broadcastInDim S128x1x1024 ![0, 2] bcast_S128x1024_S128x1x1024_0_2 (extractStridedSlice S128x1024 ![2, 0] X2 slices_S130x1024_S128x1024_2_0))) shapeCasts_S128x8x1024_S1024x1024)⟩] concatenates_S16384x1024_S1024x1024_S17408x1024_d0) (Host.dotGeneral dot_S17408x2816_S2816x1024_S17408x1024_1_0_0_1_n_n none (mulf (mulf (Host.dotGeneral dot_S17408x1024_S1024x2816_S17408x2816_1_0_0_1_n_n none X1 X3) (Host.divf (broadcastInDim S17408x2816 ![] bcast_S_S17408x2816 (constant S_ .f32 0x3F800000#32)) (addf (broadcastInDim S17408x2816 ![] bcast_S_S17408x2816 (constant S_ .f32 0x3F800000#32)) (Host.exp (Host.negf (Host.dotGeneral dot_S17408x1024_S1024x2816_S17408x2816_1_0_0_1_n_n none X1 X3)))))) (Host.dotGeneral dot_S17408x1024_S1024x2816_S17408x2816_1_0_0_1_n_n none X1 X4)) X5)) shapeCasts_S17408x1024_S2176x8x1024)

set_option maxHeartbeats 1600000 in
/-- The reference at an index: the residual plus the gate's row times the gated product. -/
theorem ref_at (X0 : FVec Ideal S2176x8x1024 .f32) (X1 : FVec Ideal S17408x1024 .f32) (X2 : FVec Ideal S130x1024 .f32) (X3 X4 : FVec Ideal S1024x2816 .f32) (X5 : FVec Ideal S2816x1024 .f32)
    (g : Fin 2176) (s : Fin 8) (d : Fin 1024) (hr : g.val * 8 + s.val < 17408) :
    (REF X0 X1 X2 X3 X4 X5 (ix3 g s d) : EReal) = X0 (ix3 g s d) + X2 (ix2 ⟨grow (g.val * 8 + s.val), grow_lt hr⟩ d) *
      ∑ k : Fin 2816, unit (fun j => X1 (ix2 ⟨g.val * 8 + s.val, hr⟩ j)) (fun j k => X3 (ix2 j k)) (fun j k => X4 (ix2 j k)) k * X5 (ix2 k d) := by
  pointwise [REF]
  congr 2
  split
  · rename_i h; refine congrArg X2 (congrArg (ix2 · d) (Fin.ext ?_)); show _ = grow _; unfold grow; rw [if_pos h]
  · rename_i h; refine congrArg X2 (congrArg (ix2 · d) (Fin.ext ?_)); show _ = grow _; unfold grow; rw [if_neg h]

end Cert.Proof.Ffn

end
-- ==== Proof.MoeRef.lean ====
module

public import proofs.«01_k».proof.Proof.MoeGateRef
public import proofs.«01_k».proof.Proof.FfnRef

@[expose] public section

set_option maxRecDepth 16384

noncomputable section

namespace Cert.Proof.Moe

open Cert.Reference2Ideal Cert.Reference2Ideal.Gen Idealize.ShloMosaic Idealize.ShloMosaic.TcCoe Idealize.SL.Sem
open Cert.Proof.Ffn (unit grow grow_lt)

/-- Expert `e`'s gated product. -/
def EXPERT (X1 : FVec Ideal S17408x1024 .f32) (X2 : FVec Ideal S17408x8 .f32) (X4 X5 : FVec Ideal S8x1024x1408 .f32) (X6 : FVec Ideal S8x1408x1024 .f32) (e : Nat) (hg : S17408x8.Slices ![0, e] S17408x1) (hw : S8x1024x1408.Slices ![e, 0, 0] S1x1024x1408) (hd : S8x1408x1024.Slices ![e, 0, 0] S1x1408x1024) : FVec Ideal S17408x1024 .f32 :=
  mulf (broadcastInDim S17408x1024 ![0, 1] bcast_S17408x1_S17408x1024_0_1 (extractStridedSlice S17408x1 ![0, e] (GATE X2) hg)) (Host.dotGeneral dot_S17408x1408_S1408x1024_S17408x1024_1_0_0_1_n_n none (mulf (mulf (Host.dotGeneral dot_S17408x1024_S1024x1408_S17408x1408_1_0_0_1_n_n none X1 (shapeCast _ (extractStridedSlice S1x1024x1408 ![e, 0, 0] X4 hw) shapeCasts_S1x1024x1408_S1024x1408)) (Host.divf (broadcastInDim S17408x1408 ![] bcast_S_S17408x1408 (constant S_ .f32 0x3F800000#32)) (addf (broadcastInDim S17408x1408 ![] bcast_S_S17408x1408 (constant S_ .f32 0x3F800000#32)) (Host.exp (Host.negf (Host.dotGeneral dot_S17408x1024_S1024x1408_S17408x1408_1_0_0_1_n_n none X1 (shapeCast _ (extractStridedSlice S1x1024x1408 ![e, 0, 0] X4 hw) shapeCasts_S1x1024x1408_S1024x1408))))))) (Host.dotGeneral dot_S17408x1024_S1024x1408_S17408x1408_1_0_0_1_n_n none X1 (shapeCast _ (extractStridedSlice S1x1024x1408 ![e, 0, 0] X5 hw) shapeCasts_S1x1024x1408_S1024x1408))) (shapeCast _ (extractStridedSlice S1x1408x1024 ![e, 0, 0] X6 hd) shapeCasts_S1x1408x1024_S1408x1024))

set_option maxHeartbeats 1600000 in
theorem expert_at (X1 : FVec Ideal S17408x1024 .f32) (X2 : FVec Ideal S17408x8 .f32) (X4 X5 : FVec Ideal S8x1024x1408 .f32) (X6 : FVec Ideal S8x1408x1024 .f32) (e : Nat) (hg : S17408x8.Slices ![0, e] S17408x1) (hw : S8x1024x1408.Slices ![e, 0, 0] S1x1024x1408) (hd : S8x1408x1024.Slices ![e, 0, 0] S1x1408x1024) (he : e < 8) (r : Fin 17408) (d : Fin 1024) :
    (EXPERT X1 X2 X4 X5 X6 e hg hw hd (ix2 r d) : EReal) = GATE X2 (ix2 r ⟨e, he⟩) *
      ∑ k : Fin 1408, unit (fun q => X1 (ix2 r q)) (fun q k => X4 (ix3 ⟨e, he⟩ q k)) (fun q k => X5 (ix3 ⟨e, he⟩ q k)) k * X6 (ix3 ⟨e, he⟩ k d) := by
  pointwise [EXPERT]
  rfl

/-- The reference's result over its argument arrays. -/
def REF (X0 : FVec Ideal S2176x8x1024 .f32) (X1 : FVec Ideal S17408x1024 .f32) (X2 : FVec Ideal S17408x8 .f32) (X3 : FVec Ideal S130x1024 .f32) (X4 X5 : FVec Ideal S8x1024x1408 .f32) (X6 : FVec Ideal S8x1408x1024 .f32) : FVec Ideal S2176x8x1024 .f32 :=
  addf X0 (shapeCast _ (mulf (concatenate S17408x1024 0 [⟨S16384x1024, (shapeCast _ (broadcastInDim S2x8192x1024 ![0, 1, 2] bcast_S2x1x1024_S2x8192x1024_0_1_2 (broadcastInDim S2x1x1024 ![0, 2] bcast_S2x1024_S2x1x1024_0_2 (extractStridedSlice S2x1024 ![0, 0] X3 slices_S130x1024_S2x1024_0_0))) shapeCasts_S2x8192x1024_S16384x1024)⟩, ⟨S1024x1024, (shapeCast _ (broadcastInDim S128x8x1024 ![0, 1, 2] bcast_S128x1x1024_S128x8x1024_0_1_2 (broadcastInDim S128x1x1024 ![0, 2] bcast_S128x1024_S128x1x1024_0_2 (extractStridedSlice S128x1024 ![2, 0] X3 slices_S130x1024_S128x1024_2_0))) shapeCasts_S128x8x1024_S1024x1024)⟩] concatenates_S16384x1024_S1024x1024_S17408x1024_d0) (addf (addf (addf (addf (addf (addf (addf (addf (broadcastInDim S17408x1024 ![] bcast_S_S17408x1024 (constant S_ .f32 0x00000000#32)) (EXPERT X1 X2 X4 X5 X6 0 slices_S17408x8_S17408x1_0_0 slices_S8x1024x1408_S1x1024x1408_0_0_0 slices_S8x1408x1024_S1x1408x1024_0_0_0)) (EXPERT X1 X2 X4 X5 X6 1 slices_S17408x8_S17408x1_0_1 slices_S8x1024x1408_S1x1024x1408_1_0_0 slices_S8x1408x1024_S1x1408x1024_1_0_0)) (EXPERT X1 X2 X4 X5 X6 2 slices_S17408x8_S17408x1_0_2 slices_S8x1024x1408_S1x1024x1408_2_0_0 slices_S8x1408x1024_S1x1408x1024_2_0_0)) (EXPERT X1 X2 X4 X5 X6 3 slices_S17408x8_S17408x1_0_3 slices_S8x1024x1408_S1x1024x1408_3_0_0 slices_S8x1408x1024_S1x1408x1024_3_0_0)) (EXPERT X1 X2 X4 X5 X6 4 slices_S17408x8_S17408x1_0_4 slices_S8x1024x1408_S1x1024x1408_4_0_0 slices_S8x1408x1024_S1x1408x1024_4_0_0)) (EXPERT X1 X2 X4 X5 X6 5 slices_S17408x8_S17408x1_0_5 slices_S8x1024x1408_S1x1024x1408_5_0_0 slices_S8x1408x1024_S1x1408x1024_5_0_0)) (EXPERT X1 X2 X4 X5 X6 6 slices_S17408x8_S17408x1_0_6 slices_S8x1024x1408_S1x1024x1408_6_0_0 slices_S8x1408x1024_S1x1408x1024_6_0_0)) (EXPERT X1 X2 X4 X5 X6 7 slices_S17408x8_S17408x1_0_7 slices_S8x1024x1408_S1x1024x1408_7_0_0 slices_S8x1408x1024_S1x1408x1024_7_0_0))) shapeCasts_S17408x1024_S2176x8x1024)

set_option maxHeartbeats 1600000 in
/-- The reference at an index: the residual plus the gate's row times the sum of the experts' gated products. -/
theorem ref_at (X0 : FVec Ideal S2176x8x1024 .f32) (X1 : FVec Ideal S17408x1024 .f32) (X2 : FVec Ideal S17408x8 .f32) (X3 : FVec Ideal S130x1024 .f32) (X4 X5 : FVec Ideal S8x1024x1408 .f32) (X6 : FVec Ideal S8x1408x1024 .f32)
    (g : Fin 2176) (s : Fin 8) (d : Fin 1024) (hr : g.val * 8 + s.val < 17408) :
    (REF X0 X1 X2 X3 X4 X5 X6 (ix3 g s d) : EReal) = X0 (ix3 g s d) + X3 (ix2 ⟨grow (g.val * 8 + s.val), grow_lt hr⟩ d) *
      ∑ e : Fin 8, GATE X2 (ix2 ⟨g.val * 8 + s.val, hr⟩ e) * ∑ k : Fin 1408,
        unit (fun q => X1 (ix2 ⟨g.val * 8 + s.val, hr⟩ q)) (fun q k => X4 (ix3 e q k)) (fun q k => X5 (ix3 e q k)) k * X6 (ix3 e k d) := by
  pointwise [REF]
  rw [Fin.sum_univ_eight]
  rw [expert_at X1 X2 X4 X5 X6 0 _ _ _ (by decide), expert_at X1 X2 X4 X5 X6 1 _ _ _ (by decide), expert_at X1 X2 X4 X5 X6 2 _ _ _ (by decide), expert_at X1 X2 X4 X5 X6 3 _ _ _ (by decide), expert_at X1 X2 X4 X5 X6 4 _ _ _ (by decide), expert_at X1 X2 X4 X5 X6 5 _ _ _ (by decide), expert_at X1 X2 X4 X5 X6 6 _ _ _ (by decide), expert_at X1 X2 X4 X5 X6 7 _ _ _ (by decide)]
  congr 2
  split
  · rename_i h; refine congrArg X3 (congrArg (ix2 · d) (Fin.ext ?_)); show _ = grow _; unfold grow; rw [if_pos h]
  · rename_i h; refine congrArg X3 (congrArg (ix2 · d) (Fin.ext ?_)); show _ = grow _; unfold grow; rw [if_neg h]

end Cert.Proof.Moe

end
-- ==== Proof.MoeGate.lean ====
module

public import proofs.«01_k».proof.Proof.Gen.Kernel2Ideal.Skeleton
public import proofs.«01_k».proof.Proof.MoeTop
public import Idealize.ShloMosaic.Lib.Pipeline.ValueKit
public import Idealize.ShloMosaic.Lib.IdealHost

@[expose] public section

set_option maxRecDepth 16384

noncomputable section

namespace Cert.Proof.Moe

open Cert.Kernel2Ideal Cert.Kernel2Ideal.Gen Idealize.ShloMosaic Idealize.ShloMosaic.TcCoe Idealize.SL.Sem

theorem neg_inf_bits : Ideal.ofBits FTy.f32 4286578688#32 = ⊥ := by
  simp [Ideal.ofBits, Ideal.ieee]

theorem fold_max_eq {n : Nat} (f : Fin n → EReal) (a : Fin n) (h : ∀ k, f k ≤ f a) : Finset.univ.fold max (⊥ : EReal) f = f a :=
  le_antisymm ((Finset.fold_max_le _).mpr ⟨bot_le, fun k _ => h k⟩) ((Finset.le_fold_max _).mpr (.inr ⟨a, Finset.mem_univ _, le_rfl⟩))

/-- The least lane that satisfies `p`, by the signed minimum of the lanes' numbers. -/
theorem fold_min_eq (p : Fin 128 → Prop) [DecidablePred p] (a : Fin 128) (h : p a) (hlt : ∀ k, k < a → ¬ p k) :
    Finset.univ.fold IntOp.minsi 2147483647#32 (fun k : Fin 128 => if p k then BitVec.ofNat 32 k.val else 128#32) = BitVec.ofNat 32 a.val := by
  refine BitVec.eq_of_toInt_eq ?_
  have hom : ∀ x y : BitVec 32, (IntOp.minsi x y).toInt = min x.toInt y.toInt := by
    intro x y
    simp only [IntOp.minsi, BitVec.slt]
    split <;> rename_i hh <;> simp at hh <;> omega
  rw [← Finset.fold_hom (op' := min) (m := BitVec.toInt) hom]
  have hv : ∀ k : Fin 128, (BitVec.ofNat 32 k.val).toInt = k.val := by decide
  rw [hv]
  refine le_antisymm ((Finset.fold_min_le _).mpr (.inr ⟨a, Finset.mem_univ _, ?_⟩)) ((Finset.le_fold_min _).mpr ⟨?_, fun k _ => ?_⟩)
  · rw [if_pos h, hv]
  · have := a.isLt; show (a.val : Int) ≤ 2147483647; omega
  · by_cases hk : p k
    · rw [if_pos hk, hv]
      have : ¬ k < a := fun hh => hlt k hh hk
      exact_mod_cast not_lt.mp this
    · rw [if_neg hk]; have := a.isLt; show (a.val : Int) ≤ 128; omega

/-- Expert `e`'s lane. -/
abbrev lane (e : Fin 8) : Fin 128 := e.castLE (by decide)

theorem sel_slt (e : Fin 128) (a b : EReal) :
    Scalar.select (IntOp.cmpi CmpIPredicate.slt (BitVec.ofNat 32 e.val) 8#32) a b = if e.val < 8 then a else b := by
  have : IntOp.cmpi CmpIPredicate.slt (BitVec.ofNat 32 e.val) 8#32 = if e.val < 8 then 1#1 else 0#1 := by
    revert e; decide
  rw [this]; split <;> rfl

theorem cmpi_eq_lane (e k : Fin 128) : IntOp.cmpi CmpIPredicate.eq (BitVec.ofNat 32 e.val) (BitVec.ofNat 32 k.val) = if e = k then 1#1 else 0#1 := by
  have hv : ∀ k : Fin 128, (BitVec.ofNat 32 k.val).toNat = k.val := by decide
  by_cases h : e = k
  · subst h; simp [IntOp.cmpi]
  · have : BitVec.ofNat 32 e.val ≠ BitVec.ofNat 32 k.val := fun hh => h (Fin.ext (by rw [← hv e, ← hv k, hh]))
    rw [if_neg h]; simp only [IntOp.cmpi, beq_eq_false_iff_ne.mpr this]; rfl

variable (x : FVec Ideal S512x128 .f32) (r : Fin 512) (L : Fin 8 → EReal) (hL : ∀ e : Fin 8, (x (ix2 r (lane e)) : EReal) = L e)
  {i j : Fin 8} (h : Top L i j) (hj : L j ≠ ⊥)

theorem pay2_at (e : Fin 128) :
    (k0_pay2 (F := Ideal) x (ix2 r e) : EReal) = if e.val < 8 then x (ix2 r e) else ⊥ := by
  pointwise [k0_pay2]
  rw [sel_slt, neg_inf_bits]

include hL in
theorem pay2_lane (e : Fin 8) : (k0_pay2 (F := Ideal) x (ix2 r (lane e)) : EReal) = L e := by
  rw [pay2_at, if_pos (show (lane e).val < 8 from e.isLt), hL]

theorem pay2_out (e : Fin 128) (he : ¬ e.val < 8) : (k0_pay2 (F := Ideal) x (ix2 r e) : EReal) = ⊥ := by
  rw [pay2_at, if_neg he]

include hL h in
theorem pay3_at : (k0_pay3 (F := Ideal) x (ix2 r 0) : EReal) = L i := by
  pointwise [k0_pay3]
  rw [neg_inf_bits, fold_max_eq _ (lane i), pay2_lane x r L hL]
  intro k
  rw [pay2_lane x r L hL]
  by_cases hk : k.val < 8
  · rw [show k = lane ⟨k.val, hk⟩ from rfl, pay2_lane x r L hL]; exact h.le_i _
  · rw [pay2_out x r k hk]; exact bot_le

include hL h in
theorem pay4_at : k0_pay4 (F := Ideal) x (ix2 r 0) = BitVec.ofNat 32 (lane i).val := by
  pointwise [k0_pay4]
  rw [pay3_at x r L hL h]
  refine fold_min_eq _ (lane i) (pay2_lane x r L hL i) fun k hk => ?_
  have hk8 : k.val < 8 := lt_trans hk i.isLt
  rw [show k = lane ⟨k.val, hk8⟩ from rfl, pay2_lane x r L hL]
  exact (h.lt_i _ hk).ne

include hL h in
theorem pay5_at (e : Fin 128) :
    (k0_pay5 (F := Ideal) x (ix2 r e) : EReal) = if e = lane i then ⊥ else k0_pay2 (F := Ideal) x (ix2 r e) := by
  pointwise [k0_pay5]
  rw [pay4_at x r L hL h, cmpi_eq_lane, neg_inf_bits]
  split <;> rfl

theorem lane_ne {a b : Fin 8} (h : a ≠ b) : lane a ≠ lane b := fun e => by
  have := Fin.ext_iff.mp e
  exact h (Fin.ext this)

include hL h in
theorem pay5_j : (k0_pay5 (F := Ideal) x (ix2 r (lane j)) : EReal) = L j := by
  rw [pay5_at x r L hL h, if_neg (lane_ne h.ne), pay2_lane x r L hL]

include hL h in
theorem pay6_at : (k0_pay6 (F := Ideal) x (ix2 r 0) : EReal) = L j := by
  pointwise [k0_pay6]
  rw [neg_inf_bits, fold_max_eq _ (lane j), pay5_j x r L hL h]
  intro k
  rw [pay5_j x r L hL h, pay5_at x r L hL h]
  split
  · exact bot_le
  · rename_i hki
    by_cases hk : k.val < 8
    · rw [show k = lane ⟨k.val, hk⟩ from rfl, pay2_lane x r L hL]
      exact h.le_j _ fun e => hki (by rw [← e]; rfl)
    · rw [pay2_out x r k hk]; exact bot_le

include hL h hj in
theorem pay10_at (e : Fin 128) : k0_pay10 (F := Ideal) x (ix2 r e) = if e = lane j then 1#1 else 0#1 := by
  pointwise [k0_pay10]
  rw [pay6_at x r L hL h]
  have key := fold_min_eq (fun k => (k0_pay5 (F := Ideal) x (ix2 r k) : EReal) = L j) (lane j) (pay5_j x r L hL h) fun k hk => by
    have hk8 : k.val < 8 := lt_trans hk j.isLt
    rw [pay5_at x r L hL h]
    split
    · exact hj.symm
    · rename_i hki
      rw [show k = lane ⟨k.val, hk8⟩ from rfl, pay2_lane x r L hL]
      exact (h.lt_j _ (fun e => hki (by rw [← e]; rfl)) hk).ne
  exact (congrArg (IntOp.cmpi .eq (BitVec.ofNat 32 e.val)) key).trans (cmpi_eq_lane e (lane j))

include hL h hj in
/-- The gates that a tile keeps: the softmax of the two greatest logits, at their lanes. -/
theorem pay13_at (e : Fin 8) :
    (k0_pay13 (F := Ideal) (k0_pay9 (F := Ideal) x) (k0_pay10 (F := Ideal) x) (k0_pay11 (F := Ideal) x) (k0_pay12 (F := Ideal)) (ix2 r (lane e)) : EReal)
      = gate L i j e := by
  pointwise [k0_pay13, k0_pay9, k0_pay11, k0_pay12, k0_pay8, k0_pay7]
  rw [pay10_at x r L hL h hj, pay6_at x r L hL h, pay3_at x r L hL h, pay4_at x r L hL h, cmpi_eq_lane]
  have sel : ∀ (k : Fin 8) (a : EReal), Scalar.select (if lane e = lane k then 1#1 else 0#1) a 0 = if e = k then a else 0 := by
    intro k a
    by_cases hk : e = k
    · rw [if_pos hk, if_pos (by rw [hk])]; rfl
    · rw [if_neg hk, if_neg (lane_ne hk)]; rfl
  rw [sel, sel]
  rfl

end Cert.Proof.Moe

end
-- ==== Proof.MoeValue.lean ====
module

public import proofs.«01_k».proof.Proof.Gen.Kernel2Ideal.Value
public import proofs.«01_k».proof.Proof.MoeRef
public import proofs.«01_k».proof.Proof.MoeGate
public import Idealize.ShloMosaic.Lib.Pipeline.ValueKit
public import Idealize.ShloMosaic.Lib.IdealHost
public import Idealize.ShloMosaic.Lib.Pipeline.ReadBack

@[expose] public section

set_option maxRecDepth 16384

noncomputable section

namespace Cert.Proof.Moe

open Cert.Kernel2Ideal Cert.Kernel2Ideal.Gen Idealize.ShloMosaic Idealize.ShloMosaic.TcCoe Idealize.SL.Sem
open Idealize.ShloMosaic.Pipeline (Dat)
open Cert.Proof.Ffn (unit grow grow_lt)

variable (m : (ℓ : Loc nD τ sig) → Buf (Elt Ideal) ℓ)

theorem pay15_at (i : grid0.Coords) (e : Fin 8) (hi : (i 1).val = e.val) (v3 : FVec Ideal S512x1024 .bf16) (v5 v8 : FVec Ideal S1x1024x1408 .bf16)
    (v15 : FVec Ideal S1x1408x1024 .bf16) (v21 : FVec Ideal S512x128 .f32) (v26 : FVec Ideal S512x1024 .f32) (r : Fin 512) (d : Fin 1024) :
    (k0_pay15 (F := Ideal) i v3 v5 v8 v15 v21 v26 (ix2 r d) : EReal) = v26 (ix2 r d) + v21 (ix2 r (lane e)) *
      ∑ k : Fin 1408, unit (fun q => v3 (ix2 r q)) (fun q k => v5 (ix3 0 q k)) (fun q k => v8 (ix3 0 q k)) k * v15 (ix3 0 k d) := by
  have key : ∀ x : Fin 128, (Scalar.select (IntOp.cmpi CmpIPredicate.eq (BitVec.ofNat 32 x.val) (BitVec.ofNat 32 (i 1).val)) (v21 (ix2 r x) : EReal) 0)
      = if x = lane e then v21 (ix2 r x) else 0 := by
    intro x
    rw [hi, show BitVec.ofNat 32 e.val = BitVec.ofNat 32 (lane e).val from rfl, cmpi_eq_lane]
    split <;> rfl
  pointwise [k0_pay15]
  congr 2
  refine (Finset.sum_congr rfl fun x _ => key x).trans ?_
  rw [Finset.sum_ite_eq' Finset.univ (lane e), if_pos (Finset.mem_univ _)]

theorem pay14_at (r : Fin 512) (d : Fin 1024) : (k0_pay14 (F := Ideal) (ix2 r d) : EReal) = 0 := by
  pointwise [k0_pay14]

theorem pay1_at (v36 : FVec Ideal S64x8x1024 .f32) (v37 : FVec Ideal S64x1x1024 .f32) (v39 : FVec Ideal S512x1024 .f32)
    (g : Fin 64) (s : Fin 8) (d : Fin 1024) (hr : g.val * 8 + s.val < 512) :
    (k0_pay1 (F := Ideal) v36 v37 v39 (ix3 g s d) : EReal) = v36 (ix3 g s d) + v37 (ix3 g 0 d) * v39 (ix2 ⟨g.val * 8 + s.val, hr⟩ d) := by
  pointwise [k0_pay1]

theorem V8 (c : Dev nD) (g : Fin 256) (d : Fin 1024) (n : Fin 130) (hn : n.val = if g.val < 128 then g.val / 64 else 2 + (g.val - 128)) :
    (V m c main_v8 : FVec Ideal S256x1x1024 .f32) (ix3 g 0 d) = (m (c, Proc.tc.devRef main_arg3) : FVec Ideal S130x1024 .f32) (ix2 n d) := by
  have key : ∀ X : FVec Ideal S130x1024 .f32, ((if h : g.val < 128 then X (ix2 ⟨g.val / 64, by omega⟩ d) else X (ix2 ⟨2 + (g.val - 128), by omega⟩ d)) : EReal) = X (ix2 n d) := by
    intro X
    split
    · rename_i h
      exact congrArg (fun n => X (ix2 n d)) (Fin.ext (by rw [hn, if_pos h]))
    · rename_i h
      exact congrArg (fun n => X (ix2 n d)) (Fin.ext (by rw [hn, if_neg h]))
  entry_read
  pointwise
  exact key _

theorem V1 (c : Dev nD) (R : Fin 17408) (e : Fin 8) :
    (V m c main_v1 : FVec Ideal S17408x128 .f32) (ix2 R (lane e)) = (m (c, Proc.tc.devRef main_arg2) : FVec Ideal S17408x8 .f32) (ix2 R e) := by
  have key : ∀ X : FVec Ideal S17408x8 .f32, ∀ (x : EReal), ((if h : (lane e).val < 8 then X (ix2 R ⟨(lane e).val, h⟩) else x) : EReal) = X (ix2 R e) := by
    intro X x
    rw [dif_pos (show (lane e).val < 8 from e.isLt)]; rfl
  entry_read
  pointwise
  exact key _ _

theorem idx : ∀ t : Fin cfg0.N, win0_0.index t = ![t.val / 8, 0, 0] ∧ win0_1.index t = ![t.val / 8, 0] ∧ win0_2.index t = ![t.val / 8, 0] ∧
    win0_3.index t = ![if t.val / 8 < 32 then t.val / 8 / 16 else t.val / 8 - 30, 0, 0] ∧ win0_4.index t = ![t.val % 8, 0, 0] ∧
    win0_5.index t = ![t.val % 8, 0, 0] ∧ win0_6.index t = ![t.val % 8, 0, 0] ∧ win0_7.index t = ![t.val / 8, 0, 0] ∧ t.val < 272 ∧
    (grid0.coords t 1).val = t.val % 8 :=
  (by decide +kernel : ∀ t : Fin grid0.N, _)

theorem blk0 (c : Dev nD) (t : Fin cfg0.N) (g : Fin 64) (s : Fin 8) (d : Fin 1024) (G : Fin 2176) (hG : G.val = t.val / 8 * 64 + g.val) :
    (iblk m c 0 t : FVec Ideal S64x8x1024 .f32) (ix3 g s d) = (m ((c : Thread nD τ).loc main_arg0) : FVec Ideal S2176x8x1024 .f32) (ix3 G s d) := by
  blk_ext [iblk, V, idx t]

theorem blk1 (c : Dev nD) (t : Fin cfg0.N) (r : Fin 512) (j : Fin 1024) (R : Fin 17408) (hR : R.val = t.val / 8 * 512 + r.val) :
    (iblk m c 1 t : FVec Ideal S512x1024 .bf16) (ix2 r j) = (m ((c : Thread nD τ).loc main_arg1) : FVec Ideal S17408x1024 .f32) (ix2 R j) := by
  have e : (iblk m c 1 t : FVec Ideal S512x1024 .bf16) (ix2 r j) = (V m c main_v2 : FVec Ideal S17408x1024 .bf16) (ix2 R j) := by
    blk_ext [iblk, idx t]
  rw [e]; entry_read; pointwise

theorem blk2 (c : Dev nD) (t : Fin cfg0.N) (r : Fin 512) (e : Fin 8) (R : Fin 17408) (hR : R.val = t.val / 8 * 512 + r.val) :
    (iblk m c 2 t : FVec Ideal S512x128 .f32) (ix2 r (lane e)) = (m (c, Proc.tc.devRef main_arg2) : FVec Ideal S17408x8 .f32) (ix2 R e) := by
  have e' : (iblk m c 2 t : FVec Ideal S512x128 .f32) (ix2 r (lane e)) = (V m c main_v1 : FVec Ideal S17408x128 .f32) (ix2 R (lane e)) := by
    blk_ext [iblk, idx t]
  rw [e', V1]

theorem blk3 (c : Dev nD) (t : Fin cfg0.N) (g : Fin 64) (d : Fin 1024) (n : Fin 130) (hn : n.val = if t.val / 8 < 32 then t.val / 8 / 16 else 2 + (t.val / 8 * 64 + g.val - 2048)) :
    (iblk m c 3 t : FVec Ideal S64x1x1024 .f32) (ix3 g 0 d) = (m (c, Proc.tc.devRef main_arg3) : FVec Ideal S130x1024 .f32) (ix2 n d) := by
  have ht := (idx t).2.2.2.2.2.2.2.2.1
  have hg := g.isLt
  have e : (iblk m c 3 t : FVec Ideal S64x1x1024 .f32) (ix3 g 0 d) = (V m c main_v8 : FVec Ideal S256x1x1024 .f32) (ix3 ⟨if t.val / 8 < 32 then t.val / 8 / 16 * 64 + g.val else (t.val / 8 - 30) * 64 + g.val, by split <;> omega⟩ 0 d) := by
    blk_ext [iblk, idx t]
    split <;> omega
  rw [e]
  refine V8 m c _ d n ?_
  rw [hn]
  dsimp only
  split <;> split <;> omega

theorem blk4 (c : Dev nD) (t : Fin cfg0.N) (q : Fin 1024) (k : Fin 1408) (e : Fin 8) (he : e.val = t.val % 8) :
    (iblk m c 4 t : FVec Ideal S1x1024x1408 .bf16) (ix3 0 q k) = (m ((c : Thread nD τ).loc main_arg4) : FVec Ideal S8x1024x1408 .f32) (ix3 e q k) := by
  have e : (iblk m c 4 t : FVec Ideal S1x1024x1408 .bf16) (ix3 0 q k) = (V m c main_v9 : FVec Ideal S8x1024x1408 .bf16) (ix3 e q k) := by
    blk_ext [iblk, idx t]
  rw [e]; entry_read; pointwise

theorem blk5 (c : Dev nD) (t : Fin cfg0.N) (q : Fin 1024) (k : Fin 1408) (e : Fin 8) (he : e.val = t.val % 8) :
    (iblk m c 5 t : FVec Ideal S1x1024x1408 .bf16) (ix3 0 q k) = (m ((c : Thread nD τ).loc main_arg5) : FVec Ideal S8x1024x1408 .f32) (ix3 e q k) := by
  have e : (iblk m c 5 t : FVec Ideal S1x1024x1408 .bf16) (ix3 0 q k) = (V m c main_v10 : FVec Ideal S8x1024x1408 .bf16) (ix3 e q k) := by
    blk_ext [iblk, idx t]
  rw [e]; entry_read; pointwise

theorem blk6 (c : Dev nD) (t : Fin cfg0.N) (k : Fin 1408) (d : Fin 1024) (e : Fin 8) (he : e.val = t.val % 8) :
    (iblk m c 6 t : FVec Ideal S1x1408x1024 .bf16) (ix3 0 k d) = (m ((c : Thread nD τ).loc main_arg6) : FVec Ideal S8x1408x1024 .f32) (ix3 e k d) := by
  have e : (iblk m c 6 t : FVec Ideal S1x1408x1024 .bf16) (ix3 0 k d) = (V m c main_v11 : FVec Ideal S8x1408x1024 .bf16) (ix3 e k d) := by
    blk_ext [iblk, idx t]
  rw [e]; entry_read; pointwise

/-- The gates that a tile's first point keeps. -/
abbrev tileGates (x : FVec Ideal S512x128 .f32) : FVec Ideal S512x128 .f32 :=
  k0_pay13 (F := Ideal) (k0_pay9 (F := Ideal) x) (k0_pay10 (F := Ideal) x) (k0_pay11 (F := Ideal) x) (k0_pay12 (F := Ideal))

theorem gates_A (c : Dev nD) (t : Fin cfg0.N) (h0 : t.val % 8 = 0) : (outsAt0 m c t.val t.isLt).2.2 = tileGates (iblk m c 2 t) := by
  rw [outsAt0_A m c t h0 (by omega)]; frame_out

theorem acc_A (c : Dev nD) (t : Fin cfg0.N) (h0 : t.val % 8 = 0) : (outsAt0 m c t.val t.isLt).2.1
    = k0_pay15 (F := Ideal) (grid0.coords t) (iblk m c 1 t) (iblk m c 4 t) (iblk m c 5 t) (iblk m c 6 t) (tileGates (iblk m c 2 t)) (k0_pay14 (F := Ideal)) := by
  rw [outsAt0_A m c t h0 (by omega)]; frame_out

theorem gates_step (c : Dev nD) (n : Nat) (hn : n + 1 < cfg0.N) (h0 : ¬ (n + 1) % 8 = 0) :
    (outsAt0 m c (n + 1) hn).2.2 = (outsAt0 m c n (Nat.lt_of_succ_lt hn)).2.2 := by
  by_cases h1 : (n + 1) % 8 = 7
  · rw [outsAt0_C m c ⟨n + 1, hn⟩ h0 h1]; rfl
  · rw [outsAt0_B m c ⟨n + 1, hn⟩ h0 h1]; rfl

theorem acc_step (c : Dev nD) (n : Nat) (hn : n + 1 < cfg0.N) (h0 : ¬ (n + 1) % 8 = 0) :
    (outsAt0 m c (n + 1) hn).2.1 = k0_pay15 (F := Ideal) (grid0.coords ⟨n + 1, hn⟩) (iblk m c 1 ⟨n + 1, hn⟩) (iblk m c 4 ⟨n + 1, hn⟩) (iblk m c 5 ⟨n + 1, hn⟩)
      (iblk m c 6 ⟨n + 1, hn⟩) (outsAt0 m c n (Nat.lt_of_succ_lt hn)).2.2 (outsAt0 m c n (Nat.lt_of_succ_lt hn)).2.1 := by
  by_cases h1 : (n + 1) % 8 = 7
  · rw [outsAt0_C m c ⟨n + 1, hn⟩ h0 h1]; frame_out; simp only [Nat.add_sub_cancel]; rw [read_unread_whole, read_unread_whole]
  · rw [outsAt0_B m c ⟨n + 1, hn⟩ h0 h1]; frame_out; simp only [Nat.add_sub_cancel]; rw [read_unread_whole, read_unread_whole]

theorem out_C (c : Dev nD) (n : Nat) (hn : n < cfg0.N) (h1 : n % 8 = 7) :
    (outsAt0 m c n hn).1 = k0_pay1 (F := Ideal) (iblk m c 0 ⟨n, hn⟩) (iblk m c 3 ⟨n, hn⟩) (outsAt0 m c n hn).2.1 := by
  rw [outsAt0_C m c ⟨n, hn⟩ (by show ¬ n % 8 = 0; omega) h1]; frame_out

/-- Every logit is finite. -/
def FiniteLogits (X2 : FVec Ideal S17408x8 .f32) : Prop :=
  ∀ (R : Fin 17408) (e : Fin 8), (X2 (ix2 R e) : EReal) ≠ ⊥ ∧ (X2 (ix2 R e) : EReal) ≠ ⊤

/-- The gates that a tile keeps are the reference's, where the logits are finite. -/
theorem tile_at (X2 : FVec Ideal S17408x8 .f32) (hfin : FiniteLogits X2)
    (x : FVec Ideal S512x128 .f32) (r : Fin 512) (R : Fin 17408) (hx : ∀ e : Fin 8, (x (ix2 r (lane e)) : EReal) = X2 (ix2 R e)) (e : Fin 8) :
    (tileGates x (ix2 r (lane e)) : EReal) = GATE X2 (ix2 R e) := by
  obtain ⟨i, j, h⟩ := exists_top fun e => (X2 (ix2 R e) : EReal)
  exact (pay13_at x r _ hx h (hfin R j).1 e).trans
    (gate_at X2 R i j h (EReal.sub_self (hfin R i).2 (hfin R i).1) e).symm

/-- Expert `e`'s gated product for a row. -/
def term (X1 : FVec Ideal S17408x1024 .f32) (X2 : FVec Ideal S17408x8 .f32) (X4 X5 : FVec Ideal S8x1024x1408 .f32) (X6 : FVec Ideal S8x1408x1024 .f32)
    (R : Fin 17408) (d : Fin 1024) (e : Fin 8) : EReal :=
  GATE X2 (ix2 R e) * ∑ k : Fin 1408, unit (fun q => X1 (ix2 R q)) (fun q k => X4 (ix3 e q k)) (fun q k => X5 (ix3 e q k)) k * X6 (ix3 e k d)

/-- A sum over the first experts, by number. -/
def upto (f : Fin 8 → EReal) (n : Nat) : EReal := ∑ e ∈ Finset.range n, if h : e < 8 then f ⟨e, h⟩ else 0

theorem upto_zero (f : Fin 8 → EReal) : upto f 0 = 0 := rfl
theorem upto_succ (f : Fin 8 → EReal) (n : Nat) (h : n < 8) : upto f (n + 1) = upto f n + f ⟨n, h⟩ := by
  unfold upto; rw [Finset.sum_range_succ, dif_pos h]
theorem upto_eight (f : Fin 8 → EReal) : upto f 8 = ∑ e, f e := by
  unfold upto; rw [Finset.sum_range]
  exact Finset.sum_congr rfl fun e _ => dif_pos e.isLt

/-- A point adds its expert's gated product, over blocks that are known at an index. -/
theorem step_at (X1 : FVec Ideal S17408x1024 .f32) (X2 : FVec Ideal S17408x8 .f32) (X4 X5 : FVec Ideal S8x1024x1408 .f32) (X6 : FVec Ideal S8x1408x1024 .f32)
    (i : grid0.Coords) (e : Fin 8) (hi : (i 1).val = e.val) (v3 : FVec Ideal S512x1024 .bf16) (v5 v8 : FVec Ideal S1x1024x1408 .bf16)
    (v15 : FVec Ideal S1x1408x1024 .bf16) (v21 : FVec Ideal S512x128 .f32) (v26 : FVec Ideal S512x1024 .f32) (r : Fin 512) (d : Fin 1024) (R : Fin 17408)
    (h3 : ∀ q, v3 (ix2 r q) = X1 (ix2 R q)) (h5 : ∀ q k, v5 (ix3 0 q k) = X4 (ix3 e q k)) (h8 : ∀ q k, v8 (ix3 0 q k) = X5 (ix3 e q k))
    (h15 : ∀ k, v15 (ix3 0 k d) = X6 (ix3 e k d)) (h21 : (v21 (ix2 r (lane e)) : EReal) = GATE X2 (ix2 R e)) (a : EReal) (h26 : (v26 (ix2 r d) : EReal) = a) :
    (k0_pay15 (F := Ideal) i v3 v5 v8 v15 v21 v26 (ix2 r d) : EReal) = a + term X1 X2 X4 X5 X6 R d e := by
  rw [pay15_at i e hi, h21, h26]
  unfold term
  simp only [h3, h5, h8, h15]

/-- What a tile's points hold: the tile's gates, and the sum of the experts' gated products so far. -/
theorem accum (c : Dev nD) (hfin : FiniteLogits (m ((c : Thread nD τ).loc main_arg2))) (T : Nat) :
    ∀ (e n : Nat) (hn : n < cfg0.N), e < 8 → n = 8 * T + e → ∀ (r : Fin 512) (R : Fin 17408), R.val = T * 512 + r.val →
      (∀ k : Fin 8, ((outsAt0 m c n hn).2.2 (ix2 r (lane k)) : EReal) = GATE (m ((c : Thread nD τ).loc main_arg2)) (ix2 R k)) ∧
      ∀ d : Fin 1024, ((outsAt0 m c n hn).2.1 (ix2 r d) : EReal)
        = upto (term (m ((c : Thread nD τ).loc main_arg1)) (m ((c : Thread nD τ).loc main_arg2)) (m ((c : Thread nD τ).loc main_arg4))
            (m ((c : Thread nD τ).loc main_arg5)) (m ((c : Thread nD τ).loc main_arg6)) R d) (e + 1) := by
  intro e
  induction e with
  | zero =>
    intro n hn he hnT r R hR
    have h0 : n % 8 = 0 := by omega
    have hT : n / 8 = T := by omega
    have hg : ∀ k : Fin 8, (tileGates (iblk m c 2 ⟨n, hn⟩) (ix2 r (lane k)) : EReal) = GATE (m ((c : Thread nD τ).loc main_arg2)) (ix2 R k) :=
      fun k => tile_at _ hfin _ r R (fun k => blk2 m c ⟨n, hn⟩ r k R (by dsimp only; rw [hT]; exact hR)) k
    refine ⟨fun k => ?_, fun d => ?_⟩
    · rw [gates_A m c ⟨n, hn⟩ h0]; exact hg k
    · rw [acc_A m c ⟨n, hn⟩ h0, upto_succ _ 0 he, upto_zero]
      exact step_at _ _ _ _ _ _ ⟨0, he⟩ (((idx ⟨n, hn⟩).2.2.2.2.2.2.2.2.2).trans h0) _ _ _ _ _ _ r d R
        (fun q => blk1 m c ⟨n, hn⟩ r q R (by dsimp only; rw [hT]; exact hR))
        (fun q k => blk4 m c ⟨n, hn⟩ q k _ h0.symm) (fun q k => blk5 m c ⟨n, hn⟩ q k _ h0.symm) (fun k => blk6 m c ⟨n, hn⟩ k d _ h0.symm)
        (hg _) 0 (pay14_at r d)
  | succ e ih =>
    intro n hn he hnT r R hR
    obtain ⟨n, rfl⟩ : ∃ n', n = n' + 1 := ⟨n - 1, by omega⟩
    have h0 : ¬ (n + 1) % 8 = 0 := by omega
    have h1 : (n + 1) % 8 = e + 1 := by omega
    have hT : (n + 1) / 8 = T := by omega
    obtain ⟨ih1, ih2⟩ := ih n (Nat.lt_of_succ_lt hn) (by omega) (by omega) r R hR
    refine ⟨fun k => ?_, fun d => ?_⟩
    · rw [gates_step m c n hn h0]; exact ih1 k
    · rw [acc_step m c n hn h0, upto_succ _ (e + 1) he]
      exact step_at _ _ _ _ _ _ ⟨e + 1, he⟩ (((idx ⟨n + 1, hn⟩).2.2.2.2.2.2.2.2.2).trans h1) _ _ _ _ _ _ r d R
        (fun q => blk1 m c ⟨n + 1, hn⟩ r q R (by dsimp only; rw [hT]; exact hR))
        (fun q k => blk4 m c ⟨n + 1, hn⟩ q k _ h1.symm) (fun q k => blk5 m c ⟨n + 1, hn⟩ q k _ h1.symm) (fun k => blk6 m c ⟨n + 1, hn⟩ k d _ h1.symm)
        (ih1 _) _ (ih2 d)

set_option maxHeartbeats 1600000 in
theorem final (c : Dev nD) (hfin : FiniteLogits (m ((c : Thread nD τ).loc main_arg2))) : (dats m 0 c).arrAt 7 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t ht y => ?_
  have h7 : t.val % 8 = 7 := (flush0_7 t).mp ht
  blk_simp
  rw [after0_7, out_C m c t.val t.isLt h7]
  have htl := (idx t).2.2.2.2.2.2.2.2.1
  obtain ⟨g, s, d, rfl⟩ : ∃ (g : Fin 64) (s : Fin 8) (d : Fin 1024), y = ix3 g s d := ⟨y 0, y 1, y 2, eq_ix3 y⟩
  have he : ((View.whole main_v12).slice (win0_7.rect t)).emb (ix3 g s d) = (ix3 (⟨t.val / 8 * 64 + g.val, by omega⟩ : Fin 2176) s d : S2176x8x1024.Idx) := by
    blk_ext [idx t]
  rw [he]
  have hr : g.val * 8 + s.val < 512 := by omega
  have hR : (t.val / 8 * 64 + g.val) * 8 + s.val < 17408 := by omega
  refine (pay1_at _ _ _ g s d hr).trans ?_
  rw [ref_at _ _ _ _ _ _ _ _ s d hR, blk0 m c t g s d ⟨t.val / 8 * 64 + g.val, by omega⟩ rfl,
    blk3 m c t g d ⟨grow ((t.val / 8 * 64 + g.val) * 8 + s.val), grow_lt hR⟩ (by unfold grow; dsimp only; split <;> split <;> omega),
    (accum m c hfin (t.val / 8) 7 t.val t.isLt (by omega) (by omega) ⟨g.val * 8 + s.val, hr⟩ ⟨_, hR⟩ (by dsimp only; omega)).2 d, upto_eight]
  rfl

end Cert.Proof.Moe

end
-- ==== Proof.MoeClaims.lean ====
module

public import proofs.«01_k».proof.Defs
public import proofs.«01_k».proof.Proof.MoeValue
public import proofs.«01_k».proof.Proof.Gen.Kernel2.Frame
public import Idealize.ShloMosaic.Lib.Claim

@[expose] public section

set_option maxRecDepth 16384

noncomputable section

namespace Cert.Proof.Moe

open Idealize.ShloMosaic Idealize.ShloMosaic.TcCoe Idealize.SL.Sem

theorem pre_facts : Cert.Pre_finite_logits.Facts := ⟨by decide⟩

theorem frame_kernel : Cert.quiescent_Kernel2 := fun m ρ _ => Cert.Kernel2.Gen.frame m ρ

theorem frame_ideal : Cert.quiescent_Kernel2Ideal := fun m ρ _ => Cert.Kernel2Ideal.Gen.frame m ρ

theorem frame_ideal_pre [Cert.Pre_finite_logits.Facts] : Cert.quiescent_Kernel2Ideal_pre_finite_logits := fun m ρ _ => Cert.Kernel2Ideal.Gen.frame m ρ

theorem frame_reference : Cert.quiescent_Reference2Ideal := by
  intro m g _
  refine (θ_run _ _ _).mono (fun r h => ?_) (Cert.Reference2Ideal.Value.run m g)
  exact ⟨fun c => (h c).2, sem_eq_zero_of_no_sems (by decide) r.2⟩

theorem frame_reference_pre [Cert.Pre_finite_logits.Facts] : Cert.quiescent_Reference2Ideal_pre_finite_logits := by
  intro m g _
  refine (θ_run _ _ _).mono (fun r h => ?_) (Cert.Reference2Ideal.Value.run m g)
  exact ⟨fun c => (h c).2, sem_eq_zero_of_no_sems (by decide) r.2⟩

/-- The precondition's predicate says of the logits that each is finite. -/
theorem finite_of_pre [Cert.Pre_finite_logits.Facts] (A0 : FVec Ideal Cert.Pre_finite_logits.S2176x8x1024 .f32) (A1 : FVec Ideal Cert.Pre_finite_logits.S17408x1024 .f32)
    (A2 : FVec Ideal Cert.Pre_finite_logits.S17408x8 .f32) (A3 : FVec Ideal Cert.Pre_finite_logits.S130x1024 .f32) (A4 A5 : FVec Ideal Cert.Pre_finite_logits.S8x1024x1408 .f32)
    (A6 : FVec Ideal Cert.Pre_finite_logits.S8x1408x1024 .f32)
    (h : Cert.Pre_finite_logits.fn (F := Ideal) A0 A1 A2 A3 A4 A5 A6 = fun _ => 1#1) : FiniteLogits A2 := by
  intro R e
  have h := congrFun h (ix2 R e)
  have top : Ideal.ofBits FTy.f32 2139095040#32 = ⊤ := by simp [Ideal.ofBits, Ideal.ieee]
  have key : ∀ x : EReal, IntOp.andi (Ideal.cmp .ogt x (Ideal.ofBits FTy.f32 4286578688#32)) (Ideal.cmp .olt x (Ideal.ofBits FTy.f32 2139095040#32)) = 1#1 → x ≠ ⊥ ∧ x ≠ ⊤ := by
    intro x hx
    rw [neg_inf_bits, top] at hx
    constructor
    · rintro rfl; simp [Ideal.cmp, IntOp.andi] at hx
    · rintro rfl; simp [Ideal.cmp, IntOp.andi] at hx
  exact key _ h

theorem algebraic [Cert.Pre_finite_logits.Facts] : Cert.algebraic_Kernel2Ideal_Reference2Ideal_pre_finite_logits := by
  pair_intro
  · run_from Cert.Kernel2Ideal.Gen.run_main m g
  · refine (θ_run _ _ _).mono (fun r h c => ?_) (Cert.Reference2Ideal.Value.run m' g')
    obtain ⟨h0, h1⟩ := h c
    refine ⟨h0.trans ?_, h1⟩
    obtain ⟨a0, a1, a2, a3, a4, a5, a6⟩ := hagree c
    refine Eq.trans ?_ (final m c (finite_of_pre _ _ _ _ _ _ _ (hpre c))).symm
    show REF (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) = _
    rw [a0, a1, a2, a3, a4, a5, a6]

end Cert.Proof.Moe

end
-- ==== Proof.FfnValue.lean ====
module

public import proofs.«01_k».proof.Proof.Gen.Kernel3Ideal.Value
public import proofs.«01_k».proof.Proof.FfnRef
public import Idealize.ShloMosaic.Lib.Pipeline.ValueKit
public import Idealize.ShloMosaic.Lib.IdealHost

@[expose] public section

set_option maxRecDepth 16384

noncomputable section

namespace Cert.Proof.Ffn

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

theorem pay3_at (v0 : FVec Ideal S256x1024 .bf16) (v2 : FVec Ideal S1024x1408 .bf16) (v5 : FVec Ideal S1024x1408 .bf16) (v12 : FVec Ideal S1408x1024 .bf16) (v15 : FVec Ideal S1024x1408 .bf16) (v18 : FVec Ideal S1024x1408 .bf16) (v25 : FVec Ideal S1408x1024 .bf16)
    (g : Fin 32) (s : Fin 8) (d : Fin 1024) (hr : g.val * 8 + s.val < 256) :
    (k0_pay3 (F := Ideal) v0 v2 v5 v12 v15 v18 v25 (ix3 g s d) : EReal) =
      (∑ k : Fin 1408, unit (fun j => v0 (ix2 ⟨g.val * 8 + s.val, hr⟩ j)) (fun j k => v2 (ix2 j k)) (fun j k => v5 (ix2 j k)) k * v12 (ix2 k d))
      + ∑ k : Fin 1408, unit (fun j => v0 (ix2 ⟨g.val * 8 + s.val, hr⟩ j)) (fun j k => v15 (ix2 j k)) (fun j k => v18 (ix2 j k)) k * v25 (ix2 k d) := by
  pointwise [k0_pay3]
  rfl

/-- A sum over the hidden units is the sum over its two halves. -/
theorem sum_halves (f : Fin 2816 → EReal) (a b : Fin 1408 → EReal)
    (ha : ∀ k : Fin 1408, a k = f ⟨k.val, by omega⟩) (hb : ∀ k : Fin 1408, b k = f ⟨1408 + k.val, by omega⟩) :
    (∑ k, a k) + ∑ k, b k = ∑ k, f k := by
  rw [show (∑ k, f k) = ∑ k : Fin (1408 + 1408), f k from rfl, Fin.sum_univ_add]
  congr 1
  · exact Finset.sum_congr rfl fun k _ => ha k
  · exact Finset.sum_congr rfl fun k _ => hb k

theorem V6 (c : Dev nD) (g : Fin 192) (d : Fin 1024) (n : Fin 130) (hn : n.val = if g.val < 64 then g.val / 32 else 2 + (g.val - 64)) :
    (V m c main_v6 : FVec Ideal S192x1x1024 .f32) (ix3 g 0 d) = (m (c, Proc.tc.devRef main_arg2) : FVec Ideal S130x1024 .f32) (ix2 n d) := by
  have key : ∀ X : FVec Ideal S130x1024 .f32, ((if h : g.val < 64 then X (ix2 ⟨g.val / 32, by omega⟩ d) else X (ix2 ⟨2 + (g.val - 64), by omega⟩ d)) : EReal) = X (ix2 n d) := by
    intro X
    split
    · rename_i h
      exact congrArg (fun n => X (ix2 n d)) (Fin.ext (by rw [hn, if_pos h]))
    · rename_i h
      exact congrArg (fun n => X (ix2 n d)) (Fin.ext (by rw [hn, if_neg h]))
  entry_read
  pointwise
  exact key _

theorem idx : ∀ t : Fin cfg0.N, win0_0.index t = ![t.val, 0, 0] ∧ win0_1.index t = ![t.val, 0] ∧
    win0_2.index t = ![if t.val < 64 then t.val / 32 else t.val - 62, 0, 0] ∧ win0_3.index t = ![0, 0] ∧ win0_4.index t = ![0, 0] ∧
    win0_5.index t = ![0, 0] ∧ win0_6.index t = ![t.val, 0, 0] ∧ t.val < 68 :=
  (by decide +kernel : ∀ t : Fin grid0.N, _)

theorem blk0 (c : Dev nD) (t : Fin cfg0.N) (g : Fin 32) (s : Fin 8) (d : Fin 1024) (G : Fin 2176) (hG : G.val = t.val * 32 + g.val) :
    (iblk m c 0 t : FVec Ideal S32x8x1024 .f32) (ix3 g s d) = (m ((c : Thread nD τ).loc main_arg0) : FVec Ideal S2176x8x1024 .f32) (ix3 G s d) := by
  blk_ext [iblk, V, idx t]

theorem blk1 (c : Dev nD) (t : Fin cfg0.N) (r : Fin 256) (j : Fin 1024) (R : Fin 17408) (hR : R.val = t.val * 256 + r.val) :
    (iblk m c 1 t : FVec Ideal S256x1024 .bf16) (ix2 r j) = (m ((c : Thread nD τ).loc main_arg1) : FVec Ideal S17408x1024 .f32) (ix2 R j) := by
  have e : (iblk m c 1 t : FVec Ideal S256x1024 .bf16) (ix2 r j) = (V m c main_v0 : FVec Ideal S17408x1024 .bf16) (ix2 R j) := by
    blk_ext [iblk, idx t]
  rw [e]; entry_read; pointwise

theorem blk3 (c : Dev nD) (t : Fin cfg0.N) (i : Fin 1024) (k : Fin 2816) :
    (iblk m c 3 t : FVec Ideal S1024x2816 .bf16) (ix2 i k) = (m ((c : Thread nD τ).loc main_arg3) : FVec Ideal S1024x2816 .f32) (ix2 i k) := by
  have e : (iblk m c 3 t : FVec Ideal S1024x2816 .bf16) (ix2 i k) = (V m c main_v7 : FVec Ideal S1024x2816 .bf16) (ix2 i k) := by
    blk_ext [iblk, idx t]
  rw [e]; entry_read; pointwise

theorem blk4 (c : Dev nD) (t : Fin cfg0.N) (i : Fin 1024) (k : Fin 2816) :
    (iblk m c 4 t : FVec Ideal S1024x2816 .bf16) (ix2 i k) = (m ((c : Thread nD τ).loc main_arg4) : FVec Ideal S1024x2816 .f32) (ix2 i k) := by
  have e : (iblk m c 4 t : FVec Ideal S1024x2816 .bf16) (ix2 i k) = (V m c main_v8 : FVec Ideal S1024x2816 .bf16) (ix2 i k) := by
    blk_ext [iblk, idx t]
  rw [e]; entry_read; pointwise

theorem blk5 (c : Dev nD) (t : Fin cfg0.N) (i : Fin 2816) (k : Fin 1024) :
    (iblk m c 5 t : FVec Ideal S2816x1024 .bf16) (ix2 i k) = (m ((c : Thread nD τ).loc main_arg5) : FVec Ideal S2816x1024 .f32) (ix2 i k) := by
  have e : (iblk m c 5 t : FVec Ideal S2816x1024 .bf16) (ix2 i k) = (V m c main_v9 : FVec Ideal S2816x1024 .bf16) (ix2 i k) := by
    blk_ext [iblk, idx t]
  rw [e]; entry_read; pointwise

theorem blk2 (c : Dev nD) (t : Fin cfg0.N) (g : Fin 32) (d : Fin 1024) (n : Fin 130) (hn : n.val = if t.val < 64 then t.val / 32 else 2 + (t.val * 32 + g.val - 2048)) :
    (iblk m c 2 t : FVec Ideal S32x1x1024 .f32) (ix3 g 0 d) = (m (c, Proc.tc.devRef main_arg2) : FVec Ideal S130x1024 .f32) (ix2 n d) := by
  have ht := (idx t).2.2.2.2.2.2.2
  have hg := g.isLt
  have e : (iblk m c 2 t : FVec Ideal S32x1x1024 .f32) (ix3 g 0 d) = (V m c main_v6 : FVec Ideal S192x1x1024 .f32) (ix3 ⟨if t.val < 64 then t.val / 32 * 32 + g.val else (t.val - 62) * 32 + g.val, by split <;> omega⟩ 0 d) := by
    blk_ext [iblk, idx t]
    split <;> omega
  rw [e]
  refine V6 m c _ d n ?_
  rw [hn]
  dsimp only
  split <;> split <;> omega

/-- The columns (rows, for the third) that a half of the weights is loaded from. -/
theorem ld_left (B : FVec Ideal S1024x2816 .bf16) (j : Fin 1024) (k : Fin 1408) :
    (View.ld (Val := Elt Ideal) (e' := .bf16) B r0_1 (ix2 j k) : EReal) = B (ix2 j ⟨k.val, by omega⟩) := by
  pointwise
theorem ld_right (B : FVec Ideal S1024x2816 .bf16) (j : Fin 1024) (k : Fin 1408) :
    (View.ld (Val := Elt Ideal) (e' := .bf16) B r0_3 (ix2 j k) : EReal) = B (ix2 j ⟨1408 + k.val, by omega⟩) := by
  pointwise
theorem ld_top (B : FVec Ideal S2816x1024 .bf16) (k : Fin 1408) (d : Fin 1024) :
    (View.ld (Val := Elt Ideal) (e' := .bf16) B r0_2 (ix2 k d) : EReal) = B (ix2 ⟨k.val, by omega⟩ d) := by
  pointwise
theorem ld_bottom (B : FVec Ideal S2816x1024 .bf16) (k : Fin 1408) (d : Fin 1024) :
    (View.ld (Val := Elt Ideal) (e' := .bf16) B r0_4 (ix2 k d) : EReal) = B (ix2 ⟨1408 + k.val, by omega⟩ d) := by
  pointwise

theorem pay1_at (v29 : FVec Ideal S32x8x1024 .f32) (v30 : FVec Ideal S32x1x1024 .f32) (v32 : FVec Ideal S32x8x1024 .f32)
    (g : Fin 32) (s : Fin 8) (d : Fin 1024) :
    (k0_pay1 v29 (k0_pay2 v30) v32 (ix3 g s d) : EReal) = v29 (ix3 g s d) + v30 (ix3 g 0 d) * v32 (ix3 g s d) := by
  pointwise [k0_pay1, k0_pay2]

/-- A unit depends on its row and its column of the weights only. -/
theorem unit_congr {n n' : Nat} {h h' : Fin 1024 → EReal} {wg wu : Fin 1024 → Fin n → EReal} {wg' wu' : Fin 1024 → Fin n' → EReal}
    {k : Fin n} {k' : Fin n'} (e : ∀ j, h j = h' j) (eg : ∀ j, wg j k = wg' j k') (eu : ∀ j, wu j k = wu' j k') :
    unit h wg wu k = unit h' wg' wu' k' := by
  simp only [unit, e, eg, eu]

/-- What a point stores at an index, over blocks that are known at an index. -/
theorem point (X0 : FVec Ideal S2176x8x1024 .f32) (X1 : FVec Ideal S17408x1024 .f32) (X2 : FVec Ideal S130x1024 .f32)
    (X3 X4 : FVec Ideal S1024x2816 .f32) (X5 : FVec Ideal S2816x1024 .f32)
    (B0 : FVec Ideal S32x8x1024 .f32) (B1 : FVec Ideal S256x1024 .bf16) (B2 : FVec Ideal S32x1x1024 .f32)
    (B3 B4 : FVec Ideal S1024x2816 .bf16) (B5 : FVec Ideal S2816x1024 .bf16) (t : Nat)
    (g : Fin 32) (s : Fin 8) (d : Fin 1024) (G : Fin 2176) (hG : G.val = t * 32 + g.val)
    (h0 : B0 (ix3 g s d) = X0 (ix3 G s d))
    (h1 : ∀ (r : Fin 256) (R : Fin 17408) (j : Fin 1024), R.val = t * 256 + r.val → B1 (ix2 r j) = X1 (ix2 R j))
    (h2 : ∀ n : Fin 130, n.val = grow (G.val * 8 + s.val) → B2 (ix3 g 0 d) = X2 (ix2 n d))
    (h3 : ∀ j k, B3 (ix2 j k) = X3 (ix2 j k)) (h4 : ∀ j k, B4 (ix2 j k) = X4 (ix2 j k)) (h5 : ∀ k d, B5 (ix2 k d) = X5 (ix2 k d)) :
    (k0_pay1 (F := Ideal) B0 (k0_pay2 B2) (k0_pay3 B1 (View.ld B3 r0_1) (View.ld B4 r0_1) (View.ld B5 r0_2)
        (View.ld B3 r0_3) (View.ld B4 r0_3) (View.ld B5 r0_4)) (ix3 g s d) : EReal) = REF X0 X1 X2 X3 X4 X5 (ix3 G s d) := by
  have hr : g.val * 8 + s.val < 256 := by omega
  have hR : G.val * 8 + s.val < 17408 := by omega
  rw [pay1_at, ref_at X0 X1 X2 X3 X4 X5 G s d hR, h0, h2 ⟨_, grow_lt hR⟩ rfl, pay3_at _ _ _ _ _ _ _ g s d hr]
  congr 2
  refine sum_halves _ _ _ (fun k => ?_) (fun k => ?_)
  · rw [ld_top, h5]
    refine congrArg (· * _) (unit_congr (fun j => h1 _ _ j (by dsimp only; omega)) (fun j => ?_) (fun j => ?_))
    · rw [ld_left, h3]
    · rw [ld_left, h4]
  · rw [ld_bottom, h5]
    refine congrArg (· * _) (unit_congr (fun j => h1 _ _ j (by dsimp only; omega)) (fun j => ?_) (fun j => ?_))
    · rw [ld_right, h3]
    · rw [ld_right, h4]

set_option maxHeartbeats 1600000 in
theorem final (c : Dev nD) : (dats m 0 c).arrAt 6 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]; frame_out
  have ht := (idx t).2.2.2.2.2.2.2
  obtain ⟨g, s, d, rfl⟩ : ∃ (g : Fin 32) (s : Fin 8) (d : Fin 1024), y = ix3 g s d := ⟨y 0, y 1, y 2, eq_ix3 y⟩
  have he : ((View.whole main_v10).slice (win0_6.rect t)).emb (ix3 g s d) = (ix3 (⟨t.val * 32 + g.val, by omega⟩ : Fin 2176) s d : S2176x8x1024.Idx) := by
    blk_ext [idx t]
  rw [he]
  refine point _ _ _ _ _ _ _ _ _ _ _ _ t.val g s d _ rfl (blk0 m c t g s d _ rfl) (fun r R j h => blk1 m c t r j R h) (fun n hn => blk2 m c t g d n ?_)
    (fun j k => blk3 m c t j k) (fun j k => blk4 m c t j k) (fun j k => blk5 m c t j k)
  rw [hn]; unfold grow; dsimp only
  split <;> split <;> omega

end Cert.Proof.Ffn

end
-- ==== Proof.FfnClaims.lean ====
module

public import proofs.«01_k».proof.Defs
public import proofs.«01_k».proof.Proof.FfnValue
public import proofs.«01_k».proof.Proof.Gen.Kernel3.Frame
public import Idealize.ShloMosaic.Lib.Claim

@[expose] public section

set_option maxRecDepth 16384

noncomputable section

namespace Cert.Proof.Ffn

open Idealize.ShloMosaic Idealize.ShloMosaic.TcCoe Idealize.SL.Sem

theorem frame_kernel : Cert.quiescent_Kernel3 := fun m ρ _ => Cert.Kernel3.Gen.frame m ρ

theorem frame_ideal : Cert.quiescent_Kernel3Ideal := fun m ρ _ => Cert.Kernel3Ideal.Gen.frame m ρ

theorem frame_reference : Cert.quiescent_Reference3Ideal := by
  intro m g _
  refine (θ_run _ _ _).mono (fun r h => ?_) (Cert.Reference3Ideal.Value.run m g)
  exact ⟨fun c => (h c).2, sem_eq_zero_of_no_sems (by decide) r.2⟩

theorem algebraic : Cert.algebraic_Kernel3Ideal_Reference3Ideal := by
  pair_intro
  · run_from Cert.Kernel3Ideal.Gen.run_main m g
  · refine (θ_run _ _ _).mono (fun r h c => ?_) (Cert.Reference3Ideal.Value.run m' g')
    obtain ⟨h0, h1⟩ := h c
    refine ⟨h0.trans ?_, h1⟩
    obtain ⟨a0, a1, a2, a3, a4, a5⟩ := hagree c
    refine Eq.trans ?_ (final m c).symm
    show REF (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) = _
    rw [a0, a1, a2, a3, a4, a5]

end Cert.Proof.Ffn

end
-- ==== Proof.lean ====
module

public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Reference4Ideal.Run
public import proofs.«01_k».proof.Proof.Gen.Kernel5
public import proofs.«01_k».proof.Proof.Gen.Kernel5Ideal
public import proofs.«01_k».proof.Proof.Gen.Reference5Ideal.Run
public import proofs.«01_k».proof.Defs
public import proofs.«01_k».proof.Proof.InpClaims
public import proofs.«01_k».proof.Proof.IdxClaims
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.DsaFrame
public import proofs.«01_k».proof.Proof.Gen.Kernel2Ideal.Value
public import proofs.«01_k».proof.Proof.Gen.Kernel3Ideal.Value
public import proofs.«01_k».proof.Proof.Gen.Reference2Ideal.Run
public import proofs.«01_k».proof.Proof.Gen.Reference3Ideal.Run
public import proofs.«01_k».proof.Proof.MoeClaims
public import proofs.«01_k».proof.Proof.FfnClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Moe.pre_facts, Inp.pre_facts5,
  fun m ρ _ => Cert.Proof.Dsa.frame m ρ,
  Moe.frame_kernel, Moe.frame_ideal, @Moe.frame_ideal_pre Moe.pre_facts, Moe.frame_reference, @Moe.frame_reference_pre Moe.pre_facts,
  Ffn.frame_kernel, Ffn.frame_ideal, Ffn.frame_reference,
  Inp.frame_kernel, Inp.frame_ideal, Inp.frame_reference,
  Inp.Bits.frame_same, Inp.frame_same, @Inp.frame_ideal5_pre Inp.pre_facts5, Inp.frame_reference5, @Inp.frame_reference5_pre Inp.pre_facts5,
  trivial, @Moe.algebraic Moe.pre_facts, trivial, Ffn.algebraic, trivial, Inp.algebraic,
  trivial, @Inp.algebraic5 Inp.pre_facts5⟩

end Cert.Proof

end
